-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_scores_finite [hPre_scores_finite : Cert.Pre_scores_finite.Facts] (m : (ℓ : Loc Cert.FoxIdeal.nD Cert.FoxIdeal.τ Cert.FoxIdeal.sig) → Buf (Elt Ideal) ℓ) : Prop :=
  ∀ c : Dev Cert.FoxIdeal.nD,
    (Cert.Pre_scores_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).1 = (fun _ => 1#1)
    ∧ (Cert.Pre_scores_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.1 = (fun _ => 1#1)
    ∧ (Cert.Pre_scores_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_scores_finite [hPre_scores_finite : Cert.Pre_scores_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_scores_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_scores_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.1 = (fun _ => 1#1)
    ∧ (Cert.Pre_scores_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2 = (fun _ => 1#1)

def Pre_Cums (m : (ℓ : Loc Cert.Cums.nD Cert.Cums.τ Cert.Cums.sig) → Buf (Elt Bits) ℓ) : Prop :=
  True

def Pre_CumsIdeal (m : (ℓ : Loc Cert.CumsIdeal.nD Cert.CumsIdeal.τ Cert.CumsIdeal.sig) → Buf (Elt Ideal) ℓ) : Prop :=
  True

def Pre_CumsRefIdeal (m : (ℓ : Loc Cert.CumsRefIdeal.nD Cert.CumsRefIdeal.τ Cert.CumsRefIdeal.sig) → Buf (Elt Ideal) ℓ) : Prop :=
  True

def Pre_ProjE (m : (ℓ : Loc Cert.ProjE.nD Cert.ProjE.τ Cert.ProjE.sig) → Buf (Elt Bits) ℓ) : Prop :=
  True

def Pre_ProjEIdeal (m : (ℓ : Loc Cert.ProjEIdeal.nD Cert.ProjEIdeal.τ Cert.ProjEIdeal.sig) → Buf (Elt Ideal) ℓ) : Prop :=
  True

def Pre_ProjEIdeal_split_finite [hPre_split_finite : Cert.Pre_split_finite.Facts] (m : (ℓ : Loc Cert.ProjEIdeal.nD Cert.ProjEIdeal.τ Cert.ProjEIdeal.sig) → Buf (Elt Ideal) ℓ) : Prop :=
  ∀ c : Dev Cert.ProjEIdeal.nD,
    (Cert.Pre_split_finite.fn (F := Ideal) (m ((c.tc : Thread Cert.ProjEIdeal.nD Cert.ProjEIdeal.τ).loc Cert.ProjEIdeal.main_arg0)) (m ((c.tc : Thread Cert.ProjEIdeal.nD Cert.ProjEIdeal.τ).loc Cert.ProjEIdeal.main_arg1)) (m ((c.tc : Thread Cert.ProjEIdeal.nD Cert.ProjEIdeal.τ).loc Cert.ProjEIdeal.main_arg2)) (m ((c.tc : Thread Cert.ProjEIdeal.nD Cert.ProjEIdeal.τ).loc Cert.ProjEIdeal.main_arg3)) (m ((c.tc : Thread Cert.ProjEIdeal.nD Cert.ProjEIdeal.τ).loc Cert.ProjEIdeal.main_arg4))).1 = (fun _ => 1#1)
    ∧ (Cert.Pre_split_finite.fn (F := Ideal) (m ((c.tc : Thread Cert.ProjEIdeal.nD Cert.ProjEIdeal.τ).loc Cert.ProjEIdeal.main_arg0)) (m ((c.tc : Thread Cert.ProjEIdeal.nD Cert.ProjEIdeal.τ).loc Cert.ProjEIdeal.main_arg1)) (m ((c.tc : Thread Cert.ProjEIdeal.nD Cert.ProjEIdeal.τ).loc Cert.ProjEIdeal.main_arg2)) (m ((c.tc : Thread Cert.ProjEIdeal.nD Cert.ProjEIdeal.τ).loc Cert.ProjEIdeal.main_arg3)) (m ((c.tc : Thread Cert.ProjEIdeal.nD Cert.ProjEIdeal.τ).loc Cert.ProjEIdeal.main_arg4))).2.1 = (fun _ => 1#1)
    ∧ (Cert.Pre_split_finite.fn (F := Ideal) (m ((c.tc : Thread Cert.ProjEIdeal.nD Cert.ProjEIdeal.τ).loc Cert.ProjEIdeal.main_arg0)) (m ((c.tc : Thread Cert.ProjEIdeal.nD Cert.ProjEIdeal.τ).loc Cert.ProjEIdeal.main_arg1)) (m ((c.tc : Thread Cert.ProjEIdeal.nD Cert.ProjEIdeal.τ).loc Cert.ProjEIdeal.main_arg2)) (m ((c.tc : Thread Cert.ProjEIdeal.nD Cert.ProjEIdeal.τ).loc Cert.ProjEIdeal.main_arg3)) (m ((c.tc : Thread Cert.ProjEIdeal.nD Cert.ProjEIdeal.τ).loc Cert.ProjEIdeal.main_arg4))).2.2 = (fun _ => 1#1)

def Pre_ProjERefIdeal (m : (ℓ : Loc Cert.ProjERefIdeal.nD Cert.ProjERefIdeal.τ Cert.ProjERefIdeal.sig) → Buf (Elt Ideal) ℓ) : Prop :=
  True

def Pre_ProjERefIdeal_split_finite [hPre_split_finite : Cert.Pre_split_finite.Facts] (m : (ℓ : Loc Cert.ProjERefIdeal.nD Cert.ProjERefIdeal.τ Cert.ProjERefIdeal.sig) → Buf (Elt Ideal) ℓ) : Prop :=
  ∀ c : Dev Cert.ProjERefIdeal.nD,
    (Cert.Pre_split_finite.fn (F := Ideal) (m ((c.tc : Thread Cert.ProjERefIdeal.nD Cert.ProjERefIdeal.τ).loc Cert.ProjERefIdeal.main_arg0)) (m ((c.tc : Thread Cert.ProjERefIdeal.nD Cert.ProjERefIdeal.τ).loc Cert.ProjERefIdeal.main_arg1)) (m ((c.tc : Thread Cert.ProjERefIdeal.nD Cert.ProjERefIdeal.τ).loc Cert.ProjERefIdeal.main_arg2)) (m ((c.tc : Thread Cert.ProjERefIdeal.nD Cert.ProjERefIdeal.τ).loc Cert.ProjERefIdeal.main_arg3)) (m ((c.tc : Thread Cert.ProjERefIdeal.nD Cert.ProjERefIdeal.τ).loc Cert.ProjERefIdeal.main_arg4))).1 = (fun _ => 1#1)
    ∧ (Cert.Pre_split_finite.fn (F := Ideal) (m ((c.tc : Thread Cert.ProjERefIdeal.nD Cert.ProjERefIdeal.τ).loc Cert.ProjERefIdeal.main_arg0)) (m ((c.tc : Thread Cert.ProjERefIdeal.nD Cert.ProjERefIdeal.τ).loc Cert.ProjERefIdeal.main_arg1)) (m ((c.tc : Thread Cert.ProjERefIdeal.nD Cert.ProjERefIdeal.τ).loc Cert.ProjERefIdeal.main_arg2)) (m ((c.tc : Thread Cert.ProjERefIdeal.nD Cert.ProjERefIdeal.τ).loc Cert.ProjERefIdeal.main_arg3)) (m ((c.tc : Thread Cert.ProjERefIdeal.nD Cert.ProjERefIdeal.τ).loc Cert.ProjERefIdeal.main_arg4))).2.1 = (fun _ => 1#1)
    ∧ (Cert.Pre_split_finite.fn (F := Ideal) (m ((c.tc : Thread Cert.ProjERefIdeal.nD Cert.ProjERefIdeal.τ).loc Cert.ProjERefIdeal.main_arg0)) (m ((c.tc : Thread Cert.ProjERefIdeal.nD Cert.ProjERefIdeal.τ).loc Cert.ProjERefIdeal.main_arg1)) (m ((c.tc : Thread Cert.ProjERefIdeal.nD Cert.ProjERefIdeal.τ).loc Cert.ProjERefIdeal.main_arg2)) (m ((c.tc : Thread Cert.ProjERefIdeal.nD Cert.ProjERefIdeal.τ).loc Cert.ProjERefIdeal.main_arg3)) (m ((c.tc : Thread Cert.ProjERefIdeal.nD Cert.ProjERefIdeal.τ).loc Cert.ProjERefIdeal.main_arg4))).2.2 = (fun _ => 1#1)

def Pre_ProjES (m : (ℓ : Loc Cert.ProjES.nD Cert.ProjES.τ Cert.ProjES.sig) → Buf (Elt Bits) ℓ) : Prop :=
  True

def Pre_ProjESIdeal (m : (ℓ : Loc Cert.ProjESIdeal.nD Cert.ProjESIdeal.τ Cert.ProjESIdeal.sig) → Buf (Elt Ideal) ℓ) : Prop :=
  True

def Pre_ProjESIdeal_sample_split_finite [hPre_sample_split_finite : Cert.Pre_sample_split_finite.Facts] (m : (ℓ : Loc Cert.ProjESIdeal.nD Cert.ProjESIdeal.τ Cert.ProjESIdeal.sig) → Buf (Elt Ideal) ℓ) : Prop :=
  ∀ c : Dev Cert.ProjESIdeal.nD,
    (Cert.Pre_sample_split_finite.fn (F := Ideal) (m ((c.tc : Thread Cert.ProjESIdeal.nD Cert.ProjESIdeal.τ).loc Cert.ProjESIdeal.main_arg0)) (m ((c.tc : Thread Cert.ProjESIdeal.nD Cert.ProjESIdeal.τ).loc Cert.ProjESIdeal.main_arg1)) (m ((c.tc : Thread Cert.ProjESIdeal.nD Cert.ProjESIdeal.τ).loc Cert.ProjESIdeal.main_arg2)) (m ((c.tc : Thread Cert.ProjESIdeal.nD Cert.ProjESIdeal.τ).loc Cert.ProjESIdeal.main_arg3)) (m ((c.tc : Thread Cert.ProjESIdeal.nD Cert.ProjESIdeal.τ).loc Cert.ProjESIdeal.main_arg4))).1 = (fun _ => 1#1)
    ∧ (Cert.Pre_sample_split_finite.fn (F := Ideal) (m ((c.tc : Thread Cert.ProjESIdeal.nD Cert.ProjESIdeal.τ).loc Cert.ProjESIdeal.main_arg0)) (m ((c.tc : Thread Cert.ProjESIdeal.nD Cert.ProjESIdeal.τ).loc Cert.ProjESIdeal.main_arg1)) (m ((c.tc : Thread Cert.ProjESIdeal.nD Cert.ProjESIdeal.τ).loc Cert.ProjESIdeal.main_arg2)) (m ((c.tc : Thread Cert.ProjESIdeal.nD Cert.ProjESIdeal.τ).loc Cert.ProjESIdeal.main_arg3)) (m ((c.tc : Thread Cert.ProjESIdeal.nD Cert.ProjESIdeal.τ).loc Cert.ProjESIdeal.main_arg4))).2.1 = (fun _ => 1#1)
    ∧ (Cert.Pre_sample_split_finite.fn (F := Ideal) (m ((c.tc : Thread Cert.ProjESIdeal.nD Cert.ProjESIdeal.τ).loc Cert.ProjESIdeal.main_arg0)) (m ((c.tc : Thread Cert.ProjESIdeal.nD Cert.ProjESIdeal.τ).loc Cert.ProjESIdeal.main_arg1)) (m ((c.tc : Thread Cert.ProjESIdeal.nD Cert.ProjESIdeal.τ).loc Cert.ProjESIdeal.main_arg2)) (m ((c.tc : Thread Cert.ProjESIdeal.nD Cert.ProjESIdeal.τ).loc Cert.ProjESIdeal.main_arg3)) (m ((c.tc : Thread Cert.ProjESIdeal.nD Cert.ProjESIdeal.τ).loc Cert.ProjESIdeal.main_arg4))).2.2 = (fun _ => 1#1)

def Pre_ProjESRefIdeal (m : (ℓ : Loc Cert.ProjESRefIdeal.nD Cert.ProjESRefIdeal.τ Cert.ProjESRefIdeal.sig) → Buf (Elt Ideal) ℓ) : Prop :=
  True

def Pre_ProjESRefIdeal_sample_split_finite [hPre_sample_split_finite : Cert.Pre_sample_split_finite.Facts] (m : (ℓ : Loc Cert.ProjESRefIdeal.nD Cert.ProjESRefIdeal.τ Cert.ProjESRefIdeal.sig) → Buf (Elt Ideal) ℓ) : Prop :=
  ∀ c : Dev Cert.ProjESRefIdeal.nD,
    (Cert.Pre_sample_split_finite.fn (F := Ideal) (m ((c.tc : Thread Cert.ProjESRefIdeal.nD Cert.ProjESRefIdeal.τ).loc Cert.ProjESRefIdeal.main_arg0)) (m ((c.tc : Thread Cert.ProjESRefIdeal.nD Cert.ProjESRefIdeal.τ).loc Cert.ProjESRefIdeal.main_arg1)) (m ((c.tc : Thread Cert.ProjESRefIdeal.nD Cert.ProjESRefIdeal.τ).loc Cert.ProjESRefIdeal.main_arg2)) (m ((c.tc : Thread Cert.ProjESRefIdeal.nD Cert.ProjESRefIdeal.τ).loc Cert.ProjESRefIdeal.main_arg3)) (m ((c.tc : Thread Cert.ProjESRefIdeal.nD Cert.ProjESRefIdeal.τ).loc Cert.ProjESRefIdeal.main_arg4))).1 = (fun _ => 1#1)
    ∧ (Cert.Pre_sample_split_finite.fn (F := Ideal) (m ((c.tc : Thread Cert.ProjESRefIdeal.nD Cert.ProjESRefIdeal.τ).loc Cert.ProjESRefIdeal.main_arg0)) (m ((c.tc : Thread Cert.ProjESRefIdeal.nD Cert.ProjESRefIdeal.τ).loc Cert.ProjESRefIdeal.main_arg1)) (m ((c.tc : Thread Cert.ProjESRefIdeal.nD Cert.ProjESRefIdeal.τ).loc Cert.ProjESRefIdeal.main_arg2)) (m ((c.tc : Thread Cert.ProjESRefIdeal.nD Cert.ProjESRefIdeal.τ).loc Cert.ProjESRefIdeal.main_arg3)) (m ((c.tc : Thread Cert.ProjESRefIdeal.nD Cert.ProjESRefIdeal.τ).loc Cert.ProjESRefIdeal.main_arg4))).2.1 = (fun _ => 1#1)
    ∧ (Cert.Pre_sample_split_finite.fn (F := Ideal) (m ((c.tc : Thread Cert.ProjESRefIdeal.nD Cert.ProjESRefIdeal.τ).loc Cert.ProjESRefIdeal.main_arg0)) (m ((c.tc : Thread Cert.ProjESRefIdeal.nD Cert.ProjESRefIdeal.τ).loc Cert.ProjESRefIdeal.main_arg1)) (m ((c.tc : Thread Cert.ProjESRefIdeal.nD Cert.ProjESRefIdeal.τ).loc Cert.ProjESRefIdeal.main_arg2)) (m ((c.tc : Thread Cert.ProjESRefIdeal.nD Cert.ProjESRefIdeal.τ).loc Cert.ProjESRefIdeal.main_arg3)) (m ((c.tc : Thread Cert.ProjESRefIdeal.nD Cert.ProjESRefIdeal.τ).loc Cert.ProjESRefIdeal.main_arg4))).2.2 = (fun _ => 1#1)

def Pre_ProjO (m : (ℓ : Loc Cert.ProjO.nD Cert.ProjO.τ Cert.ProjO.sig) → Buf (Elt Bits) ℓ) : Prop :=
  True

def Pre_ProjOIdeal (m : (ℓ : Loc Cert.ProjOIdeal.nD Cert.ProjOIdeal.τ Cert.ProjOIdeal.sig) → Buf (Elt Ideal) ℓ) : Prop :=
  True

def Pre_ProjORefIdeal (m : (ℓ : Loc Cert.ProjORefIdeal.nD Cert.ProjORefIdeal.τ Cert.ProjORefIdeal.sig) → Buf (Elt Ideal) ℓ) : Prop :=
  True

def Pre_OutE (m : (ℓ : Loc Cert.OutE.nD Cert.OutE.τ Cert.OutE.sig) → Buf (Elt Bits) ℓ) : Prop :=
  True

def Pre_OutEIdeal (m : (ℓ : Loc Cert.OutEIdeal.nD Cert.OutEIdeal.τ Cert.OutEIdeal.sig) → Buf (Elt Ideal) ℓ) : Prop :=
  True

def Pre_OutERefIdeal (m : (ℓ : Loc Cert.OutERefIdeal.nD Cert.OutERefIdeal.τ Cert.OutERefIdeal.sig) → Buf (Elt Ideal) ℓ) : Prop :=
  True

def Pre_OutO (m : (ℓ : Loc Cert.OutO.nD Cert.OutO.τ Cert.OutO.sig) → Buf (Elt Bits) ℓ) : Prop :=
  True

def Pre_OutOIdeal (m : (ℓ : Loc Cert.OutOIdeal.nD Cert.OutOIdeal.τ Cert.OutOIdeal.sig) → Buf (Elt Ideal) ℓ) : Prop :=
  True

def Pre_OutORefIdeal (m : (ℓ : Loc Cert.OutORefIdeal.nD Cert.OutORefIdeal.τ Cert.OutORefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjOS (m : (ℓ : Loc Cert.ProjOS.nD Cert.ProjOS.τ Cert.ProjOS.sig) → Buf (Elt Bits) ℓ) : Prop :=
  True

def Pre_ProjOSIdeal (m : (ℓ : Loc Cert.ProjOSIdeal.nD Cert.ProjOSIdeal.τ Cert.ProjOSIdeal.sig) → Buf (Elt Ideal) ℓ) : Prop :=
  True

def Pre_ProjOSRefIdeal (m : (ℓ : Loc Cert.ProjOSRefIdeal.nD Cert.ProjOSRefIdeal.τ Cert.ProjOSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_scores_finite [hFoxIdeal : Cert.FoxIdeal.Facts] [hPre_scores_finite : Cert.Pre_scores_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_scores_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_scores_finite [hFoxRefIdeal : Cert.FoxRefIdeal.Facts] [hPre_scores_finite : Cert.Pre_scores_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_scores_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Cums [hCums : Cert.Cums.Facts] : Prop :=
  ∀ (m : (ℓ : Loc Cert.Cums.nD Cert.Cums.τ Cert.Cums.sig) → Buf (Elt Bits) ℓ) (g : Dev Cert.Cums.nD → PrngReg), Pre_Cums m →
    θ_run (Cert.Cums.defs (F := Bits)) (onTc (τ := Cert.Cums.τ) (Cert.Cums.main (F := Bits))) ⟨m, fun _ => 0, g⟩ (fun r => (∀ c : Dev Cert.Cums.nD,
      r.2.mem ((c.tc : Thread Cert.Cums.nD Cert.Cums.τ).loc Cert.Cums.main_arg0) = m ((c.tc : Thread Cert.Cums.nD Cert.Cums.τ).loc Cert.Cums.main_arg0))
      ∧ r.2.sem = fun _ => 0)

def quiescent_CumsIdeal [hCumsIdeal : Cert.CumsIdeal.Facts] : Prop :=
  ∀ (m : (ℓ : Loc Cert.CumsIdeal.nD Cert.CumsIdeal.τ Cert.CumsIdeal.sig) → Buf (Elt Ideal) ℓ) (g : Dev Cert.CumsIdeal.nD → PrngReg), Pre_CumsIdeal m →
    θ_run (Cert.CumsIdeal.defs (F := Ideal)) (onTc (τ := Cert.CumsIdeal.τ) (Cert.CumsIdeal.main (F := Ideal))) ⟨m, fun _ => 0, g⟩ (fun r => (∀ c : Dev Cert.CumsIdeal.nD,
      r.2.mem ((c.tc : Thread Cert.CumsIdeal.nD Cert.CumsIdeal.τ).loc Cert.CumsIdeal.main_arg0) = m ((c.tc : Thread Cert.CumsIdeal.nD Cert.CumsIdeal.τ).loc Cert.CumsIdeal.main_arg0))
      ∧ r.2.sem = fun _ => 0)

def quiescent_CumsRefIdeal [hCumsRefIdeal : Cert.CumsRefIdeal.Facts] : Prop :=
  ∀ (m : (ℓ : Loc Cert.CumsRefIdeal.nD Cert.CumsRefIdeal.τ Cert.CumsRefIdeal.sig) → Buf (Elt Ideal) ℓ) (g : Dev Cert.CumsRefIdeal.nD → PrngReg), Pre_CumsRefIdeal m →
    θ_run (Cert.CumsRefIdeal.defs (F := Ideal)) (onTc (τ := Cert.CumsRefIdeal.τ) (Cert.CumsRefIdeal.main (F := Ideal))) ⟨m, fun _ => 0, g⟩ (fun r => (∀ c : Dev Cert.CumsRefIdeal.nD,
      r.2.mem ((c.tc : Thread Cert.CumsRefIdeal.nD Cert.CumsRefIdeal.τ).loc Cert.CumsRefIdeal.main_arg0) = m ((c.tc : Thread Cert.CumsRefIdeal.nD Cert.CumsRefIdeal.τ).loc Cert.CumsRefIdeal.main_arg0))
      ∧ r.2.sem = fun _ => 0)

def quiescent_ProjE [hProjE : Cert.ProjE.Facts] : Prop :=
  ∀ (m : (ℓ : Loc Cert.ProjE.nD Cert.ProjE.τ Cert.ProjE.sig) → Buf (Elt Bits) ℓ) (g : Dev Cert.ProjE.nD → PrngReg), Pre_ProjE m →
    θ_run (Cert.ProjE.defs (F := Bits)) (onTc (τ := Cert.ProjE.τ) (Cert.ProjE.main (F := Bits))) ⟨m, fun _ => 0, g⟩ (fun r => (∀ c : Dev Cert.ProjE.nD,
      r.2.mem ((c.tc : Thread Cert.ProjE.nD Cert.ProjE.τ).loc Cert.ProjE.main_arg0) = m ((c.tc : Thread Cert.ProjE.nD Cert.ProjE.τ).loc Cert.ProjE.main_arg0)
      ∧ r.2.mem ((c.tc : Thread Cert.ProjE.nD Cert.ProjE.τ).loc Cert.ProjE.main_arg1) = m ((c.tc : Thread Cert.ProjE.nD Cert.ProjE.τ).loc Cert.ProjE.main_arg1)
      ∧ r.2.mem ((c.tc : Thread Cert.ProjE.nD Cert.ProjE.τ).loc Cert.ProjE.main_arg2) = m ((c.tc : Thread Cert.ProjE.nD Cert.ProjE.τ).loc Cert.ProjE.main_arg2)
      ∧ r.2.mem ((c.tc : Thread Cert.ProjE.nD Cert.ProjE.τ).loc Cert.ProjE.main_arg3) = m ((c.tc : Thread Cert.ProjE.nD Cert.ProjE.τ).loc Cert.ProjE.main_arg3)
      ∧ r.2.mem ((c.tc : Thread Cert.ProjE.nD Cert.ProjE.τ).loc Cert.ProjE.main_arg4) = m ((c.tc : Thread Cert.ProjE.nD Cert.ProjE.τ).loc Cert.ProjE.main_arg4))
      ∧ r.2.sem = fun _ => 0)

def quiescent_ProjEIdeal [hProjEIdeal : Cert.ProjEIdeal.Facts] : Prop :=
  ∀ (m : (ℓ : Loc Cert.ProjEIdeal.nD Cert.ProjEIdeal.τ Cert.ProjEIdeal.sig) → Buf (Elt Ideal) ℓ) (g : Dev Cert.ProjEIdeal.nD → PrngReg), Pre_ProjEIdeal m →
    θ_run (Cert.ProjEIdeal.defs (F := Ideal)) (onTc (τ := Cert.ProjEIdeal.τ) (Cert.ProjEIdeal.main (F := Ideal))) ⟨m, fun _ => 0, g⟩ (fun r => (∀ c : Dev Cert.ProjEIdeal.nD,
      r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
      ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1)
      ∧ r.2.mem ((c.tc : Thread Cert.ProjEIdeal.nD Cert.ProjEIdeal.τ).loc Cert.ProjEIdeal.main_arg2) = m ((c.tc : Thread Cert.ProjEIdeal.nD Cert.ProjEIdeal.τ).loc Cert.ProjEIdeal.main_arg2)
      ∧ r.2.mem ((c.tc : Thread Cert.ProjEIdeal.nD Cert.ProjEIdeal.τ).loc Cert.ProjEIdeal.main_arg3) = m ((c.tc : Thread Cert.ProjEIdeal.nD Cert.ProjEIdeal.τ).loc Cert.ProjEIdeal.main_arg3)
      ∧ r.2.mem ((c.tc : Thread Cert.ProjEIdeal.nD Cert.ProjEIdeal.τ).loc Cert.ProjEIdeal.main_arg4) = m ((c.tc : Thread Cert.ProjEIdeal.nD Cert.ProjEIdeal.τ).loc Cert.ProjEIdeal.main_arg4))
      ∧ r.2.sem = fun _ => 0)

def quiescent_ProjEIdeal_pre_split_finite [hProjEIdeal : Cert.ProjEIdeal.Facts] [hPre_split_finite : Cert.Pre_split_finite.Facts] : Prop :=
  ∀ (m : (ℓ : Loc Cert.ProjEIdeal.nD Cert.ProjEIdeal.τ Cert.ProjEIdeal.sig) → Buf (Elt Ideal) ℓ) (g : Dev Cert.ProjEIdeal.nD → PrngReg), Pre_ProjEIdeal_split_finite m →
    θ_run (Cert.ProjEIdeal.defs (F := Ideal)) (onTc (τ := Cert.ProjEIdeal.τ) (Cert.ProjEIdeal.main (F := Ideal))) ⟨m, fun _ => 0, g⟩ (fun r => (∀ c : Dev Cert.ProjEIdeal.nD,
      r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
      ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1)
      ∧ r.2.mem ((c.tc : Thread Cert.ProjEIdeal.nD Cert.ProjEIdeal.τ).loc Cert.ProjEIdeal.main_arg2) = m ((c.tc : Thread Cert.ProjEIdeal.nD Cert.ProjEIdeal.τ).loc Cert.ProjEIdeal.main_arg2)
      ∧ r.2.mem ((c.tc : Thread Cert.ProjEIdeal.nD Cert.ProjEIdeal.τ).loc Cert.ProjEIdeal.main_arg3) = m ((c.tc : Thread Cert.ProjEIdeal.nD Cert.ProjEIdeal.τ).loc Cert.ProjEIdeal.main_arg3)
      ∧ r.2.mem ((c.tc : Thread Cert.ProjEIdeal.nD Cert.ProjEIdeal.τ).loc Cert.ProjEIdeal.main_arg4) = m ((c.tc : Thread Cert.ProjEIdeal.nD Cert.ProjEIdeal.τ).loc Cert.ProjEIdeal.main_arg4))
      ∧ r.2.sem = fun _ => 0)

def quiescent_ProjERefIdeal [hProjERefIdeal : Cert.ProjERefIdeal.Facts] : Prop :=
  ∀ (m : (ℓ : Loc Cert.ProjERefIdeal.nD Cert.ProjERefIdeal.τ Cert.ProjERefIdeal.sig) → Buf (Elt Ideal) ℓ) (g : Dev Cert.ProjERefIdeal.nD → PrngReg), Pre_ProjERefIdeal m →
    θ_run (Cert.ProjERefIdeal.defs (F := Ideal)) (onTc (τ := Cert.ProjERefIdeal.τ) (Cert.ProjERefIdeal.main (F := Ideal))) ⟨m, fun _ => 0, g⟩ (fun r => (∀ c : Dev Cert.ProjERefIdeal.nD,
      r.2.mem ((c.tc : Thread Cert.ProjERefIdeal.nD Cert.ProjERefIdeal.τ).loc Cert.ProjERefIdeal.main_arg0) = m ((c.tc : Thread Cert.ProjERefIdeal.nD Cert.ProjERefIdeal.τ).loc Cert.ProjERefIdeal.main_arg0)
      ∧ r.2.mem ((c.tc : Thread Cert.ProjERefIdeal.nD Cert.ProjERefIdeal.τ).loc Cert.ProjERefIdeal.main_arg1) = m ((c.tc : Thread Cert.ProjERefIdeal.nD Cert.ProjERefIdeal.τ).loc Cert.ProjERefIdeal.main_arg1)
      ∧ r.2.mem ((c.tc : Thread Cert.ProjERefIdeal.nD Cert.ProjERefIdeal.τ).loc Cert.ProjERefIdeal.main_arg2) = m ((c.tc : Thread Cert.ProjERefIdeal.nD Cert.ProjERefIdeal.τ).loc Cert.ProjERefIdeal.main_arg2)
      ∧ r.2.mem ((c.tc : Thread Cert.ProjERefIdeal.nD Cert.ProjERefIdeal.τ).loc Cert.ProjERefIdeal.main_arg3) = m ((c.tc : Thread Cert.ProjERefIdeal.nD Cert.ProjERefIdeal.τ).loc Cert.ProjERefIdeal.main_arg3)
      ∧ r.2.mem ((c.tc : Thread Cert.ProjERefIdeal.nD Cert.ProjERefIdeal.τ).loc Cert.ProjERefIdeal.main_arg4) = m ((c.tc : Thread Cert.ProjERefIdeal.nD Cert.ProjERefIdeal.τ).loc Cert.ProjERefIdeal.main_arg4))
      ∧ r.2.sem = fun _ => 0)

def quiescent_ProjERefIdeal_pre_split_finite [hProjERefIdeal : Cert.ProjERefIdeal.Facts] [hPre_split_finite : Cert.Pre_split_finite.Facts] : Prop :=
  ∀ (m : (ℓ : Loc Cert.ProjERefIdeal.nD Cert.ProjERefIdeal.τ Cert.ProjERefIdeal.sig) → Buf (Elt Ideal) ℓ) (g : Dev Cert.ProjERefIdeal.nD → PrngReg), Pre_ProjERefIdeal_split_finite m →
    θ_run (Cert.ProjERefIdeal.defs (F := Ideal)) (onTc (τ := Cert.ProjERefIdeal.τ) (Cert.ProjERefIdeal.main (F := Ideal))) ⟨m, fun _ => 0, g⟩ (fun r => (∀ c : Dev Cert.ProjERefIdeal.nD,
      r.2.mem ((c.tc : Thread Cert.ProjERefIdeal.nD Cert.ProjERefIdeal.τ).loc Cert.ProjERefIdeal.main_arg0) = m ((c.tc : Thread Cert.ProjERefIdeal.nD Cert.ProjERefIdeal.τ).loc Cert.ProjERefIdeal.main_arg0)
      ∧ r.2.mem ((c.tc : Thread Cert.ProjERefIdeal.nD Cert.ProjERefIdeal.τ).loc Cert.ProjERefIdeal.main_arg1) = m ((c.tc : Thread Cert.ProjERefIdeal.nD Cert.ProjERefIdeal.τ).loc Cert.ProjERefIdeal.main_arg1)
      ∧ r.2.mem ((c.tc : Thread Cert.ProjERefIdeal.nD Cert.ProjERefIdeal.τ).loc Cert.ProjERefIdeal.main_arg2) = m ((c.tc : Thread Cert.ProjERefIdeal.nD Cert.ProjERefIdeal.τ).loc Cert.ProjERefIdeal.main_arg2)
      ∧ r.2.mem ((c.tc : Thread Cert.ProjERefIdeal.nD Cert.ProjERefIdeal.τ).loc Cert.ProjERefIdeal.main_arg3) = m ((c.tc : Thread Cert.ProjERefIdeal.nD Cert.ProjERefIdeal.τ).loc Cert.ProjERefIdeal.main_arg3)
      ∧ r.2.mem ((c.tc : Thread Cert.ProjERefIdeal.nD Cert.ProjERefIdeal.τ).loc Cert.ProjERefIdeal.main_arg4) = m ((c.tc : Thread Cert.ProjERefIdeal.nD Cert.ProjERefIdeal.τ).loc Cert.ProjERefIdeal.main_arg4))
      ∧ r.2.sem = fun _ => 0)

def quiescent_ProjES [hProjES : Cert.ProjES.Facts] : Prop :=
  ∀ (m : (ℓ : Loc Cert.ProjES.nD Cert.ProjES.τ Cert.ProjES.sig) → Buf (Elt Bits) ℓ) (g : Dev Cert.ProjES.nD → PrngReg), Pre_ProjES m →
    θ_run (Cert.ProjES.defs (F := Bits)) (onTc (τ := Cert.ProjES.τ) (Cert.ProjES.main (F := Bits))) ⟨m, fun _ => 0, g⟩ (fun r => (∀ c : Dev Cert.ProjES.nD,
      r.2.mem ((c.tc : Thread Cert.ProjES.nD Cert.ProjES.τ).loc Cert.ProjES.main_arg0) = m ((c.tc : Thread Cert.ProjES.nD Cert.ProjES.τ).loc Cert.ProjES.main_arg0)
      ∧ r.2.mem ((c.tc : Thread Cert.ProjES.nD Cert.ProjES.τ).loc Cert.ProjES.main_arg1) = m ((c.tc : Thread Cert.ProjES.nD Cert.ProjES.τ).loc Cert.ProjES.main_arg1)
      ∧ r.2.mem ((c.tc : Thread Cert.ProjES.nD Cert.ProjES.τ).loc Cert.ProjES.main_arg2) = m ((c.tc : Thread Cert.ProjES.nD Cert.ProjES.τ).loc Cert.ProjES.main_arg2)
      ∧ r.2.mem ((c.tc : Thread Cert.ProjES.nD Cert.ProjES.τ).loc Cert.ProjES.main_arg3) = m ((c.tc : Thread Cert.ProjES.nD Cert.ProjES.τ).loc Cert.ProjES.main_arg3)
      ∧ r.2.mem ((c.tc : Thread Cert.ProjES.nD Cert.ProjES.τ).loc Cert.ProjES.main_arg4) = m ((c.tc : Thread Cert.ProjES.nD Cert.ProjES.τ).loc Cert.ProjES.main_arg4))
      ∧ r.2.sem = fun _ => 0)

def quiescent_ProjESIdeal [hProjESIdeal : Cert.ProjESIdeal.Facts] : Prop :=
  ∀ (m : (ℓ : Loc Cert.ProjESIdeal.nD Cert.ProjESIdeal.τ Cert.ProjESIdeal.sig) → Buf (Elt Ideal) ℓ) (g : Dev Cert.ProjESIdeal.nD → PrngReg), Pre_ProjESIdeal m →
    θ_run (Cert.ProjESIdeal.defs (F := Ideal)) (onTc (τ := Cert.ProjESIdeal.τ) (Cert.ProjESIdeal.main (F := Ideal))) ⟨m, fun _ => 0, g⟩ (fun r => (∀ c : Dev Cert.ProjESIdeal.nD,
      r.2.mem ((c.tc : Thread Cert.ProjESIdeal.nD Cert.ProjESIdeal.τ).loc Cert.ProjESIdeal.main_arg0) = m ((c.tc : Thread Cert.ProjESIdeal.nD Cert.ProjESIdeal.τ).loc Cert.ProjESIdeal.main_arg0)
      ∧ r.2.mem ((c.tc : Thread Cert.ProjESIdeal.nD Cert.ProjESIdeal.τ).loc Cert.ProjESIdeal.main_arg1) = m ((c.tc : Thread Cert.ProjESIdeal.nD Cert.ProjESIdeal.τ).loc Cert.ProjESIdeal.main_arg1)
      ∧ r.2.mem ((c.tc : Thread Cert.ProjESIdeal.nD Cert.ProjESIdeal.τ).loc Cert.ProjESIdeal.main_arg2) = m ((c.tc : Thread Cert.ProjESIdeal.nD Cert.ProjESIdeal.τ).loc Cert.ProjESIdeal.main_arg2)
      ∧ r.2.mem ((c.tc : Thread Cert.ProjESIdeal.nD Cert.ProjESIdeal.τ).loc Cert.ProjESIdeal.main_arg3) = m ((c.tc : Thread Cert.ProjESIdeal.nD Cert.ProjESIdeal.τ).loc Cert.ProjESIdeal.main_arg3)
      ∧ r.2.mem ((c.tc : Thread Cert.ProjESIdeal.nD Cert.ProjESIdeal.τ).loc Cert.ProjESIdeal.main_arg4) = m ((c.tc : Thread Cert.ProjESIdeal.nD Cert.ProjESIdeal.τ).loc Cert.ProjESIdeal.main_arg4))
      ∧ r.2.sem = fun _ => 0)

def quiescent_ProjESIdeal_pre_sample_split_finite [hProjESIdeal : Cert.ProjESIdeal.Facts] [hPre_sample_split_finite : Cert.Pre_sample_split_finite.Facts] : Prop :=
  ∀ (m : (ℓ : Loc Cert.ProjESIdeal.nD Cert.ProjESIdeal.τ Cert.ProjESIdeal.sig) → Buf (Elt Ideal) ℓ) (g : Dev Cert.ProjESIdeal.nD → PrngReg), Pre_ProjESIdeal_sample_split_finite m →
    θ_run (Cert.ProjESIdeal.defs (F := Ideal)) (onTc (τ := Cert.ProjESIdeal.τ) (Cert.ProjESIdeal.main (F := Ideal))) ⟨m, fun _ => 0, g⟩ (fun r => (∀ c : Dev Cert.ProjESIdeal.nD,
      r.2.mem ((c.tc : Thread Cert.ProjESIdeal.nD Cert.ProjESIdeal.τ).loc Cert.ProjESIdeal.main_arg0) = m ((c.tc : Thread Cert.ProjESIdeal.nD Cert.ProjESIdeal.τ).loc Cert.ProjESIdeal.main_arg0)
      ∧ r.2.mem ((c.tc : Thread Cert.ProjESIdeal.nD Cert.ProjESIdeal.τ).loc Cert.ProjESIdeal.main_arg1) = m ((c.tc : Thread Cert.ProjESIdeal.nD Cert.ProjESIdeal.τ).loc Cert.ProjESIdeal.main_arg1)
      ∧ r.2.mem ((c.tc : Thread Cert.ProjESIdeal.nD Cert.ProjESIdeal.τ).loc Cert.ProjESIdeal.main_arg2) = m ((c.tc : Thread Cert.ProjESIdeal.nD Cert.ProjESIdeal.τ).loc Cert.ProjESIdeal.main_arg2)
      ∧ r.2.mem ((c.tc : Thread Cert.ProjESIdeal.nD Cert.ProjESIdeal.τ).loc Cert.ProjESIdeal.main_arg3) = m ((c.tc : Thread Cert.ProjESIdeal.nD Cert.ProjESIdeal.τ).loc Cert.ProjESIdeal.main_arg3)
      ∧ r.2.mem ((c.tc : Thread Cert.ProjESIdeal.nD Cert.ProjESIdeal.τ).loc Cert.ProjESIdeal.main_arg4) = m ((c.tc : Thread Cert.ProjESIdeal.nD Cert.ProjESIdeal.τ).loc Cert.ProjESIdeal.main_arg4))
      ∧ r.2.sem = fun _ => 0)

def quiescent_ProjESRefIdeal [hProjESRefIdeal : Cert.ProjESRefIdeal.Facts] : Prop :=
  ∀ (m : (ℓ : Loc Cert.ProjESRefIdeal.nD Cert.ProjESRefIdeal.τ Cert.ProjESRefIdeal.sig) → Buf (Elt Ideal) ℓ) (g : Dev Cert.ProjESRefIdeal.nD → PrngReg), Pre_ProjESRefIdeal m →
    θ_run (Cert.ProjESRefIdeal.defs (F := Ideal)) (onTc (τ := Cert.ProjESRefIdeal.τ) (Cert.ProjESRefIdeal.main (F := Ideal))) ⟨m, fun _ => 0, g⟩ (fun r => (∀ c : Dev Cert.ProjESRefIdeal.nD,
      r.2.mem ((c.tc : Thread Cert.ProjESRefIdeal.nD Cert.ProjESRefIdeal.τ).loc Cert.ProjESRefIdeal.main_arg0) = m ((c.tc : Thread Cert.ProjESRefIdeal.nD Cert.ProjESRefIdeal.τ).loc Cert.ProjESRefIdeal.main_arg0)
      ∧ r.2.mem ((c.tc : Thread Cert.ProjESRefIdeal.nD Cert.ProjESRefIdeal.τ).loc Cert.ProjESRefIdeal.main_arg1) = m ((c.tc : Thread Cert.ProjESRefIdeal.nD Cert.ProjESRefIdeal.τ).loc Cert.ProjESRefIdeal.main_arg1)
      ∧ r.2.mem ((c.tc : Thread Cert.ProjESRefIdeal.nD Cert.ProjESRefIdeal.τ).loc Cert.ProjESRefIdeal.main_arg2) = m ((c.tc : Thread Cert.ProjESRefIdeal.nD Cert.ProjESRefIdeal.τ).loc Cert.ProjESRefIdeal.main_arg2)
      ∧ r.2.mem ((c.tc : Thread Cert.ProjESRefIdeal.nD Cert.ProjESRefIdeal.τ).loc Cert.ProjESRefIdeal.main_arg3) = m ((c.tc : Thread Cert.ProjESRefIdeal.nD Cert.ProjESRefIdeal.τ).loc Cert.ProjESRefIdeal.main_arg3)
      ∧ r.2.mem ((c.tc : Thread Cert.ProjESRefIdeal.nD Cert.ProjESRefIdeal.τ).loc Cert.ProjESRefIdeal.main_arg4) = m ((c.tc : Thread Cert.ProjESRefIdeal.nD Cert.ProjESRefIdeal.τ).loc Cert.ProjESRefIdeal.main_arg4))
      ∧ r.2.sem = fun _ => 0)

def quiescent_ProjESRefIdeal_pre_sample_split_finite [hProjESRefIdeal : Cert.ProjESRefIdeal.Facts] [hPre_sample_split_finite : Cert.Pre_sample_split_finite.Facts] : Prop :=
  ∀ (m : (ℓ : Loc Cert.ProjESRefIdeal.nD Cert.ProjESRefIdeal.τ Cert.ProjESRefIdeal.sig) → Buf (Elt Ideal) ℓ) (g : Dev Cert.ProjESRefIdeal.nD → PrngReg), Pre_ProjESRefIdeal_sample_split_finite m →
    θ_run (Cert.ProjESRefIdeal.defs (F := Ideal)) (onTc (τ := Cert.ProjESRefIdeal.τ) (Cert.ProjESRefIdeal.main (F := Ideal))) ⟨m, fun _ => 0, g⟩ (fun r => (∀ c : Dev Cert.ProjESRefIdeal.nD,
      r.2.mem ((c.tc : Thread Cert.ProjESRefIdeal.nD Cert.ProjESRefIdeal.τ).loc Cert.ProjESRefIdeal.main_arg0) = m ((c.tc : Thread Cert.ProjESRefIdeal.nD Cert.ProjESRefIdeal.τ).loc Cert.ProjESRefIdeal.main_arg0)
      ∧ r.2.mem ((c.tc : Thread Cert.ProjESRefIdeal.nD Cert.ProjESRefIdeal.τ).loc Cert.ProjESRefIdeal.main_arg1) = m ((c.tc : Thread Cert.ProjESRefIdeal.nD Cert.ProjESRefIdeal.τ).loc Cert.ProjESRefIdeal.main_arg1)
      ∧ r.2.mem ((c.tc : Thread Cert.ProjESRefIdeal.nD Cert.ProjESRefIdeal.τ).loc Cert.ProjESRefIdeal.main_arg2) = m ((c.tc : Thread Cert.ProjESRefIdeal.nD Cert.ProjESRefIdeal.τ).loc Cert.ProjESRefIdeal.main_arg2)
      ∧ r.2.mem ((c.tc : Thread Cert.ProjESRefIdeal.nD Cert.ProjESRefIdeal.τ).loc Cert.ProjESRefIdeal.main_arg3) = m ((c.tc : Thread Cert.ProjESRefIdeal.nD Cert.ProjESRefIdeal.τ).loc Cert.ProjESRefIdeal.main_arg3)
      ∧ r.2.mem ((c.tc : Thread Cert.ProjESRefIdeal.nD Cert.ProjESRefIdeal.τ).loc Cert.ProjESRefIdeal.main_arg4) = m ((c.tc : Thread Cert.ProjESRefIdeal.nD Cert.ProjESRefIdeal.τ).loc Cert.ProjESRefIdeal.main_arg4))
      ∧ r.2.sem = fun _ => 0)

def quiescent_ProjO [hProjO : Cert.ProjO.Facts] : Prop :=
  ∀ (m : (ℓ : Loc Cert.ProjO.nD Cert.ProjO.τ Cert.ProjO.sig) → Buf (Elt Bits) ℓ) (g : Dev Cert.ProjO.nD → PrngReg), Pre_ProjO m →
    θ_run (Cert.ProjO.defs (F := Bits)) (onTc (τ := Cert.ProjO.τ) (Cert.ProjO.main (F := Bits))) ⟨m, fun _ => 0, g⟩ (fun r => (∀ c : Dev Cert.ProjO.nD,
      r.2.mem ((c.tc : Thread Cert.ProjO.nD Cert.ProjO.τ).loc Cert.ProjO.main_arg0) = m ((c.tc : Thread Cert.ProjO.nD Cert.ProjO.τ).loc Cert.ProjO.main_arg0)
      ∧ r.2.mem ((c.tc : Thread Cert.ProjO.nD Cert.ProjO.τ).loc Cert.ProjO.main_arg1) = m ((c.tc : Thread Cert.ProjO.nD Cert.ProjO.τ).loc Cert.ProjO.main_arg1)
      ∧ r.2.mem ((c.tc : Thread Cert.ProjO.nD Cert.ProjO.τ).loc Cert.ProjO.main_arg2) = m ((c.tc : Thread Cert.ProjO.nD Cert.ProjO.τ).loc Cert.ProjO.main_arg2)
      ∧ r.2.mem ((c.tc : Thread Cert.ProjO.nD Cert.ProjO.τ).loc Cert.ProjO.main_arg3) = m ((c.tc : Thread Cert.ProjO.nD Cert.ProjO.τ).loc Cert.ProjO.main_arg3))
      ∧ r.2.sem = fun _ => 0)

def quiescent_ProjOIdeal [hProjOIdeal : Cert.ProjOIdeal.Facts] : Prop :=
  ∀ (m : (ℓ : Loc Cert.ProjOIdeal.nD Cert.ProjOIdeal.τ Cert.ProjOIdeal.sig) → Buf (Elt Ideal) ℓ) (g : Dev Cert.ProjOIdeal.nD → PrngReg), Pre_ProjOIdeal m →
    θ_run (Cert.ProjOIdeal.defs (F := Ideal)) (onTc (τ := Cert.ProjOIdeal.τ) (Cert.ProjOIdeal.main (F := Ideal))) ⟨m, fun _ => 0, g⟩ (fun r => (∀ c : Dev Cert.ProjOIdeal.nD,
      r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
      ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
      ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2)
      ∧ r.2.mem ((c.tc : Thread Cert.ProjOIdeal.nD Cert.ProjOIdeal.τ).loc Cert.ProjOIdeal.main_arg3) = m ((c.tc : Thread Cert.ProjOIdeal.nD Cert.ProjOIdeal.τ).loc Cert.ProjOIdeal.main_arg3))
      ∧ r.2.sem = fun _ => 0)

def quiescent_ProjORefIdeal [hProjORefIdeal : Cert.ProjORefIdeal.Facts] : Prop :=
  ∀ (m : (ℓ : Loc Cert.ProjORefIdeal.nD Cert.ProjORefIdeal.τ Cert.ProjORefIdeal.sig) → Buf (Elt Ideal) ℓ) (g : Dev Cert.ProjORefIdeal.nD → PrngReg), Pre_ProjORefIdeal m →
    θ_run (Cert.ProjORefIdeal.defs (F := Ideal)) (onTc (τ := Cert.ProjORefIdeal.τ) (Cert.ProjORefIdeal.main (F := Ideal))) ⟨m, fun _ => 0, g⟩ (fun r => (∀ c : Dev Cert.ProjORefIdeal.nD,
      r.2.mem ((c.tc : Thread Cert.ProjORefIdeal.nD Cert.ProjORefIdeal.τ).loc Cert.ProjORefIdeal.main_arg0) = m ((c.tc : Thread Cert.ProjORefIdeal.nD Cert.ProjORefIdeal.τ).loc Cert.ProjORefIdeal.main_arg0)
      ∧ r.2.mem ((c.tc : Thread Cert.ProjORefIdeal.nD Cert.ProjORefIdeal.τ).loc Cert.ProjORefIdeal.main_arg1) = m ((c.tc : Thread Cert.ProjORefIdeal.nD Cert.ProjORefIdeal.τ).loc Cert.ProjORefIdeal.main_arg1)
      ∧ r.2.mem ((c.tc : Thread Cert.ProjORefIdeal.nD Cert.ProjORefIdeal.τ).loc Cert.ProjORefIdeal.main_arg2) = m ((c.tc : Thread Cert.ProjORefIdeal.nD Cert.ProjORefIdeal.τ).loc Cert.ProjORefIdeal.main_arg2)
      ∧ r.2.mem ((c.tc : Thread Cert.ProjORefIdeal.nD Cert.ProjORefIdeal.τ).loc Cert.ProjORefIdeal.main_arg3) = m ((c.tc : Thread Cert.ProjORefIdeal.nD Cert.ProjORefIdeal.τ).loc Cert.ProjORefIdeal.main_arg3))
      ∧ r.2.sem = fun _ => 0)

def quiescent_OutE [hOutE : Cert.OutE.Facts] : Prop :=
  ∀ (m : (ℓ : Loc Cert.OutE.nD Cert.OutE.τ Cert.OutE.sig) → Buf (Elt Bits) ℓ) (g : Dev Cert.OutE.nD → PrngReg), Pre_OutE m →
    θ_run (Cert.OutE.defs (F := Bits)) (onTc (τ := Cert.OutE.τ) (Cert.OutE.main (F := Bits))) ⟨m, fun _ => 0, g⟩ (fun r => (∀ c : Dev Cert.OutE.nD,
      r.2.mem ((c.tc : Thread Cert.OutE.nD Cert.OutE.τ).loc Cert.OutE.main_arg0) = m ((c.tc : Thread Cert.OutE.nD Cert.OutE.τ).loc Cert.OutE.main_arg0)
      ∧ r.2.mem ((c.tc : Thread Cert.OutE.nD Cert.OutE.τ).loc Cert.OutE.main_arg1) = m ((c.tc : Thread Cert.OutE.nD Cert.OutE.τ).loc Cert.OutE.main_arg1)
      ∧ r.2.mem ((c.tc : Thread Cert.OutE.nD Cert.OutE.τ).loc Cert.OutE.main_arg2) = m ((c.tc : Thread Cert.OutE.nD Cert.OutE.τ).loc Cert.OutE.main_arg2)
      ∧ r.2.mem ((c.tc : Thread Cert.OutE.nD Cert.OutE.τ).loc Cert.OutE.main_arg3) = m ((c.tc : Thread Cert.OutE.nD Cert.OutE.τ).loc Cert.OutE.main_arg3)
      ∧ r.2.mem ((c.tc : Thread Cert.OutE.nD Cert.OutE.τ).loc Cert.OutE.main_arg4) = m ((c.tc : Thread Cert.OutE.nD Cert.OutE.τ).loc Cert.OutE.main_arg4))
      ∧ r.2.sem = fun _ => 0)

def quiescent_OutEIdeal [hOutEIdeal : Cert.OutEIdeal.Facts] : Prop :=
  ∀ (m : (ℓ : Loc Cert.OutEIdeal.nD Cert.OutEIdeal.τ Cert.OutEIdeal.sig) → Buf (Elt Ideal) ℓ) (g : Dev Cert.OutEIdeal.nD → PrngReg), Pre_OutEIdeal m →
    θ_run (Cert.OutEIdeal.defs (F := Ideal)) (onTc (τ := Cert.OutEIdeal.τ) (Cert.OutEIdeal.main (F := Ideal))) ⟨m, fun _ => 0, g⟩ (fun r => (∀ c : Dev Cert.OutEIdeal.nD,
      r.2.mem ((c.tc : Thread Cert.OutEIdeal.nD Cert.OutEIdeal.τ).loc Cert.OutEIdeal.main_arg0) = m ((c.tc : Thread Cert.OutEIdeal.nD Cert.OutEIdeal.τ).loc Cert.OutEIdeal.main_arg0)
      ∧ r.2.mem ((c.tc : Thread Cert.OutEIdeal.nD Cert.OutEIdeal.τ).loc Cert.OutEIdeal.main_arg1) = m ((c.tc : Thread Cert.OutEIdeal.nD Cert.OutEIdeal.τ).loc Cert.OutEIdeal.main_arg1)
      ∧ r.2.mem ((c.tc : Thread Cert.OutEIdeal.nD Cert.OutEIdeal.τ).loc Cert.OutEIdeal.main_arg2) = m ((c.tc : Thread Cert.OutEIdeal.nD Cert.OutEIdeal.τ).loc Cert.OutEIdeal.main_arg2)
      ∧ r.2.mem ((c.tc : Thread Cert.OutEIdeal.nD Cert.OutEIdeal.τ).loc Cert.OutEIdeal.main_arg3) = m ((c.tc : Thread Cert.OutEIdeal.nD Cert.OutEIdeal.τ).loc Cert.OutEIdeal.main_arg3)
      ∧ r.2.mem ((c.tc : Thread Cert.OutEIdeal.nD Cert.OutEIdeal.τ).loc Cert.OutEIdeal.main_arg4) = m ((c.tc : Thread Cert.OutEIdeal.nD Cert.OutEIdeal.τ).loc Cert.OutEIdeal.main_arg4))
      ∧ r.2.sem = fun _ => 0)

def quiescent_OutERefIdeal [hOutERefIdeal : Cert.OutERefIdeal.Facts] : Prop :=
  ∀ (m : (ℓ : Loc Cert.OutERefIdeal.nD Cert.OutERefIdeal.τ Cert.OutERefIdeal.sig) → Buf (Elt Ideal) ℓ) (g : Dev Cert.OutERefIdeal.nD → PrngReg), Pre_OutERefIdeal m →
    θ_run (Cert.OutERefIdeal.defs (F := Ideal)) (onTc (τ := Cert.OutERefIdeal.τ) (Cert.OutERefIdeal.main (F := Ideal))) ⟨m, fun _ => 0, g⟩ (fun r => (∀ c : Dev Cert.OutERefIdeal.nD,
      r.2.mem ((c.tc : Thread Cert.OutERefIdeal.nD Cert.OutERefIdeal.τ).loc Cert.OutERefIdeal.main_arg0) = m ((c.tc : Thread Cert.OutERefIdeal.nD Cert.OutERefIdeal.τ).loc Cert.OutERefIdeal.main_arg0)
      ∧ r.2.mem ((c.tc : Thread Cert.OutERefIdeal.nD Cert.OutERefIdeal.τ).loc Cert.OutERefIdeal.main_arg1) = m ((c.tc : Thread Cert.OutERefIdeal.nD Cert.OutERefIdeal.τ).loc Cert.OutERefIdeal.main_arg1)
      ∧ r.2.mem ((c.tc : Thread Cert.OutERefIdeal.nD Cert.OutERefIdeal.τ).loc Cert.OutERefIdeal.main_arg2) = m ((c.tc : Thread Cert.OutERefIdeal.nD Cert.OutERefIdeal.τ).loc Cert.OutERefIdeal.main_arg2)
      ∧ r.2.mem ((c.tc : Thread Cert.OutERefIdeal.nD Cert.OutERefIdeal.τ).loc Cert.OutERefIdeal.main_arg3) = m ((c.tc : Thread Cert.OutERefIdeal.nD Cert.OutERefIdeal.τ).loc Cert.OutERefIdeal.main_arg3)
      ∧ r.2.mem ((c.tc : Thread Cert.OutERefIdeal.nD Cert.OutERefIdeal.τ).loc Cert.OutERefIdeal.main_arg4) = m ((c.tc : Thread Cert.OutERefIdeal.nD Cert.OutERefIdeal.τ).loc Cert.OutERefIdeal.main_arg4))
      ∧ r.2.sem = fun _ => 0)

def quiescent_OutO [hOutO : Cert.OutO.Facts] : Prop :=
  ∀ (m : (ℓ : Loc Cert.OutO.nD Cert.OutO.τ Cert.OutO.sig) → Buf (Elt Bits) ℓ) (g : Dev Cert.OutO.nD → PrngReg), Pre_OutO m →
    θ_run (Cert.OutO.defs (F := Bits)) (onTc (τ := Cert.OutO.τ) (Cert.OutO.main (F := Bits))) ⟨m, fun _ => 0, g⟩ (fun r => (∀ c : Dev Cert.OutO.nD,
      r.2.mem ((c.tc : Thread Cert.OutO.nD Cert.OutO.τ).loc Cert.OutO.main_arg0) = m ((c.tc : Thread Cert.OutO.nD Cert.OutO.τ).loc Cert.OutO.main_arg0)
      ∧ r.2.mem ((c.tc : Thread Cert.OutO.nD Cert.OutO.τ).loc Cert.OutO.main_arg1) = m ((c.tc : Thread Cert.OutO.nD Cert.OutO.τ).loc Cert.OutO.main_arg1)
      ∧ r.2.mem ((c.tc : Thread Cert.OutO.nD Cert.OutO.τ).loc Cert.OutO.main_arg2) = m ((c.tc : Thread Cert.OutO.nD Cert.OutO.τ).loc Cert.OutO.main_arg2)
      ∧ r.2.mem ((c.tc : Thread Cert.OutO.nD Cert.OutO.τ).loc Cert.OutO.main_arg3) = m ((c.tc : Thread Cert.OutO.nD Cert.OutO.τ).loc Cert.OutO.main_arg3))
      ∧ r.2.sem = fun _ => 0)

def quiescent_OutOIdeal [hOutOIdeal : Cert.OutOIdeal.Facts] : Prop :=
  ∀ (m : (ℓ : Loc Cert.OutOIdeal.nD Cert.OutOIdeal.τ Cert.OutOIdeal.sig) → Buf (Elt Ideal) ℓ) (g : Dev Cert.OutOIdeal.nD → PrngReg), Pre_OutOIdeal m →
    θ_run (Cert.OutOIdeal.defs (F := Ideal)) (onTc (τ := Cert.OutOIdeal.τ) (Cert.OutOIdeal.main (F := Ideal))) ⟨m, fun _ => 0, g⟩ (fun r => (∀ c : Dev Cert.OutOIdeal.nD,
      r.2.mem ((c.tc : Thread Cert.OutOIdeal.nD Cert.OutOIdeal.τ).loc Cert.OutOIdeal.main_arg0) = m ((c.tc : Thread Cert.OutOIdeal.nD Cert.OutOIdeal.τ).loc Cert.OutOIdeal.main_arg0)
      ∧ r.2.mem ((c.tc : Thread Cert.OutOIdeal.nD Cert.OutOIdeal.τ).loc Cert.OutOIdeal.main_arg1) = m ((c.tc : Thread Cert.OutOIdeal.nD Cert.OutOIdeal.τ).loc Cert.OutOIdeal.main_arg1)
      ∧ r.2.mem ((c.tc : Thread Cert.OutOIdeal.nD Cert.OutOIdeal.τ).loc Cert.OutOIdeal.main_arg2) = m ((c.tc : Thread Cert.OutOIdeal.nD Cert.OutOIdeal.τ).loc Cert.OutOIdeal.main_arg2)
      ∧ r.2.mem ((c.tc : Thread Cert.OutOIdeal.nD Cert.OutOIdeal.τ).loc Cert.OutOIdeal.main_arg3) = m ((c.tc : Thread Cert.OutOIdeal.nD Cert.OutOIdeal.τ).loc Cert.OutOIdeal.main_arg3))
      ∧ r.2.sem = fun _ => 0)

def quiescent_OutORefIdeal [hOutORefIdeal : Cert.OutORefIdeal.Facts] : Prop :=
  ∀ (m : (ℓ : Loc Cert.OutORefIdeal.nD Cert.OutORefIdeal.τ Cert.OutORefIdeal.sig) → Buf (Elt Ideal) ℓ) (g : Dev Cert.OutORefIdeal.nD → PrngReg), Pre_OutORefIdeal m →
    θ_run (Cert.OutORefIdeal.defs (F := Ideal)) (onTc (τ := Cert.OutORefIdeal.τ) (Cert.OutORefIdeal.main (F := Ideal))) ⟨m, fun _ => 0, g⟩ (fun r => (∀ c : Dev Cert.OutORefIdeal.nD,
      r.2.mem ((c.tc : Thread Cert.OutORefIdeal.nD Cert.OutORefIdeal.τ).loc Cert.OutORefIdeal.main_arg0) = m ((c.tc : Thread Cert.OutORefIdeal.nD Cert.OutORefIdeal.τ).loc Cert.OutORefIdeal.main_arg0)
      ∧ r.2.mem ((c.tc : Thread Cert.OutORefIdeal.nD Cert.OutORefIdeal.τ).loc Cert.OutORefIdeal.main_arg1) = m ((c.tc : Thread Cert.OutORefIdeal.nD Cert.OutORefIdeal.τ).loc Cert.OutORefIdeal.main_arg1)
      ∧ r.2.mem ((c.tc : Thread Cert.OutORefIdeal.nD Cert.OutORefIdeal.τ).loc Cert.OutORefIdeal.main_arg2) = m ((c.tc : Thread Cert.OutORefIdeal.nD Cert.OutORefIdeal.τ).loc Cert.OutORefIdeal.main_arg2)
      ∧ r.2.mem ((c.tc : Thread Cert.OutORefIdeal.nD Cert.OutORefIdeal.τ).loc Cert.OutORefIdeal.main_arg3) = m ((c.tc : Thread Cert.OutORefIdeal.nD Cert.OutORefIdeal.τ).loc Cert.OutORefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_ProjOS [hProjOS : Cert.ProjOS.Facts] : Prop :=
  ∀ (m : (ℓ : Loc Cert.ProjOS.nD Cert.ProjOS.τ Cert.ProjOS.sig) → Buf (Elt Bits) ℓ) (g : Dev Cert.ProjOS.nD → PrngReg), Pre_ProjOS m →
    θ_run (Cert.ProjOS.defs (F := Bits)) (onTc (τ := Cert.ProjOS.τ) (Cert.ProjOS.main (F := Bits))) ⟨m, fun _ => 0, g⟩ (fun r => (∀ c : Dev Cert.ProjOS.nD,
      r.2.mem ((c.tc : Thread Cert.ProjOS.nD Cert.ProjOS.τ).loc Cert.ProjOS.main_arg0) = m ((c.tc : Thread Cert.ProjOS.nD Cert.ProjOS.τ).loc Cert.ProjOS.main_arg0)
      ∧ r.2.mem ((c.tc : Thread Cert.ProjOS.nD Cert.ProjOS.τ).loc Cert.ProjOS.main_arg1) = m ((c.tc : Thread Cert.ProjOS.nD Cert.ProjOS.τ).loc Cert.ProjOS.main_arg1)
      ∧ r.2.mem ((c.tc : Thread Cert.ProjOS.nD Cert.ProjOS.τ).loc Cert.ProjOS.main_arg2) = m ((c.tc : Thread Cert.ProjOS.nD Cert.ProjOS.τ).loc Cert.ProjOS.main_arg2)
      ∧ r.2.mem ((c.tc : Thread Cert.ProjOS.nD Cert.ProjOS.τ).loc Cert.ProjOS.main_arg3) = m ((c.tc : Thread Cert.ProjOS.nD Cert.ProjOS.τ).loc Cert.ProjOS.main_arg3))
      ∧ r.2.sem = fun _ => 0)

def quiescent_ProjOSIdeal [hProjOSIdeal : Cert.ProjOSIdeal.Facts] : Prop :=
  ∀ (m : (ℓ : Loc Cert.ProjOSIdeal.nD Cert.ProjOSIdeal.τ Cert.ProjOSIdeal.sig) → Buf (Elt Ideal) ℓ) (g : Dev Cert.ProjOSIdeal.nD → PrngReg), Pre_ProjOSIdeal m →
    θ_run (Cert.ProjOSIdeal.defs (F := Ideal)) (onTc (τ := Cert.ProjOSIdeal.τ) (Cert.ProjOSIdeal.main (F := Ideal))) ⟨m, fun _ => 0, g⟩ (fun r => (∀ c : Dev Cert.ProjOSIdeal.nD,
      r.2.mem ((c.tc : Thread Cert.ProjOSIdeal.nD Cert.ProjOSIdeal.τ).loc Cert.ProjOSIdeal.main_arg0) = m ((c.tc : Thread Cert.ProjOSIdeal.nD Cert.ProjOSIdeal.τ).loc Cert.ProjOSIdeal.main_arg0)
      ∧ r.2.mem ((c.tc : Thread Cert.ProjOSIdeal.nD Cert.ProjOSIdeal.τ).loc Cert.ProjOSIdeal.main_arg1) = m ((c.tc : Thread Cert.ProjOSIdeal.nD Cert.ProjOSIdeal.τ).loc Cert.ProjOSIdeal.main_arg1)
      ∧ r.2.mem ((c.tc : Thread Cert.ProjOSIdeal.nD Cert.ProjOSIdeal.τ).loc Cert.ProjOSIdeal.main_arg2) = m ((c.tc : Thread Cert.ProjOSIdeal.nD Cert.ProjOSIdeal.τ).loc Cert.ProjOSIdeal.main_arg2)
      ∧ r.2.mem ((c.tc : Thread Cert.ProjOSIdeal.nD Cert.ProjOSIdeal.τ).loc Cert.ProjOSIdeal.main_arg3) = m ((c.tc : Thread Cert.ProjOSIdeal.nD Cert.ProjOSIdeal.τ).loc Cert.ProjOSIdeal.main_arg3))
      ∧ r.2.sem = fun _ => 0)

def quiescent_ProjOSRefIdeal [hProjOSRefIdeal : Cert.ProjOSRefIdeal.Facts] : Prop :=
  ∀ (m : (ℓ : Loc Cert.ProjOSRefIdeal.nD Cert.ProjOSRefIdeal.τ Cert.ProjOSRefIdeal.sig) → Buf (Elt Ideal) ℓ) (g : Dev Cert.ProjOSRefIdeal.nD → PrngReg), Pre_ProjOSRefIdeal m →
    θ_run (Cert.ProjOSRefIdeal.defs (F := Ideal)) (onTc (τ := Cert.ProjOSRefIdeal.τ) (Cert.ProjOSRefIdeal.main (F := Ideal))) ⟨m, fun _ => 0, g⟩ (fun r => (∀ c : Dev Cert.ProjOSRefIdeal.nD,
      r.2.mem ((c.tc : Thread Cert.ProjOSRefIdeal.nD Cert.ProjOSRefIdeal.τ).loc Cert.ProjOSRefIdeal.main_arg0) = m ((c.tc : Thread Cert.ProjOSRefIdeal.nD Cert.ProjOSRefIdeal.τ).loc Cert.ProjOSRefIdeal.main_arg0)
      ∧ r.2.mem ((c.tc : Thread Cert.ProjOSRefIdeal.nD Cert.ProjOSRefIdeal.τ).loc Cert.ProjOSRefIdeal.main_arg1) = m ((c.tc : Thread Cert.ProjOSRefIdeal.nD Cert.ProjOSRefIdeal.τ).loc Cert.ProjOSRefIdeal.main_arg1)
      ∧ r.2.mem ((c.tc : Thread Cert.ProjOSRefIdeal.nD Cert.ProjOSRefIdeal.τ).loc Cert.ProjOSRefIdeal.main_arg2) = m ((c.tc : Thread Cert.ProjOSRefIdeal.nD Cert.ProjOSRefIdeal.τ).loc Cert.ProjOSRefIdeal.main_arg2)
      ∧ r.2.mem ((c.tc : Thread Cert.ProjOSRefIdeal.nD Cert.ProjOSRefIdeal.τ).loc Cert.ProjOSRefIdeal.main_arg3) = m ((c.tc : Thread Cert.ProjOSRefIdeal.nD Cert.ProjOSRefIdeal.τ).loc Cert.ProjOSRefIdeal.main_arg3))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6)
      ∧ r.2.mem ((c.tc : Thread Cert.FfnSRefIdeal.nD Cert.FfnSRefIdeal.τ).loc Cert.FfnSRefIdeal.main_arg7) = m ((c.tc : Thread Cert.FfnSRefIdeal.nD Cert.FfnSRefIdeal.τ).loc Cert.FfnSRefIdeal.main_arg7))
      ∧ r.2.sem = fun _ => 0)

def preserves_Fox_FoxIdeal : Prop :=
  True

def algebraic_FoxIdeal_FoxRefIdeal_pre_scores_finite [hFoxIdeal : Cert.FoxIdeal.Facts] [hFoxRefIdeal : Cert.FoxRefIdeal.Facts] [hPre_scores_finite : Cert.Pre_scores_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_scores_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v34) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Cums_CumsIdeal : Prop :=
  True

def algebraic_CumsIdeal_CumsRefIdeal [hCumsIdeal : Cert.CumsIdeal.Facts] [hCumsRefIdeal : Cert.CumsRefIdeal.Facts] : Prop :=
  ∀ (m : (ℓ : Loc Cert.CumsIdeal.nD Cert.CumsIdeal.τ Cert.CumsIdeal.sig) → Buf (Elt Ideal) ℓ) (g : Dev Cert.CumsIdeal.nD → PrngReg)
    (m' : (ℓ : Loc Cert.CumsRefIdeal.nD Cert.CumsRefIdeal.τ Cert.CumsRefIdeal.sig) → Buf (Elt Ideal) ℓ) (g' : Dev Cert.CumsRefIdeal.nD → PrngReg), Pre_CumsIdeal m →
    (∀ c : Dev Cert.CumsIdeal.nD,
      m' ((c.tc : Thread Cert.CumsRefIdeal.nD Cert.CumsRefIdeal.τ).loc Cert.CumsRefIdeal.main_arg0) = m ((c.tc : Thread Cert.CumsIdeal.nD Cert.CumsIdeal.τ).loc Cert.CumsIdeal.main_arg0)) →
    ∃ (v0 : (c : Dev Cert.CumsIdeal.nD) → Buf (Elt Ideal) ((c.tc : Thread Cert.CumsIdeal.nD Cert.CumsIdeal.τ).loc Cert.CumsIdeal.main_v1)),
      θ_run (Cert.CumsIdeal.defs (F := Ideal)) (onTc (τ := Cert.CumsIdeal.τ) (Cert.CumsIdeal.main (F := Ideal))) ⟨m, fun _ => 0, g⟩ (fun r => ∀ c : Dev Cert.CumsIdeal.nD,
          r.2.mem ((c.tc : Thread Cert.CumsIdeal.nD Cert.CumsIdeal.τ).loc Cert.CumsIdeal.main_v1) = v0 c
          ∧ r.2.mem ((c.tc : Thread Cert.CumsIdeal.nD Cert.CumsIdeal.τ).loc Cert.CumsIdeal.main_arg0) = m ((c.tc : Thread Cert.CumsIdeal.nD Cert.CumsIdeal.τ).loc Cert.CumsIdeal.main_arg0))
      ∧ θ_run (Cert.CumsRefIdeal.defs (F := Ideal)) (onTc (τ := Cert.CumsRefIdeal.τ) (Cert.CumsRefIdeal.main (F := Ideal))) ⟨m', fun _ => 0, g'⟩ (fun r => ∀ c : Dev Cert.CumsRefIdeal.nD,
          r.2.mem ((c.tc : Thread Cert.CumsRefIdeal.nD Cert.CumsRefIdeal.τ).loc Cert.CumsRefIdeal.main_v3) = v0 c
          ∧ r.2.mem ((c.tc : Thread Cert.CumsRefIdeal.nD Cert.CumsRefIdeal.τ).loc Cert.CumsRefIdeal.main_arg0) = m' ((c.tc : Thread Cert.CumsRefIdeal.nD Cert.CumsRefIdeal.τ).loc Cert.CumsRefIdeal.main_arg0))

def preserves_ProjE_ProjEIdeal : Prop :=
  True

def algebraic_ProjEIdeal_ProjERefIdeal_pre_split_finite [hProjEIdeal : Cert.ProjEIdeal.Facts] [hProjERefIdeal : Cert.ProjERefIdeal.Facts] [hPre_split_finite : Cert.Pre_split_finite.Facts] : Prop :=
  ∀ (m : (ℓ : Loc Cert.ProjEIdeal.nD Cert.ProjEIdeal.τ Cert.ProjEIdeal.sig) → Buf (Elt Ideal) ℓ) (g : Dev Cert.ProjEIdeal.nD → PrngReg)
    (m' : (ℓ : Loc Cert.ProjERefIdeal.nD Cert.ProjERefIdeal.τ Cert.ProjERefIdeal.sig) → Buf (Elt Ideal) ℓ) (g' : Dev Cert.ProjERefIdeal.nD → PrngReg), Pre_ProjEIdeal_split_finite m →
    (∀ c : Dev Cert.ProjEIdeal.nD,
      m' ((c.tc : Thread Cert.ProjERefIdeal.nD Cert.ProjERefIdeal.τ).loc Cert.ProjERefIdeal.main_arg0) = m ((c.tc : Thread Cert.ProjEIdeal.nD Cert.ProjEIdeal.τ).loc Cert.ProjEIdeal.main_arg0)
      ∧ m' ((c.tc : Thread Cert.ProjERefIdeal.nD Cert.ProjERefIdeal.τ).loc Cert.ProjERefIdeal.main_arg1) = m ((c.tc : Thread Cert.ProjEIdeal.nD Cert.ProjEIdeal.τ).loc Cert.ProjEIdeal.main_arg1)
      ∧ m' ((c.tc : Thread Cert.ProjERefIdeal.nD Cert.ProjERefIdeal.τ).loc Cert.ProjERefIdeal.main_arg2) = m ((c.tc : Thread Cert.ProjEIdeal.nD Cert.ProjEIdeal.τ).loc Cert.ProjEIdeal.main_arg2)
      ∧ m' ((c.tc : Thread Cert.ProjERefIdeal.nD Cert.ProjERefIdeal.τ).loc Cert.ProjERefIdeal.main_arg3) = m ((c.tc : Thread Cert.ProjEIdeal.nD Cert.ProjEIdeal.τ).loc Cert.ProjEIdeal.main_arg3)
      ∧ m' ((c.tc : Thread Cert.ProjERefIdeal.nD Cert.ProjERefIdeal.τ).loc Cert.ProjERefIdeal.main_arg4) = m ((c.tc : Thread Cert.ProjEIdeal.nD Cert.ProjEIdeal.τ).loc Cert.ProjEIdeal.main_arg4)) →
    ∃ (v0 : (c : Dev Cert.ProjEIdeal.nD) → Buf (Elt Ideal) ((c.tc : Thread Cert.ProjEIdeal.nD Cert.ProjEIdeal.τ).loc Cert.ProjEIdeal.main_v14_0)) (v1 : (c : Dev Cert.ProjEIdeal.nD) → Buf (Elt Ideal) ((c.tc : Thread Cert.ProjEIdeal.nD Cert.ProjEIdeal.τ).loc Cert.ProjEIdeal.main_v14_1)) (v2 : (c : Dev Cert.ProjEIdeal.nD) → Buf (Elt Ideal) ((c.tc : Thread Cert.ProjEIdeal.nD Cert.ProjEIdeal.τ).loc Cert.ProjEIdeal.main_v14_2)) (v3 : (c : Dev Cert.ProjEIdeal.nD) → Buf (Elt Ideal) ((c.tc : Thread Cert.ProjEIdeal.nD Cert.ProjEIdeal.τ).loc Cert.ProjEIdeal.main_v14_3)) (v4 : (c : Dev Cert.ProjEIdeal.nD) → Buf (Elt Ideal) ((c.tc : Thread Cert.ProjEIdeal.nD Cert.ProjEIdeal.τ).loc Cert.ProjEIdeal.main_v14_4)) (v5 : (c : Dev Cert.ProjEIdeal.nD) → Buf (Elt Ideal) ((c.tc : Thread Cert.ProjEIdeal.nD Cert.ProjEIdeal.τ).loc Cert.ProjEIdeal.main_v14_5)) (v6 : (c : Dev Cert.ProjEIdeal.nD) → Buf (Elt Ideal) ((c.tc : Thread Cert.ProjEIdeal.nD Cert.ProjEIdeal.τ).loc Cert.ProjEIdeal.main_v14_6)),
      θ_run (Cert.ProjEIdeal.defs (F := Ideal)) (onTc (τ := Cert.ProjEIdeal.τ) (Cert.ProjEIdeal.main (F := Ideal))) ⟨m, fun _ => 0, g⟩ (fun r => ∀ c : Dev Cert.ProjEIdeal.nD,
          r.2.mem ((c.tc : Thread Cert.ProjEIdeal.nD Cert.ProjEIdeal.τ).loc Cert.ProjEIdeal.main_v14_0) = v0 c
          ∧ r.2.mem ((c.tc : Thread Cert.ProjEIdeal.nD Cert.ProjEIdeal.τ).loc Cert.ProjEIdeal.main_v14_1) = v1 c
          ∧ r.2.mem ((c.tc : Thread Cert.ProjEIdeal.nD Cert.ProjEIdeal.τ).loc Cert.ProjEIdeal.main_v14_2) = v2 c
          ∧ r.2.mem ((c.tc : Thread Cert.ProjEIdeal.nD Cert.ProjEIdeal.τ).loc Cert.ProjEIdeal.main_v14_3) = v3 c
          ∧ r.2.mem ((c.tc : Thread Cert.ProjEIdeal.nD Cert.ProjEIdeal.τ).loc Cert.ProjEIdeal.main_v14_4) = v4 c
          ∧ r.2.mem ((c.tc : Thread Cert.ProjEIdeal.nD Cert.ProjEIdeal.τ).loc Cert.ProjEIdeal.main_v14_5) = v5 c
          ∧ r.2.mem ((c.tc : Thread Cert.ProjEIdeal.nD Cert.ProjEIdeal.τ).loc Cert.ProjEIdeal.main_v14_6) = v6 c
          ∧ r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
          ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1)
          ∧ r.2.mem ((c.tc : Thread Cert.ProjEIdeal.nD Cert.ProjEIdeal.τ).loc Cert.ProjEIdeal.main_arg2) = m ((c.tc : Thread Cert.ProjEIdeal.nD Cert.ProjEIdeal.τ).loc Cert.ProjEIdeal.main_arg2)
          ∧ r.2.mem ((c.tc : Thread Cert.ProjEIdeal.nD Cert.ProjEIdeal.τ).loc Cert.ProjEIdeal.main_arg3) = m ((c.tc : Thread Cert.ProjEIdeal.nD Cert.ProjEIdeal.τ).loc Cert.ProjEIdeal.main_arg3)
          ∧ r.2.mem ((c.tc : Thread Cert.ProjEIdeal.nD Cert.ProjEIdeal.τ).loc Cert.ProjEIdeal.main_arg4) = m ((c.tc : Thread Cert.ProjEIdeal.nD Cert.ProjEIdeal.τ).loc Cert.ProjEIdeal.main_arg4))
      ∧ θ_run (Cert.ProjERefIdeal.defs (F := Ideal)) (onTc (τ := Cert.ProjERefIdeal.τ) (Cert.ProjERefIdeal.main (F := Ideal))) ⟨m', fun _ => 0, g'⟩ (fun r => ∀ c : Dev Cert.ProjERefIdeal.nD,
          r.2.mem ((c.tc : Thread Cert.ProjERefIdeal.nD Cert.ProjERefIdeal.τ).loc Cert.ProjERefIdeal.main_v24) = v0 c
          ∧ r.2.mem ((c.tc : Thread Cert.ProjERefIdeal.nD Cert.ProjERefIdeal.τ).loc Cert.ProjERefIdeal.main_v25) = v1 c
          ∧ r.2.mem ((c.tc : Thread Cert.ProjERefIdeal.nD Cert.ProjERefIdeal.τ).loc Cert.ProjERefIdeal.main_v26) = v2 c
          ∧ r.2.mem ((c.tc : Thread Cert.ProjERefIdeal.nD Cert.ProjERefIdeal.τ).loc Cert.ProjERefIdeal.main_v27) = v3 c
          ∧ r.2.mem ((c.tc : Thread Cert.ProjERefIdeal.nD Cert.ProjERefIdeal.τ).loc Cert.ProjERefIdeal.main_v28) = v4 c
          ∧ r.2.mem ((c.tc : Thread Cert.ProjERefIdeal.nD Cert.ProjERefIdeal.τ).loc Cert.ProjERefIdeal.main_v29) = v5 c
          ∧ r.2.mem ((c.tc : Thread Cert.ProjERefIdeal.nD Cert.ProjERefIdeal.τ).loc Cert.ProjERefIdeal.main_v30) = v6 c
          ∧ r.2.mem ((c.tc : Thread Cert.ProjERefIdeal.nD Cert.ProjERefIdeal.τ).loc Cert.ProjERefIdeal.main_arg0) = m' ((c.tc : Thread Cert.ProjERefIdeal.nD Cert.ProjERefIdeal.τ).loc Cert.ProjERefIdeal.main_arg0)
          ∧ r.2.mem ((c.tc : Thread Cert.ProjERefIdeal.nD Cert.ProjERefIdeal.τ).loc Cert.ProjERefIdeal.main_arg1) = m' ((c.tc : Thread Cert.ProjERefIdeal.nD Cert.ProjERefIdeal.τ).loc Cert.ProjERefIdeal.main_arg1)
          ∧ r.2.mem ((c.tc : Thread Cert.ProjERefIdeal.nD Cert.ProjERefIdeal.τ).loc Cert.ProjERefIdeal.main_arg2) = m' ((c.tc : Thread Cert.ProjERefIdeal.nD Cert.ProjERefIdeal.τ).loc Cert.ProjERefIdeal.main_arg2)
          ∧ r.2.mem ((c.tc : Thread Cert.ProjERefIdeal.nD Cert.ProjERefIdeal.τ).loc Cert.ProjERefIdeal.main_arg3) = m' ((c.tc : Thread Cert.ProjERefIdeal.nD Cert.ProjERefIdeal.τ).loc Cert.ProjERefIdeal.main_arg3)
          ∧ r.2.mem ((c.tc : Thread Cert.ProjERefIdeal.nD Cert.ProjERefIdeal.τ).loc Cert.ProjERefIdeal.main_arg4) = m' ((c.tc : Thread Cert.ProjERefIdeal.nD Cert.ProjERefIdeal.τ).loc Cert.ProjERefIdeal.main_arg4))

def preserves_ProjES_ProjESIdeal : Prop :=
  True

def algebraic_ProjESIdeal_ProjESRefIdeal_pre_sample_split_finite [hProjESIdeal : Cert.ProjESIdeal.Facts] [hProjESRefIdeal : Cert.ProjESRefIdeal.Facts] [hPre_sample_split_finite : Cert.Pre_sample_split_finite.Facts] : Prop :=
  ∀ (m : (ℓ : Loc Cert.ProjESIdeal.nD Cert.ProjESIdeal.τ Cert.ProjESIdeal.sig) → Buf (Elt Ideal) ℓ) (g : Dev Cert.ProjESIdeal.nD → PrngReg)
    (m' : (ℓ : Loc Cert.ProjESRefIdeal.nD Cert.ProjESRefIdeal.τ Cert.ProjESRefIdeal.sig) → Buf (Elt Ideal) ℓ) (g' : Dev Cert.ProjESRefIdeal.nD → PrngReg), Pre_ProjESIdeal_sample_split_finite m →
    (∀ c : Dev Cert.ProjESIdeal.nD,
      m' ((c.tc : Thread Cert.ProjESRefIdeal.nD Cert.ProjESRefIdeal.τ).loc Cert.ProjESRefIdeal.main_arg0) = m ((c.tc : Thread Cert.ProjESIdeal.nD Cert.ProjESIdeal.τ).loc Cert.ProjESIdeal.main_arg0)
      ∧ m' ((c.tc : Thread Cert.ProjESRefIdeal.nD Cert.ProjESRefIdeal.τ).loc Cert.ProjESRefIdeal.main_arg1) = m ((c.tc : Thread Cert.ProjESIdeal.nD Cert.ProjESIdeal.τ).loc Cert.ProjESIdeal.main_arg1)
      ∧ m' ((c.tc : Thread Cert.ProjESRefIdeal.nD Cert.ProjESRefIdeal.τ).loc Cert.ProjESRefIdeal.main_arg2) = m ((c.tc : Thread Cert.ProjESIdeal.nD Cert.ProjESIdeal.τ).loc Cert.ProjESIdeal.main_arg2)
      ∧ m' ((c.tc : Thread Cert.ProjESRefIdeal.nD Cert.ProjESRefIdeal.τ).loc Cert.ProjESRefIdeal.main_arg3) = m ((c.tc : Thread Cert.ProjESIdeal.nD Cert.ProjESIdeal.τ).loc Cert.ProjESIdeal.main_arg3)
      ∧ m' ((c.tc : Thread Cert.ProjESRefIdeal.nD Cert.ProjESRefIdeal.τ).loc Cert.ProjESRefIdeal.main_arg4) = m ((c.tc : Thread Cert.ProjESIdeal.nD Cert.ProjESIdeal.τ).loc Cert.ProjESIdeal.main_arg4)) →
    ∃ (v0 : (c : Dev Cert.ProjESIdeal.nD) → Buf (Elt Ideal) ((c.tc : Thread Cert.ProjESIdeal.nD Cert.ProjESIdeal.τ).loc Cert.ProjESIdeal.main_v14_0)) (v1 : (c : Dev Cert.ProjESIdeal.nD) → Buf (Elt Ideal) ((c.tc : Thread Cert.ProjESIdeal.nD Cert.ProjESIdeal.τ).loc Cert.ProjESIdeal.main_v14_1)) (v2 : (c : Dev Cert.ProjESIdeal.nD) → Buf (Elt Ideal) ((c.tc : Thread Cert.ProjESIdeal.nD Cert.ProjESIdeal.τ).loc Cert.ProjESIdeal.main_v14_2)) (v3 : (c : Dev Cert.ProjESIdeal.nD) → Buf (Elt Ideal) ((c.tc : Thread Cert.ProjESIdeal.nD Cert.ProjESIdeal.τ).loc Cert.ProjESIdeal.main_v14_3)) (v4 : (c : Dev Cert.ProjESIdeal.nD) → Buf (Elt Ideal) ((c.tc : Thread Cert.ProjESIdeal.nD Cert.ProjESIdeal.τ).loc Cert.ProjESIdeal.main_v14_4)) (v5 : (c : Dev Cert.ProjESIdeal.nD) → Buf (Elt Ideal) ((c.tc : Thread Cert.ProjESIdeal.nD Cert.ProjESIdeal.τ).loc Cert.ProjESIdeal.main_v14_5)) (v6 : (c : Dev Cert.ProjESIdeal.nD) → Buf (Elt Ideal) ((c.tc : Thread Cert.ProjESIdeal.nD Cert.ProjESIdeal.τ).loc Cert.ProjESIdeal.main_v14_6)),
      θ_run (Cert.ProjESIdeal.defs (F := Ideal)) (onTc (τ := Cert.ProjESIdeal.τ) (Cert.ProjESIdeal.main (F := Ideal))) ⟨m, fun _ => 0, g⟩ (fun r => ∀ c : Dev Cert.ProjESIdeal.nD,
          r.2.mem ((c.tc : Thread Cert.ProjESIdeal.nD Cert.ProjESIdeal.τ).loc Cert.ProjESIdeal.main_v14_0) = v0 c
          ∧ r.2.mem ((c.tc : Thread Cert.ProjESIdeal.nD Cert.ProjESIdeal.τ).loc Cert.ProjESIdeal.main_v14_1) = v1 c
          ∧ r.2.mem ((c.tc : Thread Cert.ProjESIdeal.nD Cert.ProjESIdeal.τ).loc Cert.ProjESIdeal.main_v14_2) = v2 c
          ∧ r.2.mem ((c.tc : Thread Cert.ProjESIdeal.nD Cert.ProjESIdeal.τ).loc Cert.ProjESIdeal.main_v14_3) = v3 c
          ∧ r.2.mem ((c.tc : Thread Cert.ProjESIdeal.nD Cert.ProjESIdeal.τ).loc Cert.ProjESIdeal.main_v14_4) = v4 c
          ∧ r.2.mem ((c.tc : Thread Cert.ProjESIdeal.nD Cert.ProjESIdeal.τ).loc Cert.ProjESIdeal.main_v14_5) = v5 c
          ∧ r.2.mem ((c.tc : Thread Cert.ProjESIdeal.nD Cert.ProjESIdeal.τ).loc Cert.ProjESIdeal.main_v14_6) = v6 c
          ∧ r.2.mem ((c.tc : Thread Cert.ProjESIdeal.nD Cert.ProjESIdeal.τ).loc Cert.ProjESIdeal.main_arg0) = m ((c.tc : Thread Cert.ProjESIdeal.nD Cert.ProjESIdeal.τ).loc Cert.ProjESIdeal.main_arg0)
          ∧ r.2.mem ((c.tc : Thread Cert.ProjESIdeal.nD Cert.ProjESIdeal.τ).loc Cert.ProjESIdeal.main_arg1) = m ((c.tc : Thread Cert.ProjESIdeal.nD Cert.ProjESIdeal.τ).loc Cert.ProjESIdeal.main_arg1)
          ∧ r.2.mem ((c.tc : Thread Cert.ProjESIdeal.nD Cert.ProjESIdeal.τ).loc Cert.ProjESIdeal.main_arg2) = m ((c.tc : Thread Cert.ProjESIdeal.nD Cert.ProjESIdeal.τ).loc Cert.ProjESIdeal.main_arg2)
          ∧ r.2.mem ((c.tc : Thread Cert.ProjESIdeal.nD Cert.ProjESIdeal.τ).loc Cert.ProjESIdeal.main_arg3) = m ((c.tc : Thread Cert.ProjESIdeal.nD Cert.ProjESIdeal.τ).loc Cert.ProjESIdeal.main_arg3)
          ∧ r.2.mem ((c.tc : Thread Cert.ProjESIdeal.nD Cert.ProjESIdeal.τ).loc Cert.ProjESIdeal.main_arg4) = m ((c.tc : Thread Cert.ProjESIdeal.nD Cert.ProjESIdeal.τ).loc Cert.ProjESIdeal.main_arg4))
      ∧ θ_run (Cert.ProjESRefIdeal.defs (F := Ideal)) (onTc (τ := Cert.ProjESRefIdeal.τ) (Cert.ProjESRefIdeal.main (F := Ideal))) ⟨m', fun _ => 0, g'⟩ (fun r => ∀ c : Dev Cert.ProjESRefIdeal.nD,
          r.2.mem ((c.tc : Thread Cert.ProjESRefIdeal.nD Cert.ProjESRefIdeal.τ).loc Cert.ProjESRefIdeal.main_v24) = v0 c
          ∧ r.2.mem ((c.tc : Thread Cert.ProjESRefIdeal.nD Cert.ProjESRefIdeal.τ).loc Cert.ProjESRefIdeal.main_v25) = v1 c
          ∧ r.2.mem ((c.tc : Thread Cert.ProjESRefIdeal.nD Cert.ProjESRefIdeal.τ).loc Cert.ProjESRefIdeal.main_v26) = v2 c
          ∧ r.2.mem ((c.tc : Thread Cert.ProjESRefIdeal.nD Cert.ProjESRefIdeal.τ).loc Cert.ProjESRefIdeal.main_v27) = v3 c
          ∧ r.2.mem ((c.tc : Thread Cert.ProjESRefIdeal.nD Cert.ProjESRefIdeal.τ).loc Cert.ProjESRefIdeal.main_v28) = v4 c
          ∧ r.2.mem ((c.tc : Thread Cert.ProjESRefIdeal.nD Cert.ProjESRefIdeal.τ).loc Cert.ProjESRefIdeal.main_v29) = v5 c
          ∧ r.2.mem ((c.tc : Thread Cert.ProjESRefIdeal.nD Cert.ProjESRefIdeal.τ).loc Cert.ProjESRefIdeal.main_v30) = v6 c
          ∧ r.2.mem ((c.tc : Thread Cert.ProjESRefIdeal.nD Cert.ProjESRefIdeal.τ).loc Cert.ProjESRefIdeal.main_arg0) = m' ((c.tc : Thread Cert.ProjESRefIdeal.nD Cert.ProjESRefIdeal.τ).loc Cert.ProjESRefIdeal.main_arg0)
          ∧ r.2.mem ((c.tc : Thread Cert.ProjESRefIdeal.nD Cert.ProjESRefIdeal.τ).loc Cert.ProjESRefIdeal.main_arg1) = m' ((c.tc : Thread Cert.ProjESRefIdeal.nD Cert.ProjESRefIdeal.τ).loc Cert.ProjESRefIdeal.main_arg1)
          ∧ r.2.mem ((c.tc : Thread Cert.ProjESRefIdeal.nD Cert.ProjESRefIdeal.τ).loc Cert.ProjESRefIdeal.main_arg2) = m' ((c.tc : Thread Cert.ProjESRefIdeal.nD Cert.ProjESRefIdeal.τ).loc Cert.ProjESRefIdeal.main_arg2)
          ∧ r.2.mem ((c.tc : Thread Cert.ProjESRefIdeal.nD Cert.ProjESRefIdeal.τ).loc Cert.ProjESRefIdeal.main_arg3) = m' ((c.tc : Thread Cert.ProjESRefIdeal.nD Cert.ProjESRefIdeal.τ).loc Cert.ProjESRefIdeal.main_arg3)
          ∧ r.2.mem ((c.tc : Thread Cert.ProjESRefIdeal.nD Cert.ProjESRefIdeal.τ).loc Cert.ProjESRefIdeal.main_arg4) = m' ((c.tc : Thread Cert.ProjESRefIdeal.nD Cert.ProjESRefIdeal.τ).loc Cert.ProjESRefIdeal.main_arg4))

def preserves_ProjO_ProjOIdeal : Prop :=
  True

def algebraic_ProjOIdeal_ProjORefIdeal [hProjOIdeal : Cert.ProjOIdeal.Facts] [hProjORefIdeal : Cert.ProjORefIdeal.Facts] : Prop :=
  ∀ (m : (ℓ : Loc Cert.ProjOIdeal.nD Cert.ProjOIdeal.τ Cert.ProjOIdeal.sig) → Buf (Elt Ideal) ℓ) (g : Dev Cert.ProjOIdeal.nD → PrngReg)
    (m' : (ℓ : Loc Cert.ProjORefIdeal.nD Cert.ProjORefIdeal.τ Cert.ProjORefIdeal.sig) → Buf (Elt Ideal) ℓ) (g' : Dev Cert.ProjORefIdeal.nD → PrngReg), Pre_ProjOIdeal m →
    (∀ c : Dev Cert.ProjOIdeal.nD,
      m' ((c.tc : Thread Cert.ProjORefIdeal.nD Cert.ProjORefIdeal.τ).loc Cert.ProjORefIdeal.main_arg0) = m ((c.tc : Thread Cert.ProjOIdeal.nD Cert.ProjOIdeal.τ).loc Cert.ProjOIdeal.main_arg0)
      ∧ m' ((c.tc : Thread Cert.ProjORefIdeal.nD Cert.ProjORefIdeal.τ).loc Cert.ProjORefIdeal.main_arg1) = m ((c.tc : Thread Cert.ProjOIdeal.nD Cert.ProjOIdeal.τ).loc Cert.ProjOIdeal.main_arg1)
      ∧ m' ((c.tc : Thread Cert.ProjORefIdeal.nD Cert.ProjORefIdeal.τ).loc Cert.ProjORefIdeal.main_arg2) = m ((c.tc : Thread Cert.ProjOIdeal.nD Cert.ProjOIdeal.τ).loc Cert.ProjOIdeal.main_arg2)
      ∧ m' ((c.tc : Thread Cert.ProjORefIdeal.nD Cert.ProjORefIdeal.τ).loc Cert.ProjORefIdeal.main_arg3) = m ((c.tc : Thread Cert.ProjOIdeal.nD Cert.ProjOIdeal.τ).loc Cert.ProjOIdeal.main_arg3)) →
    ∃ (v0 : (c : Dev Cert.ProjOIdeal.nD) → Buf (Elt Ideal) ((c.tc : Thread Cert.ProjOIdeal.nD Cert.ProjOIdeal.τ).loc Cert.ProjOIdeal.main_v8_0)) (v1 : (c : Dev Cert.ProjOIdeal.nD) → Buf (Elt Ideal) ((c.tc : Thread Cert.ProjOIdeal.nD Cert.ProjOIdeal.τ).loc Cert.ProjOIdeal.main_v8_1)) (v2 : (c : Dev Cert.ProjOIdeal.nD) → Buf (Elt Ideal) ((c.tc : Thread Cert.ProjOIdeal.nD Cert.ProjOIdeal.τ).loc Cert.ProjOIdeal.main_v8_2)) (v3 : (c : Dev Cert.ProjOIdeal.nD) → Buf (Elt Ideal) ((c.tc : Thread Cert.ProjOIdeal.nD Cert.ProjOIdeal.τ).loc Cert.ProjOIdeal.main_v8_3)),
      θ_run (Cert.ProjOIdeal.defs (F := Ideal)) (onTc (τ := Cert.ProjOIdeal.τ) (Cert.ProjOIdeal.main (F := Ideal))) ⟨m, fun _ => 0, g⟩ (fun r => ∀ c : Dev Cert.ProjOIdeal.nD,
          r.2.mem ((c.tc : Thread Cert.ProjOIdeal.nD Cert.ProjOIdeal.τ).loc Cert.ProjOIdeal.main_v8_0) = v0 c
          ∧ r.2.mem ((c.tc : Thread Cert.ProjOIdeal.nD Cert.ProjOIdeal.τ).loc Cert.ProjOIdeal.main_v8_1) = v1 c
          ∧ r.2.mem ((c.tc : Thread Cert.ProjOIdeal.nD Cert.ProjOIdeal.τ).loc Cert.ProjOIdeal.main_v8_2) = v2 c
          ∧ r.2.mem ((c.tc : Thread Cert.ProjOIdeal.nD Cert.ProjOIdeal.τ).loc Cert.ProjOIdeal.main_v8_3) = v3 c
          ∧ r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
          ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1)
          ∧ r.2.mem ((c.tc : Thread Cert.ProjOIdeal.nD Cert.ProjOIdeal.τ).loc Cert.ProjOIdeal.main_arg2) = m ((c.tc : Thread Cert.ProjOIdeal.nD Cert.ProjOIdeal.τ).loc Cert.ProjOIdeal.main_arg2)
          ∧ r.2.mem ((c.tc : Thread Cert.ProjOIdeal.nD Cert.ProjOIdeal.τ).loc Cert.ProjOIdeal.main_arg3) = m ((c.tc : Thread Cert.ProjOIdeal.nD Cert.ProjOIdeal.τ).loc Cert.ProjOIdeal.main_arg3))
      ∧ θ_run (Cert.ProjORefIdeal.defs (F := Ideal)) (onTc (τ := Cert.ProjORefIdeal.τ) (Cert.ProjORefIdeal.main (F := Ideal))) ⟨m', fun _ => 0, g'⟩ (fun r => ∀ c : Dev Cert.ProjORefIdeal.nD,
          r.2.mem ((c.tc : Thread Cert.ProjORefIdeal.nD Cert.ProjORefIdeal.τ).loc Cert.ProjORefIdeal.main_v19) = v0 c
          ∧ r.2.mem ((c.tc : Thread Cert.ProjORefIdeal.nD Cert.ProjORefIdeal.τ).loc Cert.ProjORefIdeal.main_v20) = v1 c
          ∧ r.2.mem ((c.tc : Thread Cert.ProjORefIdeal.nD Cert.ProjORefIdeal.τ).loc Cert.ProjORefIdeal.main_v21) = v2 c
          ∧ r.2.mem ((c.tc : Thread Cert.ProjORefIdeal.nD Cert.ProjORefIdeal.τ).loc Cert.ProjORefIdeal.main_v22) = v3 c
          ∧ r.2.mem ((c.tc : Thread Cert.ProjORefIdeal.nD Cert.ProjORefIdeal.τ).loc Cert.ProjORefIdeal.main_arg0) = m' ((c.tc : Thread Cert.ProjORefIdeal.nD Cert.ProjORefIdeal.τ).loc Cert.ProjORefIdeal.main_arg0)
          ∧ r.2.mem ((c.tc : Thread Cert.ProjORefIdeal.nD Cert.ProjORefIdeal.τ).loc Cert.ProjORefIdeal.main_arg1) = m' ((c.tc : Thread Cert.ProjORefIdeal.nD Cert.ProjORefIdeal.τ).loc Cert.ProjORefIdeal.main_arg1)
          ∧ r.2.mem ((c.tc : Thread Cert.ProjORefIdeal.nD Cert.ProjORefIdeal.τ).loc Cert.ProjORefIdeal.main_arg2) = m' ((c.tc : Thread Cert.ProjORefIdeal.nD Cert.ProjORefIdeal.τ).loc Cert.ProjORefIdeal.main_arg2)
          ∧ r.2.mem ((c.tc : Thread Cert.ProjORefIdeal.nD Cert.ProjORefIdeal.τ).loc Cert.ProjORefIdeal.main_arg3) = m' ((c.tc : Thread Cert.ProjORefIdeal.nD Cert.ProjORefIdeal.τ).loc Cert.ProjORefIdeal.main_arg3))

def preserves_OutE_OutEIdeal : Prop :=
  True

def algebraic_OutEIdeal_OutERefIdeal [hOutEIdeal : Cert.OutEIdeal.Facts] [hOutERefIdeal : Cert.OutERefIdeal.Facts] : Prop :=
  ∀ (m : (ℓ : Loc Cert.OutEIdeal.nD Cert.OutEIdeal.τ Cert.OutEIdeal.sig) → Buf (Elt Ideal) ℓ) (g : Dev Cert.OutEIdeal.nD → PrngReg)
    (m' : (ℓ : Loc Cert.OutERefIdeal.nD Cert.OutERefIdeal.τ Cert.OutERefIdeal.sig) → Buf (Elt Ideal) ℓ) (g' : Dev Cert.OutERefIdeal.nD → PrngReg), Pre_OutEIdeal m →
    (∀ c : Dev Cert.OutEIdeal.nD,
      m' ((c.tc : Thread Cert.OutERefIdeal.nD Cert.OutERefIdeal.τ).loc Cert.OutERefIdeal.main_arg0) = m ((c.tc : Thread Cert.OutEIdeal.nD Cert.OutEIdeal.τ).loc Cert.OutEIdeal.main_arg0)
      ∧ m' ((c.tc : Thread Cert.OutERefIdeal.nD Cert.OutERefIdeal.τ).loc Cert.OutERefIdeal.main_arg1) = m ((c.tc : Thread Cert.OutEIdeal.nD Cert.OutEIdeal.τ).loc Cert.OutEIdeal.main_arg1)
      ∧ m' ((c.tc : Thread Cert.OutERefIdeal.nD Cert.OutERefIdeal.τ).loc Cert.OutERefIdeal.main_arg2) = m ((c.tc : Thread Cert.OutEIdeal.nD Cert.OutEIdeal.τ).loc Cert.OutEIdeal.main_arg2)
      ∧ m' ((c.tc : Thread Cert.OutERefIdeal.nD Cert.OutERefIdeal.τ).loc Cert.OutERefIdeal.main_arg3) = m ((c.tc : Thread Cert.OutEIdeal.nD Cert.OutEIdeal.τ).loc Cert.OutEIdeal.main_arg3)
      ∧ m' ((c.tc : Thread Cert.OutERefIdeal.nD Cert.OutERefIdeal.τ).loc Cert.OutERefIdeal.main_arg4) = m ((c.tc : Thread Cert.OutEIdeal.nD Cert.OutEIdeal.τ).loc Cert.OutEIdeal.main_arg4)) →
    ∃ (v0 : (c : Dev Cert.OutEIdeal.nD) → Buf (Elt Ideal) ((c.tc : Thread Cert.OutEIdeal.nD Cert.OutEIdeal.τ).loc Cert.OutEIdeal.main_v4)),
      θ_run (Cert.OutEIdeal.defs (F := Ideal)) (onTc (τ := Cert.OutEIdeal.τ) (Cert.OutEIdeal.main (F := Ideal))) ⟨m, fun _ => 0, g⟩ (fun r => ∀ c : Dev Cert.OutEIdeal.nD,
          r.2.mem ((c.tc : Thread Cert.OutEIdeal.nD Cert.OutEIdeal.τ).loc Cert.OutEIdeal.main_v4) = v0 c
          ∧ r.2.mem ((c.tc : Thread Cert.OutEIdeal.nD Cert.OutEIdeal.τ).loc Cert.OutEIdeal.main_arg0) = m ((c.tc : Thread Cert.OutEIdeal.nD Cert.OutEIdeal.τ).loc Cert.OutEIdeal.main_arg0)
          ∧ r.2.mem ((c.tc : Thread Cert.OutEIdeal.nD Cert.OutEIdeal.τ).loc Cert.OutEIdeal.main_arg1) = m ((c.tc : Thread Cert.OutEIdeal.nD Cert.OutEIdeal.τ).loc Cert.OutEIdeal.main_arg1)
          ∧ r.2.mem ((c.tc : Thread Cert.OutEIdeal.nD Cert.OutEIdeal.τ).loc Cert.OutEIdeal.main_arg2) = m ((c.tc : Thread Cert.OutEIdeal.nD Cert.OutEIdeal.τ).loc Cert.OutEIdeal.main_arg2)
          ∧ r.2.mem ((c.tc : Thread Cert.OutEIdeal.nD Cert.OutEIdeal.τ).loc Cert.OutEIdeal.main_arg3) = m ((c.tc : Thread Cert.OutEIdeal.nD Cert.OutEIdeal.τ).loc Cert.OutEIdeal.main_arg3)
          ∧ r.2.mem ((c.tc : Thread Cert.OutEIdeal.nD Cert.OutEIdeal.τ).loc Cert.OutEIdeal.main_arg4) = m ((c.tc : Thread Cert.OutEIdeal.nD Cert.OutEIdeal.τ).loc Cert.OutEIdeal.main_arg4))
      ∧ θ_run (Cert.OutERefIdeal.defs (F := Ideal)) (onTc (τ := Cert.OutERefIdeal.τ) (Cert.OutERefIdeal.main (F := Ideal))) ⟨m', fun _ => 0, g'⟩ (fun r => ∀ c : Dev Cert.OutERefIdeal.nD,
          r.2.mem ((c.tc : Thread Cert.OutERefIdeal.nD Cert.OutERefIdeal.τ).loc Cert.OutERefIdeal.main_v15) = v0 c
          ∧ r.2.mem ((c.tc : Thread Cert.OutERefIdeal.nD Cert.OutERefIdeal.τ).loc Cert.OutERefIdeal.main_arg0) = m' ((c.tc : Thread Cert.OutERefIdeal.nD Cert.OutERefIdeal.τ).loc Cert.OutERefIdeal.main_arg0)
          ∧ r.2.mem ((c.tc : Thread Cert.OutERefIdeal.nD Cert.OutERefIdeal.τ).loc Cert.OutERefIdeal.main_arg1) = m' ((c.tc : Thread Cert.OutERefIdeal.nD Cert.OutERefIdeal.τ).loc Cert.OutERefIdeal.main_arg1)
          ∧ r.2.mem ((c.tc : Thread Cert.OutERefIdeal.nD Cert.OutERefIdeal.τ).loc Cert.OutERefIdeal.main_arg2) = m' ((c.tc : Thread Cert.OutERefIdeal.nD Cert.OutERefIdeal.τ).loc Cert.OutERefIdeal.main_arg2)
          ∧ r.2.mem ((c.tc : Thread Cert.OutERefIdeal.nD Cert.OutERefIdeal.τ).loc Cert.OutERefIdeal.main_arg3) = m' ((c.tc : Thread Cert.OutERefIdeal.nD Cert.OutERefIdeal.τ).loc Cert.OutERefIdeal.main_arg3)
          ∧ r.2.mem ((c.tc : Thread Cert.OutERefIdeal.nD Cert.OutERefIdeal.τ).loc Cert.OutERefIdeal.main_arg4) = m' ((c.tc : Thread Cert.OutERefIdeal.nD Cert.OutERefIdeal.τ).loc Cert.OutERefIdeal.main_arg4))

def preserves_OutO_OutOIdeal : Prop :=
  True

def algebraic_OutOIdeal_OutORefIdeal [hOutOIdeal : Cert.OutOIdeal.Facts] [hOutORefIdeal : Cert.OutORefIdeal.Facts] : Prop :=
  ∀ (m : (ℓ : Loc Cert.OutOIdeal.nD Cert.OutOIdeal.τ Cert.OutOIdeal.sig) → Buf (Elt Ideal) ℓ) (g : Dev Cert.OutOIdeal.nD → PrngReg)
    (m' : (ℓ : Loc Cert.OutORefIdeal.nD Cert.OutORefIdeal.τ Cert.OutORefIdeal.sig) → Buf (Elt Ideal) ℓ) (g' : Dev Cert.OutORefIdeal.nD → PrngReg), Pre_OutOIdeal m →
    (∀ c : Dev Cert.OutOIdeal.nD,
      m' ((c.tc : Thread Cert.OutORefIdeal.nD Cert.OutORefIdeal.τ).loc Cert.OutORefIdeal.main_arg0) = m ((c.tc : Thread Cert.OutOIdeal.nD Cert.OutOIdeal.τ).loc Cert.OutOIdeal.main_arg0)
      ∧ m' ((c.tc : Thread Cert.OutORefIdeal.nD Cert.OutORefIdeal.τ).loc Cert.OutORefIdeal.main_arg1) = m ((c.tc : Thread Cert.OutOIdeal.nD Cert.OutOIdeal.τ).loc Cert.OutOIdeal.main_arg1)
      ∧ m' ((c.tc : Thread Cert.OutORefIdeal.nD Cert.OutORefIdeal.τ).loc Cert.OutORefIdeal.main_arg2) = m ((c.tc : Thread Cert.OutOIdeal.nD Cert.OutOIdeal.τ).loc Cert.OutOIdeal.main_arg2)
      ∧ m' ((c.tc : Thread Cert.OutORefIdeal.nD Cert.OutORefIdeal.τ).loc Cert.OutORefIdeal.main_arg3) = m ((c.tc : Thread Cert.OutOIdeal.nD Cert.OutOIdeal.τ).loc Cert.OutOIdeal.main_arg3)) →
    ∃ (v0 : (c : Dev Cert.OutOIdeal.nD) → Buf (Elt Ideal) ((c.tc : Thread Cert.OutOIdeal.nD Cert.OutOIdeal.τ).loc Cert.OutOIdeal.main_v2)),
      θ_run (Cert.OutOIdeal.defs (F := Ideal)) (onTc (τ := Cert.OutOIdeal.τ) (Cert.OutOIdeal.main (F := Ideal))) ⟨m, fun _ => 0, g⟩ (fun r => ∀ c : Dev Cert.OutOIdeal.nD,
          r.2.mem ((c.tc : Thread Cert.OutOIdeal.nD Cert.OutOIdeal.τ).loc Cert.OutOIdeal.main_v2) = v0 c
          ∧ r.2.mem ((c.tc : Thread Cert.OutOIdeal.nD Cert.OutOIdeal.τ).loc Cert.OutOIdeal.main_arg0) = m ((c.tc : Thread Cert.OutOIdeal.nD Cert.OutOIdeal.τ).loc Cert.OutOIdeal.main_arg0)
          ∧ r.2.mem ((c.tc : Thread Cert.OutOIdeal.nD Cert.OutOIdeal.τ).loc Cert.OutOIdeal.main_arg1) = m ((c.tc : Thread Cert.OutOIdeal.nD Cert.OutOIdeal.τ).loc Cert.OutOIdeal.main_arg1)
          ∧ r.2.mem ((c.tc : Thread Cert.OutOIdeal.nD Cert.OutOIdeal.τ).loc Cert.OutOIdeal.main_arg2) = m ((c.tc : Thread Cert.OutOIdeal.nD Cert.OutOIdeal.τ).loc Cert.OutOIdeal.main_arg2)
          ∧ r.2.mem ((c.tc : Thread Cert.OutOIdeal.nD Cert.OutOIdeal.τ).loc Cert.OutOIdeal.main_arg3) = m ((c.tc : Thread Cert.OutOIdeal.nD Cert.OutOIdeal.τ).loc Cert.OutOIdeal.main_arg3))
      ∧ θ_run (Cert.OutORefIdeal.defs (F := Ideal)) (onTc (τ := Cert.OutORefIdeal.τ) (Cert.OutORefIdeal.main (F := Ideal))) ⟨m', fun _ => 0, g'⟩ (fun r => ∀ c : Dev Cert.OutORefIdeal.nD,
          r.2.mem ((c.tc : Thread Cert.OutORefIdeal.nD Cert.OutORefIdeal.τ).loc Cert.OutORefIdeal.main_v14) = v0 c
          ∧ r.2.mem ((c.tc : Thread Cert.OutORefIdeal.nD Cert.OutORefIdeal.τ).loc Cert.OutORefIdeal.main_arg0) = m' ((c.tc : Thread Cert.OutORefIdeal.nD Cert.OutORefIdeal.τ).loc Cert.OutORefIdeal.main_arg0)
          ∧ r.2.mem ((c.tc : Thread Cert.OutORefIdeal.nD Cert.OutORefIdeal.τ).loc Cert.OutORefIdeal.main_arg1) = m' ((c.tc : Thread Cert.OutORefIdeal.nD Cert.OutORefIdeal.τ).loc Cert.OutORefIdeal.main_arg1)
          ∧ r.2.mem ((c.tc : Thread Cert.OutORefIdeal.nD Cert.OutORefIdeal.τ).loc Cert.OutORefIdeal.main_arg2) = m' ((c.tc : Thread Cert.OutORefIdeal.nD Cert.OutORefIdeal.τ).loc Cert.OutORefIdeal.main_arg2)
          ∧ r.2.mem ((c.tc : Thread Cert.OutORefIdeal.nD Cert.OutORefIdeal.τ).loc Cert.OutORefIdeal.main_arg3) = m' ((c.tc : Thread Cert.OutORefIdeal.nD Cert.OutORefIdeal.τ).loc Cert.OutORefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v73) = v0 c
          ∧ r.2.mem ((c.tc : Thread Cert.FfnRefIdeal.nD Cert.FfnRefIdeal.τ).loc Cert.FfnRefIdeal.main_v74) = v1 c
          ∧ r.2.mem ((c.tc : Thread Cert.FfnRefIdeal.nD Cert.FfnRefIdeal.τ).loc Cert.FfnRefIdeal.main_v75) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_ProjOS_ProjOSIdeal : Prop :=
  True

def algebraic_ProjOSIdeal_ProjOSRefIdeal [hProjOSIdeal : Cert.ProjOSIdeal.Facts] [hProjOSRefIdeal : Cert.ProjOSRefIdeal.Facts] : Prop :=
  ∀ (m : (ℓ : Loc Cert.ProjOSIdeal.nD Cert.ProjOSIdeal.τ Cert.ProjOSIdeal.sig) → Buf (Elt Ideal) ℓ) (g : Dev Cert.ProjOSIdeal.nD → PrngReg)
    (m' : (ℓ : Loc Cert.ProjOSRefIdeal.nD Cert.ProjOSRefIdeal.τ Cert.ProjOSRefIdeal.sig) → Buf (Elt Ideal) ℓ) (g' : Dev Cert.ProjOSRefIdeal.nD → PrngReg), Pre_ProjOSIdeal m →
    (∀ c : Dev Cert.ProjOSIdeal.nD,
      m' ((c.tc : Thread Cert.ProjOSRefIdeal.nD Cert.ProjOSRefIdeal.τ).loc Cert.ProjOSRefIdeal.main_arg0) = m ((c.tc : Thread Cert.ProjOSIdeal.nD Cert.ProjOSIdeal.τ).loc Cert.ProjOSIdeal.main_arg0)
      ∧ m' ((c.tc : Thread Cert.ProjOSRefIdeal.nD Cert.ProjOSRefIdeal.τ).loc Cert.ProjOSRefIdeal.main_arg1) = m ((c.tc : Thread Cert.ProjOSIdeal.nD Cert.ProjOSIdeal.τ).loc Cert.ProjOSIdeal.main_arg1)
      ∧ m' ((c.tc : Thread Cert.ProjOSRefIdeal.nD Cert.ProjOSRefIdeal.τ).loc Cert.ProjOSRefIdeal.main_arg2) = m ((c.tc : Thread Cert.ProjOSIdeal.nD Cert.ProjOSIdeal.τ).loc Cert.ProjOSIdeal.main_arg2)
      ∧ m' ((c.tc : Thread Cert.ProjOSRefIdeal.nD Cert.ProjOSRefIdeal.τ).loc Cert.ProjOSRefIdeal.main_arg3) = m ((c.tc : Thread Cert.ProjOSIdeal.nD Cert.ProjOSIdeal.τ).loc Cert.ProjOSIdeal.main_arg3)) →
    ∃ (v0 : (c : Dev Cert.ProjOSIdeal.nD) → Buf (Elt Ideal) ((c.tc : Thread Cert.ProjOSIdeal.nD Cert.ProjOSIdeal.τ).loc Cert.ProjOSIdeal.main_v8_0)) (v1 : (c : Dev Cert.ProjOSIdeal.nD) → Buf (Elt Ideal) ((c.tc : Thread Cert.ProjOSIdeal.nD Cert.ProjOSIdeal.τ).loc Cert.ProjOSIdeal.main_v8_1)) (v2 : (c : Dev Cert.ProjOSIdeal.nD) → Buf (Elt Ideal) ((c.tc : Thread Cert.ProjOSIdeal.nD Cert.ProjOSIdeal.τ).loc Cert.ProjOSIdeal.main_v8_2)) (v3 : (c : Dev Cert.ProjOSIdeal.nD) → Buf (Elt Ideal) ((c.tc : Thread Cert.ProjOSIdeal.nD Cert.ProjOSIdeal.τ).loc Cert.ProjOSIdeal.main_v8_3)),
      θ_run (Cert.ProjOSIdeal.defs (F := Ideal)) (onTc (τ := Cert.ProjOSIdeal.τ) (Cert.ProjOSIdeal.main (F := Ideal))) ⟨m, fun _ => 0, g⟩ (fun r => ∀ c : Dev Cert.ProjOSIdeal.nD,
          r.2.mem ((c.tc : Thread Cert.ProjOSIdeal.nD Cert.ProjOSIdeal.τ).loc Cert.ProjOSIdeal.main_v8_0) = v0 c
          ∧ r.2.mem ((c.tc : Thread Cert.ProjOSIdeal.nD Cert.ProjOSIdeal.τ).loc Cert.ProjOSIdeal.main_v8_1) = v1 c
          ∧ r.2.mem ((c.tc : Thread Cert.ProjOSIdeal.nD Cert.ProjOSIdeal.τ).loc Cert.ProjOSIdeal.main_v8_2) = v2 c
          ∧ r.2.mem ((c.tc : Thread Cert.ProjOSIdeal.nD Cert.ProjOSIdeal.τ).loc Cert.ProjOSIdeal.main_v8_3) = v3 c
          ∧ r.2.mem ((c.tc : Thread Cert.ProjOSIdeal.nD Cert.ProjOSIdeal.τ).loc Cert.ProjOSIdeal.main_arg0) = m ((c.tc : Thread Cert.ProjOSIdeal.nD Cert.ProjOSIdeal.τ).loc Cert.ProjOSIdeal.main_arg0)
          ∧ r.2.mem ((c.tc : Thread Cert.ProjOSIdeal.nD Cert.ProjOSIdeal.τ).loc Cert.ProjOSIdeal.main_arg1) = m ((c.tc : Thread Cert.ProjOSIdeal.nD Cert.ProjOSIdeal.τ).loc Cert.ProjOSIdeal.main_arg1)
          ∧ r.2.mem ((c.tc : Thread Cert.ProjOSIdeal.nD Cert.ProjOSIdeal.τ).loc Cert.ProjOSIdeal.main_arg2) = m ((c.tc : Thread Cert.ProjOSIdeal.nD Cert.ProjOSIdeal.τ).loc Cert.ProjOSIdeal.main_arg2)
          ∧ r.2.mem ((c.tc : Thread Cert.ProjOSIdeal.nD Cert.ProjOSIdeal.τ).loc Cert.ProjOSIdeal.main_arg3) = m ((c.tc : Thread Cert.ProjOSIdeal.nD Cert.ProjOSIdeal.τ).loc Cert.ProjOSIdeal.main_arg3))
      ∧ θ_run (Cert.ProjOSRefIdeal.defs (F := Ideal)) (onTc (τ := Cert.ProjOSRefIdeal.τ) (Cert.ProjOSRefIdeal.main (F := Ideal))) ⟨m', fun _ => 0, g'⟩ (fun r => ∀ c : Dev Cert.ProjOSRefIdeal.nD,
          r.2.mem ((c.tc : Thread Cert.ProjOSRefIdeal.nD Cert.ProjOSRefIdeal.τ).loc Cert.ProjOSRefIdeal.main_v19) = v0 c
          ∧ r.2.mem ((c.tc : Thread Cert.ProjOSRefIdeal.nD Cert.ProjOSRefIdeal.τ).loc Cert.ProjOSRefIdeal.main_v20) = v1 c
          ∧ r.2.mem ((c.tc : Thread Cert.ProjOSRefIdeal.nD Cert.ProjOSRefIdeal.τ).loc Cert.ProjOSRefIdeal.main_v21) = v2 c
          ∧ r.2.mem ((c.tc : Thread Cert.ProjOSRefIdeal.nD Cert.ProjOSRefIdeal.τ).loc Cert.ProjOSRefIdeal.main_v22) = v3 c
          ∧ r.2.mem ((c.tc : Thread Cert.ProjOSRefIdeal.nD Cert.ProjOSRefIdeal.τ).loc Cert.ProjOSRefIdeal.main_arg0) = m' ((c.tc : Thread Cert.ProjOSRefIdeal.nD Cert.ProjOSRefIdeal.τ).loc Cert.ProjOSRefIdeal.main_arg0)
          ∧ r.2.mem ((c.tc : Thread Cert.ProjOSRefIdeal.nD Cert.ProjOSRefIdeal.τ).loc Cert.ProjOSRefIdeal.main_arg1) = m' ((c.tc : Thread Cert.ProjOSRefIdeal.nD Cert.ProjOSRefIdeal.τ).loc Cert.ProjOSRefIdeal.main_arg1)
          ∧ r.2.mem ((c.tc : Thread Cert.ProjOSRefIdeal.nD Cert.ProjOSRefIdeal.τ).loc Cert.ProjOSRefIdeal.main_arg2) = m' ((c.tc : Thread Cert.ProjOSRefIdeal.nD Cert.ProjOSRefIdeal.τ).loc Cert.ProjOSRefIdeal.main_arg2)
          ∧ r.2.mem ((c.tc : Thread Cert.ProjOSRefIdeal.nD Cert.ProjOSRefIdeal.τ).loc Cert.ProjOSRefIdeal.main_arg3) = m' ((c.tc : Thread Cert.ProjOSRefIdeal.nD Cert.ProjOSRefIdeal.τ).loc Cert.ProjOSRefIdeal.main_arg3))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)
      ∧ m' ((c.tc : Thread Cert.FfnSRefIdeal.nD Cert.FfnSRefIdeal.τ).loc Cert.FfnSRefIdeal.main_arg7) = m ((c.tc : Thread Cert.FfnSIdeal.nD Cert.FfnSIdeal.τ).loc Cert.FfnSIdeal.main_arg7)) →
    ∃ (v0 : (c : Dev Cert.FfnSIdeal.nD) → Buf (Elt Ideal) ((c.tc : Thread Cert.FfnSIdeal.nD Cert.FfnSIdeal.τ).loc Cert.FfnSIdeal.main_v9_0)) (v1 : (c : Dev Cert.FfnSIdeal.nD) → Buf (Elt Ideal) ((c.tc : Thread Cert.FfnSIdeal.nD Cert.FfnSIdeal.τ).loc Cert.FfnSIdeal.main_v9_1)) (v2 : (c : Dev Cert.FfnSIdeal.nD) → Buf (Elt Ideal) ((c.tc : Thread Cert.FfnSIdeal.nD Cert.FfnSIdeal.τ).loc Cert.FfnSIdeal.main_v9_2)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v9_0) = v0 c
          ∧ r.2.mem ((c.tc : Thread Cert.FfnSIdeal.nD Cert.FfnSIdeal.τ).loc Cert.FfnSIdeal.main_v9_1) = v1 c
          ∧ r.2.mem ((c.tc : Thread Cert.FfnSIdeal.nD Cert.FfnSIdeal.τ).loc Cert.FfnSIdeal.main_v9_2) = v2 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v68) = v0 c
          ∧ r.2.mem ((c.tc : Thread Cert.FfnSRefIdeal.nD Cert.FfnSRefIdeal.τ).loc Cert.FfnSRefIdeal.main_v69) = v1 c
          ∧ r.2.mem ((c.tc : Thread Cert.FfnSRefIdeal.nD Cert.FfnSRefIdeal.τ).loc Cert.FfnSRefIdeal.main_v70) = v2 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6)
          ∧ r.2.mem ((c.tc : Thread Cert.FfnSRefIdeal.nD Cert.FfnSRefIdeal.τ).loc Cert.FfnSRefIdeal.main_arg7) = m' ((c.tc : Thread Cert.FfnSRefIdeal.nD Cert.FfnSRefIdeal.τ).loc Cert.FfnSRefIdeal.main_arg7))

def Claim : Prop :=
  ∃ (hFox : Cert.Fox.Facts) (hFoxIdeal : Cert.FoxIdeal.Facts) (hFoxRefIdeal : Cert.FoxRefIdeal.Facts) (hCums : Cert.Cums.Facts) (hCumsIdeal : Cert.CumsIdeal.Facts) (hCumsRefIdeal : Cert.CumsRefIdeal.Facts) (hProjE : Cert.ProjE.Facts) (hProjEIdeal : Cert.ProjEIdeal.Facts) (hProjERefIdeal : Cert.ProjERefIdeal.Facts) (hProjES : Cert.ProjES.Facts) (hProjESIdeal : Cert.ProjESIdeal.Facts) (hProjESRefIdeal : Cert.ProjESRefIdeal.Facts) (hProjO : Cert.ProjO.Facts) (hProjOIdeal : Cert.ProjOIdeal.Facts) (hProjORefIdeal : Cert.ProjORefIdeal.Facts) (hOutE : Cert.OutE.Facts) (hOutEIdeal : Cert.OutEIdeal.Facts) (hOutERefIdeal : Cert.OutERefIdeal.Facts) (hOutO : Cert.OutO.Facts) (hOutOIdeal : Cert.OutOIdeal.Facts) (hOutORefIdeal : Cert.OutORefIdeal.Facts) (hFfn : Cert.Ffn.Facts) (hFfnIdeal : Cert.FfnIdeal.Facts) (hFfnRefIdeal : Cert.FfnRefIdeal.Facts) (hProjOS : Cert.ProjOS.Facts) (hProjOSIdeal : Cert.ProjOSIdeal.Facts) (hProjOSRefIdeal : Cert.ProjOSRefIdeal.Facts) (hFfnS : Cert.FfnS.Facts) (hFfnSIdeal : Cert.FfnSIdeal.Facts) (hFfnSRefIdeal : Cert.FfnSRefIdeal.Facts) (hPre_scores_finite : Cert.Pre_scores_finite.Facts) (hPre_split_finite : Cert.Pre_split_finite.Facts) (hPre_sample_split_finite : Cert.Pre_sample_split_finite.Facts),
    quiescent_Fox (hFox := hFox)
    ∧ quiescent_FoxIdeal (hFoxIdeal := hFoxIdeal)
    ∧ quiescent_FoxIdeal_pre_scores_finite (hFoxIdeal := hFoxIdeal) (hPre_scores_finite := hPre_scores_finite)
    ∧ quiescent_FoxRefIdeal (hFoxRefIdeal := hFoxRefIdeal)
    ∧ quiescent_FoxRefIdeal_pre_scores_finite (hFoxRefIdeal := hFoxRefIdeal) (hPre_scores_finite := hPre_scores_finite)
    ∧ quiescent_Cums (hCums := hCums)
    ∧ quiescent_CumsIdeal (hCumsIdeal := hCumsIdeal)
    ∧ quiescent_CumsRefIdeal (hCumsRefIdeal := hCumsRefIdeal)
    ∧ quiescent_ProjE (hProjE := hProjE)
    ∧ quiescent_ProjEIdeal (hProjEIdeal := hProjEIdeal)
    ∧ quiescent_ProjEIdeal_pre_split_finite (hProjEIdeal := hProjEIdeal) (hPre_split_finite := hPre_split_finite)
    ∧ quiescent_ProjERefIdeal (hProjERefIdeal := hProjERefIdeal)
    ∧ quiescent_ProjERefIdeal_pre_split_finite (hProjERefIdeal := hProjERefIdeal) (hPre_split_finite := hPre_split_finite)
    ∧ quiescent_ProjES (hProjES := hProjES)
    ∧ quiescent_ProjESIdeal (hProjESIdeal := hProjESIdeal)
    ∧ quiescent_ProjESIdeal_pre_sample_split_finite (hProjESIdeal := hProjESIdeal) (hPre_sample_split_finite := hPre_sample_split_finite)
    ∧ quiescent_ProjESRefIdeal (hProjESRefIdeal := hProjESRefIdeal)
    ∧ quiescent_ProjESRefIdeal_pre_sample_split_finite (hProjESRefIdeal := hProjESRefIdeal) (hPre_sample_split_finite := hPre_sample_split_finite)
    ∧ quiescent_ProjO (hProjO := hProjO)
    ∧ quiescent_ProjOIdeal (hProjOIdeal := hProjOIdeal)
    ∧ quiescent_ProjORefIdeal (hProjORefIdeal := hProjORefIdeal)
    ∧ quiescent_OutE (hOutE := hOutE)
    ∧ quiescent_OutEIdeal (hOutEIdeal := hOutEIdeal)
    ∧ quiescent_OutERefIdeal (hOutERefIdeal := hOutERefIdeal)
    ∧ quiescent_OutO (hOutO := hOutO)
    ∧ quiescent_OutOIdeal (hOutOIdeal := hOutOIdeal)
    ∧ quiescent_OutORefIdeal (hOutORefIdeal := hOutORefIdeal)
    ∧ quiescent_Ffn (hFfn := hFfn)
    ∧ quiescent_FfnIdeal (hFfnIdeal := hFfnIdeal)
    ∧ quiescent_FfnRefIdeal (hFfnRefIdeal := hFfnRefIdeal)
    ∧ quiescent_ProjOS (hProjOS := hProjOS)
    ∧ quiescent_ProjOSIdeal (hProjOSIdeal := hProjOSIdeal)
    ∧ quiescent_ProjOSRefIdeal (hProjOSRefIdeal := hProjOSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ preserves_Fox_FoxIdeal
    ∧ algebraic_FoxIdeal_FoxRefIdeal_pre_scores_finite (hFoxIdeal := hFoxIdeal) (hFoxRefIdeal := hFoxRefIdeal) (hPre_scores_finite := hPre_scores_finite)
    ∧ preserves_Cums_CumsIdeal
    ∧ algebraic_CumsIdeal_CumsRefIdeal (hCumsIdeal := hCumsIdeal) (hCumsRefIdeal := hCumsRefIdeal)
    ∧ preserves_ProjE_ProjEIdeal
    ∧ algebraic_ProjEIdeal_ProjERefIdeal_pre_split_finite (hProjEIdeal := hProjEIdeal) (hProjERefIdeal := hProjERefIdeal) (hPre_split_finite := hPre_split_finite)
    ∧ preserves_ProjES_ProjESIdeal
    ∧ algebraic_ProjESIdeal_ProjESRefIdeal_pre_sample_split_finite (hProjESIdeal := hProjESIdeal) (hProjESRefIdeal := hProjESRefIdeal) (hPre_sample_split_finite := hPre_sample_split_finite)
    ∧ preserves_ProjO_ProjOIdeal
    ∧ algebraic_ProjOIdeal_ProjORefIdeal (hProjOIdeal := hProjOIdeal) (hProjORefIdeal := hProjORefIdeal)
    ∧ preserves_OutE_OutEIdeal
    ∧ algebraic_OutEIdeal_OutERefIdeal (hOutEIdeal := hOutEIdeal) (hOutERefIdeal := hOutERefIdeal)
    ∧ preserves_OutO_OutOIdeal
    ∧ algebraic_OutOIdeal_OutORefIdeal (hOutOIdeal := hOutOIdeal) (hOutORefIdeal := hOutORefIdeal)
    ∧ preserves_Ffn_FfnIdeal
    ∧ algebraic_FfnIdeal_FfnRefIdeal (hFfnIdeal := hFfnIdeal) (hFfnRefIdeal := hFfnRefIdeal)
    ∧ preserves_ProjOS_ProjOSIdeal
    ∧ algebraic_ProjOSIdeal_ProjOSRefIdeal (hProjOSIdeal := hProjOSIdeal) (hProjOSRefIdeal := hProjOSRefIdeal)
    ∧ preserves_FfnS_FfnSIdeal
    ∧ algebraic_FfnSIdeal_FfnSRefIdeal (hFfnSIdeal := hFfnSIdeal) (hFfnSRefIdeal := hFfnSRefIdeal)
-- ==== Pre_sample_split_finite.lean ====
abbrev S32x1024 : Shape := ⟨2, ![32, 1024]⟩
abbrev S1024 : Shape := ⟨1, ![1024]⟩
abbrev S1024x3592 : Shape := ⟨2, ![1024, 3592]⟩
abbrev S4 : Shape := ⟨1, ![4]⟩
abbrev S_ : Shape := ⟨0, ![]⟩
abbrev S1024x512 : Shape := ⟨2, ![1024, 512]⟩

class Facts : Prop where
  bcast_S_S32x1024 : S_.BroadcastsInDim S32x1024 (![] : Fin 0 → Fin S32x1024.rank)
  bcast_S_S1024 : S_.BroadcastsInDim S1024 (![] : Fin 0 → Fin S1024.rank)
  slices_S1024x3592_S1024x512_0_0 : S1024x3592.Slices ![0, 0] S1024x512
  bcast_S_S1024x512 : S_.BroadcastsInDim S1024x512 (![] : Fin 0 → Fin S1024x512.rank)

variable [Facts]

def fn {F : FTy → Type} [FloatOps F] (main_arg0 : FVec F S32x1024 .f32) (main_arg1 : FVec F S1024 .f32) (main_arg2 : FVec F S1024x3592 .f32) (main_arg3 : FVec F S4 .f32) (main_arg4 : FVec F S4 .f32) : IVec S32x1024 1 × IVec S1024 1 × IVec S1024x512 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x512 .f32 := (extractStridedSlice S1024x512 ![0, 0] · slices_S1024x3592_S1024x512_0_0) main_arg2
  let main_v7 : FVec F S1024x512 .f32 := Host.absf main_v6
  let main_cst_1 : FVec F S_ .f32 := constant S_ .f32 0x7F800000#32
  let main_v8 : FVec F S1024x512 .f32 := broadcastInDim S1024x512 ![] bcast_S_S1024x512 main_cst_1
  let main_v9 : IVec S1024x512 1 := cmpf .olt main_v7 main_v8
  (main_v2, main_v5, main_v9)
-- ==== Pre_scores_finite.lean ====
abbrev S16384x1024 : Shape := ⟨2, ![16384, 1024]⟩
abbrev S8x2x16384 : Shape := ⟨3, ![8, 2, 16384]⟩
abbrev S_ : Shape := ⟨0, ![]⟩

class Facts : Prop where
  bcast_S_S16384x1024 : S_.BroadcastsInDim S16384x1024 (![] : Fin 0 → Fin S16384x1024.rank)
  bcast_S_S8x2x16384 : S_.BroadcastsInDim S8x2x16384 (![] : Fin 0 → Fin S8x2x16384.rank)

variable [Facts]

def fn {F : FTy → Type} [FloatOps F] (main_arg0 : FVec F S16384x1024 .f32) (main_arg1 : FVec F S16384x1024 .f32) (main_arg2 : FVec F S16384x1024 .f32) (main_arg3 : FVec F S8x2x16384 .f32) : IVec S16384x1024 1 × IVec S16384x1024 1 × IVec S8x2x16384 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S8x2x16384 .f32 := Host.absf main_arg3
  let main_cst_1 : FVec F S_ .f32 := constant S_ .f32 0x7F800000#32
  let main_v7 : FVec F S8x2x16384 .f32 := broadcastInDim S8x2x16384 ![] bcast_S_S8x2x16384 main_cst_1
  let main_v8 : IVec S8x2x16384 1 := cmpf .olt main_v6 main_v7
  (main_v2, main_v5, main_v8)
-- ==== Pre_split_finite.lean ====
abbrev S16384x1024 : Shape := ⟨2, ![16384, 1024]⟩
abbrev S1024 : Shape := ⟨1, ![1024]⟩
abbrev S1024x3592 : Shape := ⟨2, ![1024, 3592]⟩
abbrev S4 : Shape := ⟨1, ![4]⟩
abbrev S_ : Shape := ⟨0, ![]⟩
abbrev S1024x512 : Shape := ⟨2, ![1024, 512]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  slices_S1024x3592_S1024x512_0_0 : S1024x3592.Slices ![0, 0] S1024x512
  bcast_S_S1024x512 : S_.BroadcastsInDim S1024x512 (![] : Fin 0 → Fin S1024x512.rank)

variable [Facts]

def fn {F : FTy → Type} [FloatOps F] (main_arg0 : FVec F S16384x1024 .f32) (main_arg1 : FVec F S1024 .f32) (main_arg2 : FVec F S1024x3592 .f32) (main_arg3 : FVec F S4 .f32) (main_arg4 : FVec F S4 .f32) : IVec S16384x1024 1 × IVec S1024 1 × IVec S1024x512 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x512 .f32 := (extractStridedSlice S1024x512 ![0, 0] · slices_S1024x3592_S1024x512_0_0) main_arg2
  let main_v7 : FVec F S1024x512 .f32 := Host.absf main_v6
  let main_cst_1 : FVec F S_ .f32 := constant S_ .f32 0x7F800000#32
  let main_v8 : FVec F S1024x512 .f32 := broadcastInDim S1024x512 ![] bcast_S_S1024x512 main_cst_1
  let main_v9 : IVec S1024x512 1 := cmpf .olt main_v7 main_v8
  (main_v2, main_v5, main_v9)
-- ==== Fox.lean ====
abbrev S16384x1024 : Shape := ⟨2, ![16384, 1024]⟩
abbrev S8x2x16384 : Shape := ⟨3, ![8, 2, 16384]⟩
abbrev S256x128 : Shape := ⟨2, ![256, 128]⟩
abbrev S4096x128 : Shape := ⟨2, ![4096, 128]⟩
abbrev S1x2x4096 : Shape := ⟨3, ![1, 2, 4096]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S256 : Shape := ⟨1, ![256]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x2x16384, .f32⟩
  | .hbm, ⟨4, _⟩ => ⟨S16384x1024, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x2x4096, .f32⟩
  | .local _ .vmem, ⟨7, _⟩ => ⟨S1x2x4096, .f32⟩
  | .local _ .vmem, ⟨8, _⟩ => ⟨S256x128, .f32⟩
  | .local _ .vmem, ⟨9, _⟩ => ⟨S256x128, .f32⟩
  | .local _ .vmem, ⟨10, _⟩ => ⟨S4096x128, .bf16⟩
  | .local _ .vmem, ⟨11, _⟩ => ⟨S4096x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg2 : BitVec 32 := BitVec.ofNat 32 (i 2).val
  let c256_i32 : BitVec 32 := 256#32
  let v25 : BitVec 32 := Scalar.muli arg2 c256_i32
  v25
def k0_off1 (i : grid0.Coords) : Fin 2 → Nat :=
  let arg2 : BitVec 32 := BitVec.ofNat 32 (i 2).val
  let c256_i32 : BitVec 32 := 256#32
  let v25 : BitVec 32 := Scalar.muli arg2 c256_i32
  let v26 : BitVec 32 := v25
  let v27 : Index := Scalar.indexCast v26
  let c0_11 : Index := 0#32
  ![v27.toNat, 0]
def k0_off2 (i : grid0.Coords) : Fin 3 → Nat :=
  let c0_14 : Index := 0#32
  let c0_15 : Index := 0#32
  let arg2 : BitVec 32 := BitVec.ofNat 32 (i 2).val
  let c256_i32 : BitVec 32 := 256#32
  let v25 : BitVec 32 := Scalar.muli arg2 c256_i32
  let v26 : BitVec 32 := v25
  let v32 : Index := Scalar.indexCast v26
  ![0, 0, v32.toNat]
def k0_off3 (i : grid0.Coords) : Fin 3 → Nat :=
  let c0_21 : Index := 0#32
  let c1 : Index := 1#32
  let arg2 : BitVec 32 := BitVec.ofNat 32 (i 2).val
  let c256_i32 : BitVec 32 := 256#32
  let v25 : BitVec 32 := Scalar.muli arg2 c256_i32
  let v26 : BitVec 32 := v25
  let v58 : Index := Scalar.indexCast v26
  ![0, 1, v58.toNat]
@[reducible] def k0_t1_loop (i : grid0.Coords) : Scf.Loop 32 :=
  let c0_i32_26 : BitVec 32 := 0#32
  let arg2 : BitVec 32 := BitVec.ofNat 32 (i 2).val
  let v83 : BitVec 32 := Scalar.subi arg2 c0_i32_26
  let c1_i32 : BitVec 32 := 1#32
  let v85 : BitVec 32 := Scalar.divsi v83 c1_i32
  let v86 : BitVec 32 := Scalar.muli v85 c1_i32
  let v87 : BitVec 32 := Scalar.addi c0_i32_26 v86
  let c1_i32_27 : BitVec 32 := 1#32
  ⟨c0_i32_26, v87, c1_i32_27⟩
def k0_mult2 (i : grid0.Coords) (k0_t1 : Fin (k0_t1_loop i).trips) : BitVec 32 :=
  let c0_i32_26 : BitVec 32 := 0#32
  let c1_i32_27 : BitVec 32 := 1#32
  let arg10 : BitVec 32 := Scf.iv c0_i32_26 c1_i32_27 k0_t1
  let c256_i32_31 : BitVec 32 := 256#32
  let v96 : BitVec 32 := Scalar.muli arg10 c256_i32_31
  v96
def k0_off4 (i : grid0.Coords) (k0_t1 : Fin (k0_t1_loop i).trips) : Fin 2 → Nat :=
  let c0_i32_26 : BitVec 32 := 0#32
  let c1_i32_27 : BitVec 32 := 1#32
  let arg10 : BitVec 32 := Scf.iv c0_i32_26 c1_i32_27 k0_t1
  let c256_i32_31 : BitVec 32 := 256#32
  let v96 : BitVec 32 := Scalar.muli arg10 c256_i32_31
  let v97 : BitVec 32 := v96
  let v98 : Index := Scalar.indexCast v97
  let c0_32 : Index := 0#32
  ![v98.toNat, 0]
def k0_off5 (i : grid0.Coords) (k0_t1 : Fin (k0_t1_loop i).trips) : Fin 3 → Nat :=
  let c0_35 : Index := 0#32
  let c0_36 : Index := 0#32
  let c0_i32_26 : BitVec 32 := 0#32
  let c1_i32_27 : BitVec 32 := 1#32
  let arg10 : BitVec 32 := Scf.iv c0_i32_26 c1_i32_27 k0_t1
  let c256_i32_31 : BitVec 32 := 256#32
  let v96 : BitVec 32 := Scalar.muli arg10 c256_i32_31
  let v97 : BitVec 32 := v96
  let v103 : Index := Scalar.indexCast v97
  ![0, 0, v103.toNat]
def k0_off6 (i : grid0.Coords) (k0_t1 : Fin (k0_t1_loop i).trips) : Fin 3 → Nat :=
  let c0_41 : Index := 0#32
  let c1_42 : Index := 1#32
  let c0_i32_26 : BitVec 32 := 0#32
  let c1_i32_27 : BitVec 32 := 1#32
  let arg10 : BitVec 32 := Scf.iv c0_i32_26 c1_i32_27 k0_t1
  let c256_i32_31 : BitVec 32 := 256#32
  let v96 : BitVec 32 := Scalar.muli arg10 c256_i32_31
  let v97 : BitVec 32 := v96
  let v126 : Index := Scalar.indexCast v97
  ![0, 1, v126.toNat]
@[reducible] def k0_t2_loop (i : grid0.Coords) : Scf.Loop 32 :=
  let c0_i32_26 : BitVec 32 := 0#32
  let arg2 : BitVec 32 := BitVec.ofNat 32 (i 2).val
  let v83 : BitVec 32 := Scalar.subi arg2 c0_i32_26
  let c1_i32 : BitVec 32 := 1#32
  let v85 : BitVec 32 := Scalar.divsi v83 c1_i32
  let v86 : BitVec 32 := Scalar.muli v85 c1_i32
  let v87 : BitVec 32 := Scalar.addi c0_i32_26 v86
  let v84 : BitVec 32 := Scalar.addi c0_i32_26 v83
  let c1_i32_28 : BitVec 32 := 1#32
  ⟨v87, v84, c1_i32_28⟩
def k0_mult3 (i : grid0.Coords) (k0_t2 : Fin (k0_t2_loop i).trips) : BitVec 32 :=
  let c0_i32_26 : BitVec 32 := 0#32
  let arg2 : BitVec 32 := BitVec.ofNat 32 (i 2).val
  let v83 : BitVec 32 := Scalar.subi arg2 c0_i32_26
  let c1_i32 : BitVec 32 := 1#32
  let v85 : BitVec 32 := Scalar.divsi v83 c1_i32
  let v86 : BitVec 32 := Scalar.muli v85 c1_i32
  let v87 : BitVec 32 := Scalar.addi c0_i32_26 v86
  let c1_i32_28 : BitVec 32 := 1#32
  let arg10 : BitVec 32 := Scf.iv v87 c1_i32_28 k0_t2
  let c256_i32_31 : BitVec 32 := 256#32
  let v96 : BitVec 32 := Scalar.muli arg10 c256_i32_31
  v96
def k0_off7 (i : grid0.Coords) (k0_t2 : Fin (k0_t2_loop i).trips) : Fin 2 → Nat :=
  let c0_i32_26 : BitVec 32 := 0#32
  let arg2 : BitVec 32 := BitVec.ofNat 32 (i 2).val
  let v83 : BitVec 32 := Scalar.subi arg2 c0_i32_26
  let c1_i32 : BitVec 32 := 1#32
  let v85 : BitVec 32 := Scalar.divsi v83 c1_i32
  let v86 : BitVec 32 := Scalar.muli v85 c1_i32
  let v87 : BitVec 32 := Scalar.addi c0_i32_26 v86
  let c1_i32_28 : BitVec 32 := 1#32
  let arg10 : BitVec 32 := Scf.iv v87 c1_i32_28 k0_t2
  let c256_i32_31 : BitVec 32 := 256#32
  let v96 : BitVec 32 := Scalar.muli arg10 c256_i32_31
  let v97 : BitVec 32 := v96
  let v98 : Index := Scalar.indexCast v97
  let c0_32 : Index := 0#32
  ![v98.toNat, 0]
def k0_off8 (i : grid0.Coords) (k0_t2 : Fin (k0_t2_loop i).trips) : Fin 3 → Nat :=
  let c0_35 : Index := 0#32
  let c0_36 : Index := 0#32
  let c0_i32_26 : BitVec 32 := 0#32
  let arg2 : BitVec 32 := BitVec.ofNat 32 (i 2).val
  let v83 : BitVec 32 := Scalar.subi arg2 c0_i32_26
  let c1_i32 : BitVec 32 := 1#32
  let v85 : BitVec 32 := Scalar.divsi v83 c1_i32
  let v86 : BitVec 32 := Scalar.muli v85 c1_i32
  let v87 : BitVec 32 := Scalar.addi c0_i32_26 v86
  let c1_i32_28 : BitVec 32 := 1#32
  let arg10 : BitVec 32 := Scf.iv v87 c1_i32_28 k0_t2
  let c256_i32_31 : BitVec 32 := 256#32
  let v96 : BitVec 32 := Scalar.muli arg10 c256_i32_31
  let v97 : BitVec 32 := v96
  let v103 : Index := Scalar.indexCast v97
  ![0, 0, v103.toNat]
def k0_off9 (i : grid0.Coords) (k0_t2 : Fin (k0_t2_loop i).trips) : Fin 3 → Nat :=
  let c0_41 : Index := 0#32
  let c1_42 : Index := 1#32
  let c0_i32_26 : BitVec 32 := 0#32
  let arg2 : BitVec 32 := BitVec.ofNat 32 (i 2).val
  let v83 : BitVec 32 := Scalar.subi arg2 c0_i32_26
  let c1_i32 : BitVec 32 := 1#32
  let v85 : BitVec 32 := Scalar.divsi v83 c1_i32
  let v86 : BitVec 32 := Scalar.muli v85 c1_i32
  let v87 : BitVec 32 := Scalar.addi c0_i32_26 v86
  let c1_i32_28 : BitVec 32 := 1#32
  let arg10 : BitVec 32 := Scf.iv v87 c1_i32_28 k0_t2
  let c256_i32_31 : BitVec 32 := 256#32
  let v96 : BitVec 32 := Scalar.muli arg10 c256_i32_31
  let v97 : BitVec 32 := v96
  let v126 : Index := Scalar.indexCast v97
  ![0, 1, v126.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxRefIdeal.lean ====
abbrev S16384x1024 : Shape := ⟨2, ![16384, 1024]⟩
abbrev S8x2x16384 : Shape := ⟨3, ![8, 2, 16384]⟩
abbrev S4x4096x16x64 : Shape := ⟨4, ![4, 4096, 16, 64]⟩
abbrev S16x4x4096 : Shape := ⟨3, ![16, 4, 4096]⟩
abbrev S4x16x4096 : Shape := ⟨3, ![4, 16, 4096]⟩
abbrev S4x16x4096x4096 : Shape := ⟨4, ![4, 16, 4096, 4096]⟩
abbrev S_ : Shape := ⟨0, ![]⟩
abbrev S4x16x4096x1 : Shape := ⟨4, ![4, 16, 4096, 1]⟩
abbrev S4x16x1x4096 : Shape := ⟨4, ![4, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x64x4096 : Shape := ⟨4, ![4, 16, 64, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x2x16384, .f32⟩
  | .hbm, ⟨4, _⟩ => ⟨S4x4096x16x64, .f32⟩
  | .hbm, ⟨5, _⟩ => ⟨S4x4096x16x64, .f32⟩
  | .hbm, ⟨6, _⟩ => ⟨S4x4096x16x64, .f32⟩
  | .hbm, ⟨7, _⟩ => ⟨S16x4x4096, .f32⟩
  | .hbm, ⟨8, _⟩ => ⟨S4x16x4096, .f32⟩
  | .hbm, ⟨9, _⟩ => ⟨S4x16x4096x4096, .f32⟩
  | .hbm, ⟨10, _⟩ => ⟨S_, .f32⟩
  | .hbm, ⟨11, _⟩ => ⟨S4x16x4096x4096, .f32⟩
  | .hbm, ⟨12, _⟩ => ⟨S4x16x4096x4096, .f32⟩
  | .hbm, ⟨13, _⟩ => ⟨S4x16x4096x1, .f32⟩
  | .hbm, ⟨14, _⟩ => ⟨S4x16x1x4096, .f32⟩
  | .hbm, ⟨15, _⟩ => ⟨S4x16x4096x4096, .f32⟩
  | .hbm, ⟨16, _⟩ => ⟨S4x16x4096x4096, .f32⟩
  | .hbm, ⟨17, _⟩ => ⟨S4x16x4096x4096, .f32⟩
  | .hbm, ⟨18, _⟩ => ⟨S4x16x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x16x4096x4096, .i1⟩
  | .hbm, ⟨28, _⟩ => ⟨S4x16x4096x4096, .f32⟩
  | .hbm, ⟨29, _⟩ => ⟨S4x16x4096x4096, .f32⟩
  | .hbm, ⟨30, _⟩ => ⟨S_, .f32⟩
  | .hbm, ⟨31, _⟩ => ⟨S4x16x4096, .f32⟩
  | .hbm, ⟨32, _⟩ => ⟨S_, .f32⟩
  | .hbm, ⟨33, _⟩ => ⟨S4x16x4096, .f32⟩
  | .hbm, ⟨34, _⟩ => ⟨S4x16x4096, .f32⟩
  | .hbm, ⟨35, _⟩ => ⟨S4x16x4096x1, .f32⟩
  | .hbm, ⟨36, _⟩ => ⟨S4x16x4096x4096, .f32⟩
  | .hbm, ⟨37, _⟩ => ⟨S4x16x4096x4096, .f32⟩
  | .hbm, ⟨38, _⟩ => ⟨S4x16x4096x4096, .f32⟩
  | .hbm, ⟨39, _⟩ => ⟨S_, .f32⟩
  | .hbm, ⟨40, _⟩ => ⟨S4x16x4096, .f32⟩
  | .hbm, ⟨41, _⟩ => ⟨S4x16x4096x1, .f32⟩
  | .hbm, ⟨42, _⟩ => ⟨S4x16x4096x4096, .f32⟩
  | .hbm, ⟨43, _⟩ => ⟨S4x16x4096x4096, .f32⟩
  | .hbm, ⟨44, _⟩ => ⟨S4x16x64x4096, .f32⟩
  | .hbm, ⟨45, _⟩ => ⟨S4x4096x16x64, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Cums.lean ====
abbrev S16384x16 : Shape := ⟨2, ![16384, 16]⟩
abbrev S16x16384 : Shape := ⟨2, ![16, 16384]⟩
abbrev S16x4096 : Shape := ⟨2, ![16, 4096]⟩

abbrev nBuf : Space → Nat
  | .hbm => 3
  | .vmem => 4
  | .smem => 0
  | _ => 0

abbrev bufTy : (tb : Table) → Fin (tcTables nBuf tb) → BufTy
  | .hbm, ⟨0, _⟩ => ⟨S16384x16, .f32⟩
  | .hbm, ⟨1, _⟩ => ⟨S16x16384, .f32⟩
  | .hbm, ⟨2, _⟩ => ⟨S16x16384, .f32⟩
  | .local _ .vmem, ⟨0, _⟩ => ⟨S16x4096, .f32⟩
  | .local _ .vmem, ⟨1, _⟩ => ⟨S16x4096, .f32⟩
  | .local _ .vmem, ⟨2, _⟩ => ⟨S16x4096, .f32⟩
  | .local _ .vmem, ⟨3, _⟩ => ⟨S16x4096, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CumsRefIdeal.lean ====
abbrev S16384x16 : Shape := ⟨2, ![16384, 16]⟩
abbrev S4x4096x16 : Shape := ⟨3, ![4, 4096, 16]⟩
abbrev S_ : Shape := ⟨0, ![]⟩
abbrev S16x16384 : Shape := ⟨2, ![16, 16384]⟩

abbrev nBuf : Space → Nat
  | .hbm => 7
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S4x4096x16, .f32⟩
  | .hbm, ⟨2, _⟩ => ⟨S_, .f32⟩
  | .hbm, ⟨3, _⟩ => ⟨S_, .f32⟩
  | .hbm, ⟨4, _⟩ => ⟨S4x4096x16, .f32⟩
  | .hbm, ⟨5, _⟩ => ⟨S16384x16, .f32⟩
  | .hbm, ⟨6, _⟩ => ⟨S16x16384, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjE.lean ====
abbrev S16384x1024 : Shape := ⟨2, ![16384, 1024]⟩
abbrev S1024 : Shape := ⟨1, ![1024]⟩
abbrev S1024x3592 : Shape := ⟨2, ![1024, 3592]⟩
abbrev S4 : Shape := ⟨1, ![4]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S1024x3712 : Shape := ⟨2, ![1024, 3712]⟩
abbrev S1024x512 : Shape := ⟨2, ![1024, 512]⟩
abbrev S8 : Shape := ⟨1, ![8]⟩
abbrev S1x8 : Shape := ⟨2, ![1, 8]⟩
abbrev S1x128 : Shape := ⟨2, ![1, 128]⟩
abbrev S1x1024 : Shape := ⟨2, ![1, 1024]⟩
abbrev S16384x512 : Shape := ⟨2, ![16384, 512]⟩
abbrev S16384x128 : Shape := ⟨2, ![16384, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩

abbrev nBuf : Space → Nat
  | .hbm => 30
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S4, .f32⟩
  | .hbm, ⟨4, _⟩ => ⟨S4, .f32⟩
  | .hbm, ⟨5, _⟩ => ⟨S1024x3584, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x3712, .f32⟩
  | .hbm, ⟨11, _⟩ => ⟨S1024x3712, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .f32⟩
  | .hbm, ⟨16, _⟩ => ⟨S1024x512, .bf16⟩
  | .hbm, ⟨17, _⟩ => ⟨S8, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x1024, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x512, .f32⟩
  | .hbm, ⟨28, _⟩ => ⟨S16384x512, .f32⟩
  | .hbm, ⟨29, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S1024x512, .bf16⟩
  | .local _ .vmem, ⟨5, _⟩ => ⟨S1x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x128, .f32⟩
  | .local _ .vmem, ⟨19, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjEIdeal.lean ====
abbrev S16384x1024 : Shape := ⟨2, ![16384, 1024]⟩
abbrev S1024 : Shape := ⟨1, ![1024]⟩
abbrev S1024x3592 : Shape := ⟨2, ![1024, 3592]⟩
abbrev S4 : Shape := ⟨1, ![4]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S1024x3712 : Shape := ⟨2, ![1024, 3712]⟩
abbrev S1024x512 : Shape := ⟨2, ![1024, 512]⟩
abbrev S8 : Shape := ⟨1, ![8]⟩
abbrev S1x8 : Shape := ⟨2, ![1, 8]⟩
abbrev S1x128 : Shape := ⟨2, ![1, 128]⟩
abbrev S1x1024 : Shape := ⟨2, ![1, 1024]⟩
abbrev S16384x512 : Shape := ⟨2, ![16384, 512]⟩
abbrev S16384x128 : Shape := ⟨2, ![16384, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩

abbrev nBuf : Space → Nat
  | .hbm => 30
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S4, .f32⟩
  | .hbm, ⟨4, _⟩ => ⟨S4, .f32⟩
  | .hbm, ⟨5, _⟩ => ⟨S1024x3584, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x3712, .f32⟩
  | .hbm, ⟨11, _⟩ => ⟨S1024x3712, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .f32⟩
  | .hbm, ⟨16, _⟩ => ⟨S1024x512, .bf16⟩
  | .hbm, ⟨17, _⟩ => ⟨S8, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x1024, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x1024, .f32⟩
  | .hbm, ⟨27, _⟩ => ⟨S16384x512, .f32⟩
  | .hbm, ⟨28, _⟩ => ⟨S16384x512, .f32⟩
  | .hbm, ⟨29, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S1024x512, .bf16⟩
  | .local _ .vmem, ⟨5, _⟩ => ⟨S1x128, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x128, .f32⟩
  | .local _ .vmem, ⟨19, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjERefIdeal.lean ====
abbrev S16384x1024 : Shape := ⟨2, ![16384, 1024]⟩
abbrev S1024 : Shape := ⟨1, ![1024]⟩
abbrev S1024x3592 : Shape := ⟨2, ![1024, 3592]⟩
abbrev S4 : Shape := ⟨1, ![4]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3592 : Shape := ⟨2, ![16384, 3592]⟩
abbrev S16384x4 : Shape := ⟨2, ![16384, 4]⟩
abbrev S1x4 : Shape := ⟨2, ![1, 4]⟩
abbrev S16384x8 : Shape := ⟨2, ![16384, 8]⟩
abbrev S16384x512 : Shape := ⟨2, ![16384, 512]⟩
abbrev S16384x128 : Shape := ⟨2, ![16384, 128]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3592, .f32⟩
  | .hbm, ⟨3, _⟩ => ⟨S4, .f32⟩
  | .hbm, ⟨4, _⟩ => ⟨S4, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3592, .f32⟩
  | .hbm, ⟨22, _⟩ => ⟨S16384x4, .f32⟩
  | .hbm, ⟨23, _⟩ => ⟨S1x4, .f32⟩
  | .hbm, ⟨24, _⟩ => ⟨S16384x4, .f32⟩
  | .hbm, ⟨25, _⟩ => ⟨S16384x4, .f32⟩
  | .hbm, ⟨26, _⟩ => ⟨S16384x4, .f32⟩
  | .hbm, ⟨27, _⟩ => ⟨S1x4, .f32⟩
  | .hbm, ⟨28, _⟩ => ⟨S16384x4, .f32⟩
  | .hbm, ⟨29, _⟩ => ⟨S16384x4, .f32⟩
  | .hbm, ⟨30, _⟩ => ⟨S16384x4, .f32⟩
  | .hbm, ⟨31, _⟩ => ⟨S_, .f32⟩
  | .hbm, ⟨32, _⟩ => ⟨S16384x4, .f32⟩
  | .hbm, ⟨33, _⟩ => ⟨S16384x4, .f32⟩
  | .hbm, ⟨34, _⟩ => ⟨S16384x4, .f32⟩
  | .hbm, ⟨35, _⟩ => ⟨S16384x4, .f32⟩
  | .hbm, ⟨36, _⟩ => ⟨S16384x4, .i1⟩
  | .hbm, ⟨37, _⟩ => ⟨S16384x4, .f32⟩
  | .hbm, ⟨38, _⟩ => ⟨S16384x4, .f32⟩
  | .hbm, ⟨39, _⟩ => ⟨S16384x4, .f32⟩
  | .hbm, ⟨40, _⟩ => ⟨S16384x4, .f32⟩
  | .hbm, ⟨41, _⟩ => ⟨S16384x4, .f32⟩
  | .hbm, ⟨42, _⟩ => ⟨S16384x4, .f32⟩
  | .hbm, ⟨43, _⟩ => ⟨S16384x4, .f32⟩
  | .hbm, ⟨44, _⟩ => ⟨S16384x4, .f32⟩
  | .hbm, ⟨45, _⟩ => ⟨S16384x4, .f32⟩
  | .hbm, ⟨46, _⟩ => ⟨S16384x8, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x1024, .f32⟩
  | .hbm, ⟨51, _⟩ => ⟨S16384x512, .f32⟩
  | .hbm, ⟨52, _⟩ => ⟨S16384x512, .f32⟩
  | .hbm, ⟨53, _⟩ => ⟨S_, .i32⟩
  | .hbm, ⟨54, _⟩ => ⟨S_, .f32⟩
  | .hbm, ⟨55, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c : Ref sig .tc := ⟨.hbm, 53, rfl⟩
abbrev main_call1_v0 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== ProjES.lean ====
abbrev S32x1024 : Shape := ⟨2, ![32, 1024]⟩
abbrev S1024 : Shape := ⟨1, ![1024]⟩
abbrev S1024x3592 : Shape := ⟨2, ![1024, 3592]⟩
abbrev S4 : Shape := ⟨1, ![4]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S1024x3712 : Shape := ⟨2, ![1024, 3712]⟩
abbrev S1024x512 : Shape := ⟨2, ![1024, 512]⟩
abbrev S8 : Shape := ⟨1, ![8]⟩
abbrev S1x8 : Shape := ⟨2, ![1, 8]⟩
abbrev S1x128 : Shape := ⟨2, ![1, 128]⟩
abbrev S1x1024 : Shape := ⟨2, ![1, 1024]⟩
abbrev S32x512 : Shape := ⟨2, ![32, 512]⟩
abbrev S32x128 : Shape := ⟨2, ![32, 128]⟩
abbrev S32 : Shape := ⟨1, ![32]⟩
abbrev S32x1 : Shape := ⟨2, ![32, 1]⟩
abbrev S1024x1024 : Shape := ⟨2, ![1024, 1024]⟩

abbrev nBuf : Space → Nat
  | .hbm => 30
  | .vmem => 12
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3592, .f32⟩
  | .hbm, ⟨3, _⟩ => ⟨S4, .f32⟩
  | .hbm, ⟨4, _⟩ => ⟨S4, .f32⟩
  | .hbm, ⟨5, _⟩ => ⟨S1024x3584, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x3712, .f32⟩
  | .hbm, ⟨11, _⟩ => ⟨S1024x3712, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .f32⟩
  | .hbm, ⟨16, _⟩ => ⟨S1024x512, .bf16⟩
  | .hbm, ⟨17, _⟩ => ⟨S8, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x1024, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x1024, .f32⟩
  | .hbm, ⟨27, _⟩ => ⟨S32x512, .f32⟩
  | .hbm, ⟨28, _⟩ => ⟨S32x512, .f32⟩
  | .hbm, ⟨29, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1024x3712, .bf16⟩
  | .local _ .vmem, ⟨3, _⟩ => ⟨S1024x512, .bf16⟩
  | .local _ .vmem, ⟨4, _⟩ => ⟨S1x128, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x1024, .f32⟩
  | .local _ .vmem, ⟨9, _⟩ => ⟨S32x512, .f32⟩
  | .local _ .vmem, ⟨10, _⟩ => ⟨S32x512, .f32⟩
  | .local _ .vmem, ⟨11, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== ProjESRefIdeal.lean ====
abbrev S32x1024 : Shape := ⟨2, ![32, 1024]⟩
abbrev S1024 : Shape := ⟨1, ![1024]⟩
abbrev S1024x3592 : Shape := ⟨2, ![1024, 3592]⟩
abbrev S4 : Shape := ⟨1, ![4]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x3592 : Shape := ⟨2, ![32, 3592]⟩
abbrev S32x4 : Shape := ⟨2, ![32, 4]⟩
abbrev S1x4 : Shape := ⟨2, ![1, 4]⟩
abbrev S32x8 : Shape := ⟨2, ![32, 8]⟩
abbrev S32x512 : Shape := ⟨2, ![32, 512]⟩
abbrev S32x128 : Shape := ⟨2, ![32, 128]⟩

abbrev nBuf : Space → Nat
  | .hbm => 56
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3592, .f32⟩
  | .hbm, ⟨3, _⟩ => ⟨S4, .f32⟩
  | .hbm, ⟨4, _⟩ => ⟨S4, .f32⟩
  | .hbm, ⟨5, _⟩ => ⟨S32x1024, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x1024, .f32⟩
  | .hbm, ⟨17, _⟩ => ⟨S32x1024, .f32⟩
  | .hbm, ⟨18, _⟩ => ⟨S1x1024, .f32⟩
  | .hbm, ⟨19, _⟩ => ⟨S32x1024, .f32⟩
  | .hbm, ⟨20, _⟩ => ⟨S32x1024, .f32⟩
  | .hbm, ⟨21, _⟩ => ⟨S32x3592, .f32⟩
  | .hbm, ⟨22, _⟩ => ⟨S32x4, .f32⟩
  | .hbm, ⟨23, _⟩ => ⟨S1x4, .f32⟩
  | .hbm, ⟨24, _⟩ => ⟨S32x4, .f32⟩
  | .hbm, ⟨25, _⟩ => ⟨S32x4, .f32⟩
  | .hbm, ⟨26, _⟩ => ⟨S32x4, .f32⟩
  | .hbm, ⟨27, _⟩ => ⟨S1x4, .f32⟩
  | .hbm, ⟨28, _⟩ => ⟨S32x4, .f32⟩
  | .hbm, ⟨29, _⟩ => ⟨S32x4, .f32⟩
  | .hbm, ⟨30, _⟩ => ⟨S32x4, .f32⟩
  | .hbm, ⟨31, _⟩ => ⟨S_, .f32⟩
  | .hbm, ⟨32, _⟩ => ⟨S32x4, .f32⟩
  | .hbm, ⟨33, _⟩ => ⟨S32x4, .f32⟩
  | .hbm, ⟨34, _⟩ => ⟨S32x4, .f32⟩
  | .hbm, ⟨35, _⟩ => ⟨S32x4, .f32⟩
  | .hbm, ⟨36, _⟩ => ⟨S32x4, .i1⟩
  | .hbm, ⟨37, _⟩ => ⟨S32x4, .f32⟩
  | .hbm, ⟨38, _⟩ => ⟨S32x4, .f32⟩
  | .hbm, ⟨39, _⟩ => ⟨S32x4, .f32⟩
  | .hbm, ⟨40, _⟩ => ⟨S32x4, .f32⟩
  | .hbm, ⟨41, _⟩ => ⟨S32x4, .f32⟩
  | .hbm, ⟨42, _⟩ => ⟨S32x4, .f32⟩
  | .hbm, ⟨43, _⟩ => ⟨S32x4, .f32⟩
  | .hbm, ⟨44, _⟩ => ⟨S32x4, .f32⟩
  | .hbm, ⟨45, _⟩ => ⟨S32x4, .f32⟩
  | .hbm, ⟨46, _⟩ => ⟨S32x8, .f32⟩
  | .hbm, ⟨47, _⟩ => ⟨S32x512, .f32⟩
  | .hbm, ⟨48, _⟩ => ⟨S32x512, .f32⟩
  | .hbm, ⟨49, _⟩ => ⟨S32x512, .f32⟩
  | .hbm, ⟨50, _⟩ => ⟨S32x1024, .f32⟩
  | .hbm, ⟨51, _⟩ => ⟨S32x512, .f32⟩
  | .hbm, ⟨52, _⟩ => ⟨S32x512, .f32⟩
  | .hbm, ⟨53, _⟩ => ⟨S_, .i32⟩
  | .hbm, ⟨54, _⟩ => ⟨S_, .f32⟩
  | .hbm, ⟨55, _⟩ => ⟨S32x128, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c : Ref sig .tc := ⟨.hbm, 53, rfl⟩
abbrev main_call1_v0 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== ProjO.lean ====
abbrev S16384x1024 : Shape := ⟨2, ![16384, 1024]⟩
abbrev S1024 : Shape := ⟨1, ![1024]⟩
abbrev S1024x3088 : Shape := ⟨2, ![1024, 3088]⟩
abbrev S16 : Shape := ⟨1, ![16]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S1x16 : Shape := ⟨2, ![1, 16]⟩
abbrev S1x128 : Shape := ⟨2, ![1, 128]⟩
abbrev S1x1024 : Shape := ⟨2, ![1, 1024]⟩
abbrev S16384x128 : Shape := ⟨2, ![16384, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩

abbrev nBuf : Space → Nat
  | .hbm => 20
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x3072, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x3200, .f32⟩
  | .hbm, ⟨10, _⟩ => ⟨S1024x3200, .bf16⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x128, .f32⟩
  | .local _ .vmem, ⟨12, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjOIdeal.lean ====
abbrev S16384x1024 : Shape := ⟨2, ![16384, 1024]⟩
abbrev S1024 : Shape := ⟨1, ![1024]⟩
abbrev S1024x3088 : Shape := ⟨2, ![1024, 3088]⟩
abbrev S16 : Shape := ⟨1, ![16]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S1x16 : Shape := ⟨2, ![1, 16]⟩
abbrev S1x128 : Shape := ⟨2, ![1, 128]⟩
abbrev S1x1024 : Shape := ⟨2, ![1, 1024]⟩
abbrev S16384x128 : Shape := ⟨2, ![16384, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩

abbrev nBuf : Space → Nat
  | .hbm => 20
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x3072, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x3200, .f32⟩
  | .hbm, ⟨10, _⟩ => ⟨S1024x3200, .bf16⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x128, .f32⟩
  | .local _ .vmem, ⟨12, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjORefIdeal.lean ====
abbrev S16384x1024 : Shape := ⟨2, ![16384, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3088 : Shape := ⟨2, ![16384, 3088]⟩
abbrev S16384x16 : Shape := ⟨2, ![16384, 16]⟩
abbrev S1x16 : Shape := ⟨2, ![1, 16]⟩
abbrev S16384x128 : Shape := ⟨2, ![16384, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3088, .f32⟩
  | .hbm, ⟨21, _⟩ => ⟨S16384x16, .f32⟩
  | .hbm, ⟨22, _⟩ => ⟨S1x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S_, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S16384x16, .i1⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S16384x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .i32⟩
  | .hbm, ⟨45, _⟩ => ⟨S_, .f32⟩
  | .hbm, ⟨46, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_call1_v0 : Ref sig .tc := ⟨.hbm, 45, rfl⟩
abbrev main_v22 : Ref sig .tc := ⟨.hbm, 46, rfl⟩

abbrev nD : Nat := 1
abbrev τ : Topo := Topo.v7x

variable {F : FTy → Type} [FloatOps F]
-- ==== OutE.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1x1024, .f32⟩
  | .hbm, ⟨9, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutERefIdeal.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== OutO.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutORefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S1x1024 : Shape := ⟨2, ![1, 1024]⟩
abbrev S32x2x2816 : Shape := ⟨3, ![32, 2, 2816]⟩
abbrev S512x1024 : Shape := ⟨2, ![512, 1024]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S1x2x256 : Shape := ⟨3, ![1, 2, 256]⟩
abbrev S2x520x256 : Shape := ⟨3, ![2, 520, 256]⟩
abbrev S2x11x8x256 : Shape := ⟨4, ![2, 11, 8, 256]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S8x256 : Shape := ⟨2, ![8, 256]⟩
abbrev S1x8x256 : Shape := ⟨3, ![1, 8, 256]⟩
abbrev S1x1x8x256 : Shape := ⟨4, ![1, 1, 8, 256]⟩
abbrev S2x256 : Shape := ⟨2, ![2, 256]⟩

abbrev nBuf : Space → Nat
  | .hbm => 15
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x5632, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S32x2x2816, .f32⟩
  | .hbm, ⟨14, _⟩ => ⟨S32x2x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x2x256, .f32⟩
  | .local _ .vmem, ⟨21, _⟩ => ⟨S1x2x256, .f32⟩
  | .local _ .vmem, ⟨22, _⟩ => ⟨S1x2x256, .f32⟩
  | .local _ .vmem, ⟨23, _⟩ => ⟨S1x2x256, .f32⟩
  | .local _ .vmem, ⟨24, _⟩ => ⟨S512x1024, .bf16⟩
  | .local _ .vmem, ⟨25, _⟩ => ⟨S512x1024, .f32⟩
  | .local _ .vmem, ⟨26, _⟩ => ⟨S2x520x256, .f32⟩
  | .local _ .vmem, ⟨27, _⟩ => ⟨S2x11x8x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg0 : BitVec 32 := BitVec.ofNat 32 (i 0).val
  let c8_i32_14 : BitVec 32 := 8#32
  let c0_i32_15 : BitVec 32 := 0#32
  let v24 : BitVec 1 := Scalar.cmpi .eq c8_i32_14 c0_i32_15
  let c1_i32_16 : BitVec 32 := 1#32
  let v25 : BitVec 32 := Scalar.select v24 c1_i32_16 c8_i32_14
  let v26 : BitVec 32 := Scalar.remsi arg0 v25
  let c0_i32_18 : BitVec 32 := 0#32
  let v28 : BitVec 1 := Scalar.cmpi .slt v26 c0_i32_18
  let c0_i32_19 : BitVec 32 := 0#32
  let v29 : BitVec 1 := Scalar.cmpi .slt v25 c0_i32_19
  let v30 : BitVec 1 := Scalar.xori v28 v29
  let c0_i32_17 : BitVec 32 := 0#32
  let v27 : BitVec 1 := Scalar.cmpi .ne v26 c0_i32_17
  let v31 : BitVec 1 := Scalar.andi v30 v27
  let v32 : BitVec 32 := Scalar.addi v26 v25
  let v33 : BitVec 32 := Scalar.select v31 v32 v26
  let c0_i32_20 : BitVec 32 := 0#32
  let v34 : BitVec 1 := Scalar.cmpi .ne v33 c0_i32_20
  let v35 : BitVec 32 := Scalar.extui v34
  let c0_i32_21 : BitVec 32 := 0#32
  let v36 : BitVec 1 := Scalar.cmpi .ne v35 c0_i32_21
  v36

def k0_off1 (i : grid0.Coords) : Fin 4 → Nat :=
  let c0_93 : Index := 0#32
  let arg1 : BitVec 32 := BitVec.ofNat 32 (i 1).val
  let v156 : Index := Scalar.indexCast arg1
  let c0_94 : Index := 0#32
  let c0_95 : Index := 0#32
  ![0, v156.toNat, 0, 0]
def k0_off2 (i : grid0.Coords) : Fin 4 → Nat :=
  let c0_30 : Index := 0#32
  let arg1 : BitVec 32 := BitVec.ofNat 32 (i 1).val
  let v58 : Index := Scalar.indexCast arg1
  let c0_31 : Index := 0#32
  let c0_32 : Index := 0#32
  ![0, v58.toNat, 0, 0]
def k0_cond5 (i : grid0.Coords) : BitVec 1 :=
  let arg0 : BitVec 32 := BitVec.ofNat 32 (i 0).val
  let c8_i32_53 : BitVec 32 := 8#32
  let c0_i32_54 : BitVec 32 := 0#32
  let v87 : BitVec 1 := Scalar.cmpi .eq c8_i32_53 c0_i32_54
  let c1_i32_55 : BitVec 32 := 1#32
  let v88 : BitVec 32 := Scalar.select v87 c1_i32_55 c8_i32_53
  let v89 : BitVec 32 := Scalar.remsi arg0 v88
  let c0_i32_57 : BitVec 32 := 0#32
  let v91 : BitVec 1 := Scalar.cmpi .slt v89 c0_i32_57
  let c0_i32_58 : BitVec 32 := 0#32
  let v92 : BitVec 1 := Scalar.cmpi .slt v88 c0_i32_58
  let v93 : BitVec 1 := Scalar.xori v91 v92
  let c0_i32_56 : BitVec 32 := 0#32
  let v90 : BitVec 1 := Scalar.cmpi .ne v89 c0_i32_56
  let v94 : BitVec 1 := Scalar.andi v93 v90
  let v95 : BitVec 32 := Scalar.addi v89 v88
  let v96 : BitVec 32 := Scalar.select v94 v95 v89
  let c0_i32_59 : BitVec 32 := 0#32
  let v97 : BitVec 1 := Scalar.cmpi .ne v96 c0_i32_59
  let v98 : BitVec 32 := Scalar.extui v97
  let c0_i32_60 : BitVec 32 := 0#32
  let v99 : BitVec 1 := Scalar.cmpi .ne v98 c0_i32_60
  v99

def k0_off3 (i : grid0.Coords) : Fin 4 → Nat :=
  let c1_93 : Index := 1#32
  let arg1 : BitVec 32 := BitVec.ofNat 32 (i 1).val
  let v156 : Index := Scalar.indexCast arg1
  let c0_94 : Index := 0#32
  let c0_95 : Index := 0#32
  ![1, v156.toNat, 0, 0]
def k0_off4 (i : grid0.Coords) : Fin 4 → Nat :=
  let c1_72 : Index := 1#32
  let arg1 : BitVec 32 := BitVec.ofNat 32 (i 1).val
  let v121 : Index := Scalar.indexCast arg1
  let c0_73 : Index := 0#32
  let c0_74 : Index := 0#32
  ![1, v121.toNat, 0, 0]
def k0_cond6 (i : grid0.Coords) : BitVec 1 :=
  let arg1 : BitVec 32 := BitVec.ofNat 32 (i 1).val
  let c10_i32 : BitVec 32 := 10#32
  let v153 : BitVec 1 := Scalar.cmpi .eq arg1 c10_i32
  let v154 : BitVec 32 := Scalar.extui v153
  let c0_i32_92 : BitVec 32 := 0#32
  let v155 : BitVec 1 := Scalar.cmpi .ne v154 c0_i32_92
  v155

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S4x4096x5632 : Shape := ⟨3, ![4, 4096, 5632]⟩
abbrev S4x2x5632 : Shape := ⟨3, ![4, 2, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S16384x2816 : Shape := ⟨2, ![16384, 2816]⟩
abbrev S32x512x5632 : Shape := ⟨3, ![32, 512, 5632]⟩
abbrev S32x2x5632 : Shape := ⟨3, ![32, 2, 5632]⟩
abbrev S32x2x2816 : Shape := ⟨3, ![32, 2, 2816]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x5632, .f32⟩
  | .hbm, ⟨24, _⟩ => ⟨S4x4096x5632, .f32⟩
  | .hbm, ⟨25, _⟩ => ⟨S_, .f32⟩
  | .hbm, ⟨26, _⟩ => ⟨S4x2x5632, .f32⟩
  | .hbm, ⟨27, _⟩ => ⟨S4x4098x5632, .f32⟩
  | .hbm, ⟨28, _⟩ => ⟨S4x4096x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S4x4096x5632, .f32⟩
  | .hbm, ⟨33, _⟩ => ⟨S4x4096x5632, .f32⟩
  | .hbm, ⟨34, _⟩ => ⟨S4x4096x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S4x4096x5632, .f32⟩
  | .hbm, ⟨46, _⟩ => ⟨S4x4096x5632, .f32⟩
  | .hbm, ⟨47, _⟩ => ⟨S4x4096x5632, .f32⟩
  | .hbm, ⟨48, _⟩ => ⟨S1x1x5632, .f32⟩
  | .hbm, ⟨49, _⟩ => ⟨S4x4096x5632, .f32⟩
  | .hbm, ⟨50, _⟩ => ⟨S4x4096x5632, .f32⟩
  | .hbm, ⟨51, _⟩ => ⟨S16384x5632, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S_, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S16384x2816, .f32⟩
  | .hbm, ⟨72, _⟩ => ⟨S16384x1024, .f32⟩
  | .hbm, ⟨73, _⟩ => ⟨S32x512x5632, .f32⟩
  | .hbm, ⟨74, _⟩ => ⟨S32x2x5632, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S1x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S32x2x2816, .f32⟩
  | .hbm, ⟨93, _⟩ => ⟨S32x2x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== ProjOS.lean ====
abbrev S32x1024 : Shape := ⟨2, ![32, 1024]⟩
abbrev S1024 : Shape := ⟨1, ![1024]⟩
abbrev S1024x3088 : Shape := ⟨2, ![1024, 3088]⟩
abbrev S16 : Shape := ⟨1, ![16]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S1x16 : Shape := ⟨2, ![1, 16]⟩
abbrev S1x128 : Shape := ⟨2, ![1, 128]⟩
abbrev S1x1024 : Shape := ⟨2, ![1, 1024]⟩
abbrev S32x128 : Shape := ⟨2, ![32, 128]⟩
abbrev S32 : Shape := ⟨1, ![32]⟩
abbrev S32x1 : Shape := ⟨2, ![32, 1]⟩
abbrev S1024x1024 : Shape := ⟨2, ![1024, 1024]⟩

abbrev nBuf : Space → Nat
  | .hbm => 20
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x3072, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x3200, .f32⟩
  | .hbm, ⟨10, _⟩ => ⟨S1024x3200, .bf16⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x1024, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1024x3200, .bf16⟩
  | .local _ .vmem, ⟨3, _⟩ => ⟨S1x128, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ProjOSRefIdeal.lean ====
abbrev S32x1024 : Shape := ⟨2, ![32, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x3088 : Shape := ⟨2, ![32, 3088]⟩
abbrev S32x16 : Shape := ⟨2, ![32, 16]⟩
abbrev S1x16 : Shape := ⟨2, ![1, 16]⟩
abbrev S32x128 : Shape := ⟨2, ![32, 128]⟩

abbrev nBuf : Space → Nat
  | .hbm => 47
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S32x3088, .f32⟩
  | .hbm, ⟨21, _⟩ => ⟨S32x16, .f32⟩
  | .hbm, ⟨22, _⟩ => ⟨S1x16, .f32⟩
  | .hbm, ⟨23, _⟩ => ⟨S32x16, .f32⟩
  | .hbm, ⟨24, _⟩ => ⟨S32x16, .f32⟩
  | .hbm, ⟨25, _⟩ => ⟨S32x16, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S32x16, .f32⟩
  | .hbm, ⟨31, _⟩ => ⟨S32x16, .i1⟩
  | .hbm, ⟨32, _⟩ => ⟨S32x16, .f32⟩
  | .hbm, ⟨33, _⟩ => ⟨S32x16, .f32⟩
  | .hbm, ⟨34, _⟩ => ⟨S32x16, .f32⟩
  | .hbm, ⟨35, _⟩ => ⟨S32x16, .f32⟩
  | .hbm, ⟨36, _⟩ => ⟨S32x16, .f32⟩
  | .hbm, ⟨37, _⟩ => ⟨S32x16, .f32⟩
  | .hbm, ⟨38, _⟩ => ⟨S32x16, .f32⟩
  | .hbm, ⟨39, _⟩ => ⟨S32x16, .f32⟩
  | .hbm, ⟨40, _⟩ => ⟨S32x16, .f32⟩
  | .hbm, ⟨41, _⟩ => ⟨S32x1024, .f32⟩
  | .hbm, ⟨42, _⟩ => ⟨S32x1024, .f32⟩
  | .hbm, ⟨43, _⟩ => ⟨S32x1024, .f32⟩
  | .hbm, ⟨44, _⟩ => ⟨S_, .i32⟩
  | .hbm, ⟨45, _⟩ => ⟨S_, .f32⟩
  | .hbm, ⟨46, _⟩ => ⟨S32x128, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_call1_v0 : Ref sig .tc := ⟨.hbm, 45, rfl⟩
abbrev main_v22 : Ref sig .tc := ⟨.hbm, 46, rfl⟩

abbrev nD : Nat := 1
abbrev τ : Topo := Topo.v7x

variable {F : FTy → Type} [FloatOps F]
-- ==== FfnS.lean ====
abbrev S32x1024 : Shape := ⟨2, ![32, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S1x5632 : Shape := ⟨2, ![1, 5632]⟩
abbrev S1x1024 : Shape := ⟨2, ![1, 1024]⟩
abbrev S32x1x5632 : Shape := ⟨3, ![32, 1, 5632]⟩
abbrev S32x5632 : Shape := ⟨2, ![32, 5632]⟩
abbrev S32x2816 : Shape := ⟨2, ![32, 2816]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S32x256 : Shape := ⟨2, ![32, 256]⟩
abbrev S32 : Shape := ⟨1, ![32]⟩
abbrev S32x1 : Shape := ⟨2, ![32, 1]⟩

abbrev nBuf : Space → Nat
  | .hbm => 20
  | .vmem => 32
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S32x2x5632, .f32⟩
  | .hbm, ⟨8, _⟩ => ⟨S1024x5632, .bf16⟩
  | .hbm, ⟨9, _⟩ => ⟨S2816x1024, .bf16⟩
  | .hbm, ⟨10, _⟩ => ⟨S1x5632, .f32⟩
  | .hbm, ⟨11, _⟩ => ⟨S1x1024, .f32⟩
  | .hbm, ⟨12, _⟩ => ⟨S1x1024, .f32⟩
  | .hbm, ⟨13, _⟩ => ⟨S32x1x5632, .f32⟩
  | .hbm, ⟨14, _⟩ => ⟨S32x5632, .f32⟩
  | .hbm, ⟨15, _⟩ => ⟨S32x1x5632, .f32⟩
  | .hbm, ⟨16, _⟩ => ⟨S32x5632, .f32⟩
  | .hbm, ⟨17, _⟩ => ⟨S32x1024, .f32⟩
  | .hbm, ⟨18, _⟩ => ⟨S32x2816, .f32⟩
  | .hbm, ⟨19, _⟩ => ⟨S32x2816, .f32⟩
  | .local _ .vmem, ⟨0, _⟩ => ⟨S32x1024, .f32⟩
  | .local _ .vmem, ⟨1, _⟩ => ⟨S1x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S32x256, .f32⟩
  | .local _ .vmem, ⟨18, _⟩ => ⟨S32x256, .f32⟩
  | .local _ .vmem, ⟨19, _⟩ => ⟨S32x256, .f32⟩
  | .local _ .vmem, ⟨20, _⟩ => ⟨S32x256, .f32⟩
  | .local _ .vmem, ⟨21, _⟩ => ⟨S32x256, .f32⟩
  | .local _ .vmem, ⟨22, _⟩ => ⟨S32x256, .f32⟩
  | .local _ .vmem, ⟨23, _⟩ => ⟨S32x256, .f32⟩
  | .local _ .vmem, ⟨24, _⟩ => ⟨S32x256, .f32⟩
  | .local _ .vmem, ⟨25, _⟩ => ⟨S32x1024, .f32⟩
  | .local _ .vmem, ⟨26, _⟩ => ⟨S32x256, .f32⟩
  | .local _ .vmem, ⟨27, _⟩ => ⟨S32x256, .f32⟩
  | .local _ .vmem, ⟨28, _⟩ => ⟨S32x256, .f32⟩
  | .local _ .vmem, ⟨29, _⟩ => ⟨S32x256, .f32⟩
  | .local _ .vmem, ⟨30, _⟩ => ⟨S32x1024, .bf16⟩
  | .local _ .vmem, ⟨31, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v75 : BitVec 1 := Scalar.cmpi .eq arg1 c10_i32
  let v76 : BitVec 32 := Scalar.extui v75
  let c0_i32_38 : BitVec 32 := 0#32
  let v77 : BitVec 1 := Scalar.cmpi .ne v76 c0_i32_38
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 2 → Memref sig .tc .vmem S32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== FfnSRefIdeal.lean ====
abbrev S32x1024 : Shape := ⟨2, ![32, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32x2x5632 : Shape := ⟨3, ![32, 2, 5632]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x5632 : Shape := ⟨2, ![32, 5632]⟩
abbrev S32x1x5632 : Shape := ⟨3, ![32, 1, 5632]⟩
abbrev S1x5632 : Shape := ⟨2, ![1, 5632]⟩
abbrev S32x2816 : Shape := ⟨2, ![32, 2816]⟩

abbrev nBuf : Space → Nat
  | .hbm => 89
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S32x2x5632, .f32⟩
  | .hbm, ⟨8, _⟩ => ⟨S32x1024, .f32⟩
  | .hbm, ⟨9, _⟩ => ⟨S_, .f32⟩
  | .hbm, ⟨10, _⟩ => ⟨S32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x1, .f32⟩
  | .hbm, ⟨19, _⟩ => ⟨S32x1024, .f32⟩
  | .hbm, ⟨20, _⟩ => ⟨S32x1024, .f32⟩
  | .hbm, ⟨21, _⟩ => ⟨S1x1024, .f32⟩
  | .hbm, ⟨22, _⟩ => ⟨S32x1024, .f32⟩
  | .hbm, ⟨23, _⟩ => ⟨S32x1024, .f32⟩
  | .hbm, ⟨24, _⟩ => ⟨S32x5632, .f32⟩
  | .hbm, ⟨25, _⟩ => ⟨S32x1x5632, .f32⟩
  | .hbm, ⟨26, _⟩ => ⟨S32x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S32x5632, .f32⟩
  | .hbm, ⟨31, _⟩ => ⟨S32x5632, .f32⟩
  | .hbm, ⟨32, _⟩ => ⟨S32x1x5632, .f32⟩
  | .hbm, ⟨33, _⟩ => ⟨S32x5632, .f32⟩
  | .hbm, ⟨34, _⟩ => ⟨S1x5632, .f32⟩
  | .hbm, ⟨35, _⟩ => ⟨S5632, .f32⟩
  | .hbm, ⟨36, _⟩ => ⟨S1x5632, .f32⟩
  | .hbm, ⟨37, _⟩ => ⟨S32x5632, .f32⟩
  | .hbm, ⟨38, _⟩ => ⟨S32x5632, .f32⟩
  | .hbm, ⟨39, _⟩ => ⟨S32x5632, .f32⟩
  | .hbm, ⟨40, _⟩ => ⟨S1x5632, .f32⟩
  | .hbm, ⟨41, _⟩ => ⟨S5632, .f32⟩
  | .hbm, ⟨42, _⟩ => ⟨S1x5632, .f32⟩
  | .hbm, ⟨43, _⟩ => ⟨S32x5632, .f32⟩
  | .hbm, ⟨44, _⟩ => ⟨S32x5632, .f32⟩
  | .hbm, ⟨45, _⟩ => ⟨S32x5632, .f32⟩
  | .hbm, ⟨46, _⟩ => ⟨S1x5632, .f32⟩
  | .hbm, ⟨47, _⟩ => ⟨S32x5632, .f32⟩
  | .hbm, ⟨48, _⟩ => ⟨S32x5632, .f32⟩
  | .hbm, ⟨49, _⟩ => ⟨S32x2816, .f32⟩
  | .hbm, ⟨50, _⟩ => ⟨S32x2816, .f32⟩
  | .hbm, ⟨51, _⟩ => ⟨S32x2816, .f32⟩
  | .hbm, ⟨52, _⟩ => ⟨S_, .f32⟩
  | .hbm, ⟨53, _⟩ => ⟨S32x2816, .f32⟩
  | .hbm, ⟨54, _⟩ => ⟨S32x2816, .f32⟩
  | .hbm, ⟨55, _⟩ => ⟨S32x2816, .f32⟩
  | .hbm, ⟨56, _⟩ => ⟨S_, .f32⟩
  | .hbm, ⟨57, _⟩ => ⟨S32x2816, .f32⟩
  | .hbm, ⟨58, _⟩ => ⟨S32x2816, .f32⟩
  | .hbm, ⟨59, _⟩ => ⟨S32x2816, .f32⟩
  | .hbm, ⟨60, _⟩ => ⟨S_, .f32⟩
  | .hbm, ⟨61, _⟩ => ⟨S32x2816, .f32⟩
  | .hbm, ⟨62, _⟩ => ⟨S32x2816, .f32⟩
  | .hbm, ⟨63, _⟩ => ⟨S_, .f32⟩
  | .hbm, ⟨64, _⟩ => ⟨S32x2816, .f32⟩
  | .hbm, ⟨65, _⟩ => ⟨S32x2816, .f32⟩
  | .hbm, ⟨66, _⟩ => ⟨S32x2816, .f32⟩
  | .hbm, ⟨67, _⟩ => ⟨S32x2816, .f32⟩
  | .hbm, ⟨68, _⟩ => ⟨S32x2816, .f32⟩
  | .hbm, ⟨69, _⟩ => ⟨S32x1024, .f32⟩
  | .hbm, ⟨70, _⟩ => ⟨S32x1024, .f32⟩
  | .hbm, ⟨71, _⟩ => ⟨S_, .f32⟩
  | .hbm, ⟨72, _⟩ => ⟨S32, .f32⟩
  | .hbm, ⟨73, _⟩ => ⟨S32x1, .f32⟩
  | .hbm, ⟨74, _⟩ => ⟨S_, .f32⟩
  | .hbm, ⟨75, _⟩ => ⟨S32x1, .f32⟩
  | .hbm, ⟨76, _⟩ => ⟨S32x1, .f32⟩
  | .hbm, ⟨77, _⟩ => ⟨S_, .f32⟩
  | .hbm, ⟨78, _⟩ => ⟨S32x1, .f32⟩
  | .hbm, ⟨79, _⟩ => ⟨S32x1, .f32⟩
  | .hbm, ⟨80, _⟩ => ⟨S32x1, .f32⟩
  | .hbm, ⟨81, _⟩ => ⟨S32x1024, .f32⟩
  | .hbm, ⟨82, _⟩ => ⟨S32x1024, .f32⟩
  | .hbm, ⟨83, _⟩ => ⟨S1x1024, .f32⟩
  | .hbm, ⟨84, _⟩ => ⟨S32x1024, .f32⟩
  | .hbm, ⟨85, _⟩ => ⟨S32x1024, .f32⟩
  | .hbm, ⟨86, _⟩ => ⟨S32x1024, .f32⟩
  | .hbm, ⟨87, _⟩ => ⟨S32x2816, .f32⟩
  | .hbm, ⟨88, _⟩ => ⟨S32x2816, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Proof.Reals.lean ====
/- The constants the programs carry as numbers, and which of their intermediate values are real numbers. -/
module

public import Idealize.ShloMosaic.Lib.Pipeline.ValueKit

@[expose] public section

noncomputable section

namespace Cert.Reals

open Idealize.ShloMosaic

theorem ofBits_1024 : Ideal.ofBits .f32 0x44800000#32 = ((1024 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem ofBits_eighth : Ideal.ofBits .f32 0x3E000000#32 = ((1 / 8 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

theorem ofBits_neg_inf : Ideal.ofBits .f32 0xFF800000#32 = (⊥ : EReal) := by
  simp [Ideal.ofBits, Ideal.ieee]

/-- An extended real whose absolute value is below infinity is a real number. -/
theorem real_of_abs_lt (x : EReal) (h : max x (-x) < ⊤) : ∃ r : ℝ, x = r := by
  induction x with
  | bot => simp at h
  | top => simp at h
  | coe r => exact ⟨r, rfl⟩

/-- The same, from the word a comparison with infinity gives. -/
theorem real_of_lt_inf (x : EReal)
    (h : FloatOps.cmpf (F := Ideal) (φ := .f32) .olt (FloatOps.absf (F := Ideal) (φ := .f32) x) (Ideal.ofBits .f32 0x7F800000#32) = 1#1) :
    ∃ r : ℝ, x = r := by
  refine real_of_abs_lt x ?_
  rw [ofBits_inf] at h
  change BitVec.ofBool (decide (max x (-x) < ⊤)) = 1#1 at h
  by_contra hn
  rw [decide_eq_false hn] at h
  exact absurd h (by decide)

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The reciprocal root of a row's mean square, moved up by a positive constant, is a real number. -/
theorem norm_real {n : ℕ} (x : Fin n → EReal) (hx : ∀ k, ∃ r : ℝ, x k = r) : ∃ r : ℝ,
    Ideal.rsqrt (Ideal.div (∑ k, x k * x k) (Ideal.ofBits .f32 0x44800000#32) + Ideal.ofBits .f32 0x358637BD#32) = r := by
  choose f hf using hx
  obtain ⟨e, he, hb⟩ := ofBits_eps
  have hs : (∑ k, x k * x k) = ((∑ k, f k * f k : ℝ) : EReal) := by
    rw [coe_sum]
    exact Finset.sum_congr rfl fun k _ => by rw [hf k, EReal.coe_mul]
  have hn : 0 ≤ ∑ k, f k * f k := Finset.sum_nonneg fun k _ => mul_self_nonneg _
  rw [hs, hb, ofBits_1024]
  have hd : Ideal.div ((∑ k, f k * f k : ℝ) : EReal) ((1024 : ℝ) : EReal) = (((∑ k, f k * f k) * (1024 : ℝ)⁻¹ : ℝ) : EReal) := by
    rw [Ideal.div, if_neg (by norm_num), ← EReal.coe_inv, ← EReal.coe_mul]
  rw [hd, ← EReal.coe_add]
  have hp : 0 < (∑ k, f k * f k) * (1024 : ℝ)⁻¹ + e := by positivity
  refine ⟨(√((∑ k, f k * f k) * (1024 : ℝ)⁻¹ + e))⁻¹, ?_⟩
  change (if _ < 0 then (⊥ : EReal) else if _ = 0 then (⊤ : EReal) else (((√((∑ k, f k * f k) * (1024 : ℝ)⁻¹ + e))⁻¹ : ℝ) : EReal)) = _
  rw [if_neg hp.not_gt, if_neg hp.ne']

theorem sub_self_real (x : EReal) (h : ∃ r : ℝ, x = r) : x - x = 0 := by
  obtain ⟨r, rfl⟩ := h
  rw [← EReal.coe_sub, sub_self, EReal.coe_zero]

end Cert.Reals

end
-- ==== Proof.FoxMath.lean ====
/- Softmax by running maxima: a maximum, a sum of weights and a weighted sum carried over tiles of 256 keys, rescaled whenever
   the maximum grows, are at the end the maximum and the sums over all keys. Scores are real numbers or -∞ (a masked key);
   the values weighed may be anything. -/
module

public import Idealize.ShloMosaic.Lib.Pipeline.ValueKit
public import proofs.«01_k».proof.Proof.Reals

@[expose] public section

noncomputable section

namespace Cert.FoxMath

open Idealize.ShloMosaic

/-- A score: a real number, or -∞ where the key is masked. -/
def Score (x : EReal) : Prop := x = ⊥ ∨ ∃ r : ℝ, x = r

theorem exp_bot : Ideal.exp ⊥ = 0 := rfl
theorem exp_coe (r : ℝ) : Ideal.exp (r : EReal) = ((Real.exp r : ℝ) : EReal) := rfl

/-- The weight of a score against a real maximum is a nonnegative real number. -/
theorem weight_real {x : EReal} (hx : Score x) (a : ℝ) : ∃ e : ℝ, 0 ≤ e ∧ Ideal.exp (x - a) = e := by
  rcases hx with rfl | ⟨r, rfl⟩
  · exact ⟨0, le_rfl, by rw [EReal.bot_sub]; rfl⟩
  · exact ⟨Real.exp (r - a), (Real.exp_pos _).le, by rw [← EReal.coe_sub, exp_coe]⟩

/-- Rescaling a weight from one maximum to another. -/
theorem rescale {x : EReal} (hx : Score x) (a b : ℝ) :
    Ideal.exp ((a : EReal) - b) * Ideal.exp (x - a) = Ideal.exp (x - b) := by
  rcases hx with rfl | ⟨r, rfl⟩
  · rw [EReal.bot_sub, EReal.bot_sub, exp_bot, mul_zero]
  · rw [← EReal.coe_sub, ← EReal.coe_sub, ← EReal.coe_sub, exp_coe, exp_coe, exp_coe, ← EReal.coe_mul, ← Real.exp_add]
    rw [show a - b + (r - a) = r - b by ring]

/-- A nonnegative real factor goes into a sum of extended reals. -/
theorem mul_sum {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.mpr hc) (EReal.coe_ne_top c), ih]

/-- The state of one query row after the tiles `J`: `M` is the largest score met, `L` the sum of the weights against `M` and
    `A` the weighted sum of the values. -/
structure Inv (J : Finset ℕ) (s v : ℕ → EReal) (M L A : EReal) : Prop where
  le : ∀ j ∈ J, ∀ k : Fin 256, s (j * 256 + k) ≤ M
  att : ∃ j ∈ J, ∃ k : Fin 256, s (j * 256 + k) = M
  real : ∃ r : ℝ, M = r
  sum : L = ∑ j ∈ J, ∑ k : Fin 256, Ideal.exp (s (j * 256 + k) - M)
  acc : A = ∑ j ∈ J, ∑ k : Fin 256, Ideal.exp (s (j * 256 + k) - M) * v (j * 256 + k)

theorem max_real {s : Fin 256 → EReal} (hs : ∀ k, Score (s k)) (k0 : Fin 256) (r : ℝ) (h0 : s k0 = r) :
    ∃ r : ℝ, Finset.univ.sup s = r := by
  obtain ⟨k, -, hk⟩ := Finset.exists_mem_eq_sup Finset.univ Finset.univ_nonempty s
  rcases hs k with h | h
  · have : (r : EReal) ≤ ⊥ := by rw [← h, ← hk, ← h0]; exact Finset.le_sup (Finset.mem_univ k0)
    exact absurd (le_bot_iff.mp this) (EReal.coe_ne_bot r)
  · rw [hk]; exact h

/-- The first tile, from the empty state. -/
theorem start {s v : ℕ → EReal} (hs : ∀ n, Score (s n)) (j : ℕ) (k0 : Fin 256) (r0 : ℝ) (h0 : s (j * 256 + k0) = r0)
    {M' : EReal} (hM : M' = max ⊥ (Finset.univ.fold max ⊥ fun k : Fin 256 => s (j * 256 + k))) :
    Inv {j} s v M' (Ideal.exp (⊥ - M') * 0 + ∑ k : Fin 256, Ideal.exp (s (j * 256 + k) - M'))
      (Ideal.exp (⊥ - M') * 0 + ∑ k : Fin 256, Ideal.exp (s (j * 256 + k) - M') * v (j * 256 + k)) := by
  have hM' : M' = Finset.univ.sup fun k : Fin 256 => s (j * 256 + k) := by rw [hM, max_eq_right bot_le]; rfl
  refine ⟨fun i hi k => ?_, ⟨j, Finset.mem_singleton_self j, ?_⟩, ?_, ?_, ?_⟩
  · rw [Finset.mem_singleton.mp hi, hM']
    exact Finset.le_sup (f := fun k : Fin 256 => s (j * 256 + k)) (Finset.mem_univ k)
  · obtain ⟨k, -, hk⟩ := Finset.exists_mem_eq_sup Finset.univ Finset.univ_nonempty fun k : Fin 256 => s (j * 256 + k)
    exact ⟨k, by rw [hM', hk]⟩
  · rw [hM']; exact max_real (fun k => hs _) k0 r0 h0
  · rw [mul_zero, zero_add, Finset.sum_singleton]
  · rw [mul_zero, zero_add, Finset.sum_singleton]

/-- One more tile. -/
theorem step {J : Finset ℕ} {s v : ℕ → EReal} {M L A : EReal} (hs : ∀ n, Score (s n)) (h : Inv J s v M L A) (j : ℕ)
    (hj : j ∉ J) {M' : EReal} (hM : M' = max M (Finset.univ.fold max ⊥ fun k : Fin 256 => s (j * 256 + k))) :
    Inv (insert j J) s v M' (Ideal.exp (M - M') * L + ∑ k : Fin 256, Ideal.exp (s (j * 256 + k) - M'))
      (Ideal.exp (M - M') * A + ∑ k : Fin 256, Ideal.exp (s (j * 256 + k) - M') * v (j * 256 + k)) := by
  have hM' : M' = max M (Finset.univ.sup fun k : Fin 256 => s (j * 256 + k)) := hM
  obtain ⟨a, ha⟩ := h.real
  obtain ⟨k, -, hk⟩ := Finset.exists_mem_eq_sup Finset.univ Finset.univ_nonempty fun k : Fin 256 => s (j * 256 + k)
  have hb : ∃ b : ℝ, M' = b := by
    rw [hM', hk]
    rcases hs (j * 256 + k) with h | ⟨b, h⟩
    · exact ⟨a, by rw [h, max_eq_left bot_le, ha]⟩
    · exact ⟨max a b, by rw [h, ha]; exact (EReal.coe_strictMono.monotone.map_max).symm⟩
  obtain ⟨b, hb⟩ := hb
  obtain ⟨e, he, hex⟩ := weight_real (Or.inr ⟨a, rfl⟩) b
  refine ⟨fun i hi k' => ?_, ?_, ⟨b, hb⟩, ?_, ?_⟩
  · rw [hM']
    rcases Finset.mem_insert.mp hi with rfl | hi
    · exact le_max_of_le_right (Finset.le_sup (f := fun k : Fin 256 => s (i * 256 + k)) (Finset.mem_univ k'))
    · exact le_max_of_le_left (h.le i hi k')
  · rcases le_total M (Finset.univ.sup fun k : Fin 256 => s (j * 256 + k)) with hle | hle
    · exact ⟨j, Finset.mem_insert_self _ _, k, by rw [hM', max_eq_right hle, hk]⟩
    · obtain ⟨i, hi, k', hk'⟩ := h.att
      exact ⟨i, Finset.mem_insert_of_mem hi, k', by rw [hM', max_eq_left hle, hk']⟩
  · rw [Finset.sum_insert hj, add_comm, h.sum, ha, hb, hex, mul_sum _ _ he]
    congr 1
    refine Finset.sum_congr rfl fun i _ => ?_
    rw [mul_sum _ _ he]
    exact Finset.sum_congr rfl fun k _ => by rw [← hex, rescale (hs _)]
  · rw [Finset.sum_insert hj, add_comm, h.acc, ha, hb, hex, mul_sum _ _ he]
    congr 1
    refine Finset.sum_congr rfl fun i _ => ?_
    rw [mul_sum _ _ he]
    exact Finset.sum_congr rfl fun k _ => by rw [← mul_assoc, ← hex, rescale (hs _)]

/-- A sum over 4096 keys by tiles. -/
theorem sum_tiles (g : ℕ → EReal) : ∑ n : Fin 4096, g n = ∑ j ∈ Finset.range 16, ∑ k : Fin 256, g (j * 256 + k) := by
  rw [Finset.sum_range, ← Fintype.sum_prod_type' (f := fun (j : Fin 16) (k : Fin 256) => g (j * 256 + k))]
  refine (Fintype.sum_equiv (finProdFinEquiv (m := 16) (n := 256)) _ _ fun x => ?_).symm
  congr 1
  simp only [finProdFinEquiv_apply_val]; omega

/-- A sum over 4096 keys whose terms vanish from tile `q + 1` on. -/
theorem sum_tiles_of {q : ℕ} (hq : q < 16) (g : ℕ → EReal) (hg : ∀ n, (q + 1) * 256 ≤ n → g n = 0) :
    ∑ n : Fin 4096, g n = ∑ j ∈ Finset.range (q + 1), ∑ k : Fin 256, g (j * 256 + k) := by
  rw [sum_tiles]
  symm
  refine Finset.sum_subset (fun i hi => ?_) fun i hi hn => Finset.sum_eq_zero fun k _ => hg _ ?_
  · simp only [Finset.mem_range] at *; omega
  · simp only [Finset.mem_range] at *; omega

/-- The running state's quotient is the softmax over all keys of the scores shifted by a real number, applied to the values. -/
theorem final {q : ℕ} (hq : q < 16) {s v : ℕ → EReal} {M L A : EReal} (hs : ∀ n, Score (s n))
    (h : Inv (Finset.range (q + 1)) s v M L A) (hbot : ∀ n, (q + 1) * 256 ≤ n → s n = ⊥) (c : ℝ)
    {M' : EReal} (hM : M' = Finset.univ.fold max ⊥ fun n : Fin 4096 => s n + c) :
    Ideal.div A L = ∑ n : Fin 4096,
      Ideal.div (Ideal.exp (s n + c - M')) (∑ n : Fin 4096, Ideal.exp (s n + c - M')) * v n := by
  obtain ⟨a, ha⟩ := h.real
  have hM' : M' = ((a + c : ℝ) : EReal) := by
    have hM' : M' = Finset.univ.sup fun n : Fin 4096 => s n + c := hM
    rw [hM']
    refine le_antisymm (Finset.sup_le fun n _ => ?_) ?_
    · rw [EReal.coe_add, ← ha]
      refine add_le_add ?_ le_rfl
      rcases lt_or_ge n.val ((q + 1) * 256) with hn | hn
      · have := h.le (n.val / 256) (Finset.mem_range.mpr (by omega)) ⟨n.val % 256, by omega⟩
        rwa [show n.val / 256 * 256 + n.val % 256 = n.val by omega] at this
      · rw [hbot _ hn]; exact bot_le
    · obtain ⟨j, hj, k, hk⟩ := h.att
      have hj' := Finset.mem_range.mp hj
      rw [EReal.coe_add, ← ha, ← hk]
      exact Finset.le_sup (f := fun n : Fin 4096 => s n + c) (Finset.mem_univ (⟨j * 256 + k, by omega⟩ : Fin 4096))
  have hw : ∀ n, Ideal.exp (s n + c - M') = Ideal.exp (s n - M) := fun n => by
    rw [hM', ha]
    rcases hs n with h | ⟨r, h⟩
    · rw [h, EReal.bot_add, EReal.bot_sub, EReal.bot_sub]
    · rw [h, ← EReal.coe_add, ← EReal.coe_sub, ← EReal.coe_sub, add_sub_add_right_eq_sub]
  have hz : ∀ n, (q + 1) * 256 ≤ n → Ideal.exp (s n - M) = 0 := fun n hn => by rw [hbot n hn, EReal.bot_sub, exp_bot]
  simp only [hw]
  have hL : ∑ n : Fin 4096, Ideal.exp (s n - M) = L := by
    rw [h.sum]; exact sum_tiles_of hq (fun n => Ideal.exp (s n - M)) hz
  rw [hL]
  have hl : ∃ l : ℝ, 0 < l ∧ L = l := by
    have hr : ∀ n, ∃ e : ℝ, 0 ≤ e ∧ Ideal.exp (s n - M) = e := fun n => by rw [ha]; exact weight_real (hs n) a
    choose e he hee using hr
    refine ⟨∑ n : Fin 4096, e n, ?_, ?_⟩
    · obtain ⟨j, hj, k, hk⟩ := h.att
      have hj' := Finset.mem_range.mp hj
      refine Finset.sum_pos' (fun n _ => he n) ⟨⟨j * 256 + k, by omega⟩, Finset.mem_univ _, ?_⟩
      have h1 := hee (j * 256 + k)
      rw [hk, ha, ← EReal.coe_sub, sub_self, exp_coe, Real.exp_zero] at h1
      have h2 := EReal.coe_injective h1
      show 0 < e (j * 256 + k)
      rw [← h2]; exact one_pos
    · rw [← hL, Reals.coe_sum]; exact Finset.sum_congr rfl fun n _ => hee n
  obtain ⟨l, hl, hLl⟩ := hl
  have hd : ∀ x : EReal, Ideal.div x L = ((l⁻¹ : ℝ) : EReal) * x := fun x => by
    have h0 : (l : EReal) ≠ 0 := by rw [← EReal.coe_zero]; exact fun h => hl.ne' (EReal.coe_injective h)
    rw [hLl, Ideal.div, if_neg h0, ← EReal.coe_inv, mul_comm]
  simp only [hd]
  rw [h.acc, ← sum_tiles_of hq (fun n => Ideal.exp (s n - M) * v n) fun n hn => by rw [hz n hn, zero_mul],
    mul_sum _ _ (inv_pos.mpr hl).le]
  exact Finset.sum_congr rfl fun n _ => (mul_assoc _ _ _).symm

end Cert.FoxMath
-- ==== Proof.FoxStep.lean ====
module

public import proofs.«01_k».proof.Proof.Gen.FoxIdeal.Value
public import proofs.«01_k».proof.Defs
public import proofs.«01_k».proof.Proof.Reals
public import proofs.«01_k».proof.Proof.FoxMath
public import Idealize.ShloMosaic.Lib.Pipeline.ValueKit
public import Idealize.ShloMosaic.Lib.WordCmp

@[expose] public section

set_option maxRecDepth 16384

noncomputable section

namespace Cert.FoxIdeal.Hand

open Cert.FoxIdeal Cert.FoxIdeal.Gen Idealize.ShloMosaic Idealize.ShloMosaic.TcCoe Idealize.SL.Sem
open Idealize.ShloMosaic.Pipeline (Dat)

/-- The maxima after a tile of scores. -/
def newM (m : FVec Ideal S256x1 .f32) (s : FVec Ideal S256x256 .f32) : FVec Ideal S256x1 .f32 :=
  maximumf m (shapeCast S256x1 (multiReduction .maximumf [1] S256 s 0xFF800000#32 reduces_S256x256_S256 (.inl rfl) rfl) shapeCasts_S256_S256x1)

/-- The tile's weights against the new maxima. -/
def newW (m : FVec Ideal S256x1 .f32) (s : FVec Ideal S256x256 .f32) : FVec Ideal S256x256 .f32 :=
  exp (subf s (broadcastTo S256x256 (newM m s) broadcasts_S256x1_S256x256))

/-- The sums of the weights after the tile. -/
def newL (m l : FVec Ideal S256x1 .f32) (s : FVec Ideal S256x256 .f32) : FVec Ideal S256x1 .f32 :=
  addf (mulf (exp (subf m (newM m s))) l)
    (shapeCast S256x1 (multiReduction .add [1] S256 (newW m s) 0x00000000#32 reduces_S256x256_S256 (.inl rfl) rfl) shapeCasts_S256_S256x1)

/-- The weighted sums of the values after the tile. -/
def newA (m : FVec Ideal S256x1 .f32) (a : FVec Ideal S256x128 .f32) (s : FVec Ideal S256x256 .f32) (v : FVec Ideal S256x128 .bf16) :
    FVec Ideal S256x128 .f32 :=
  addf (mulf (broadcastTo S256x128 (exp (subf m (newM m s))) broadcasts_S256x1_S256x128) a)
    (matmul dot_S256x256_S256x128_S256x128_1_0_0_1_n_n none (truncf .bf16 (newW m s) bitsLt_bf16_f32) v (constant S256x128 .f32 0x00000000#32))

section
variable (q : FVec Ideal S256x128 .bf16) (m l : FVec Ideal S256x1 .f32) (a : FVec Ideal S256x128 .f32)
  (k v : FVec Ideal S256x128 .bf16) (c : FVec Ideal S1x1x256 .f32)

theorem lo_m : k0_pay7 (F := Ideal) q m k c = newM m (k0_pay6 q k c) := rfl
theorem lo_l : k0_pay10 (F := Ideal) q m l k c = newL m l (k0_pay6 q k c) := rfl
theorem lo_a : k0_pay11 (F := Ideal) q m a k v c = newA m a (k0_pay6 q k c) v := rfl
theorem hi_m : k0_pay13 (F := Ideal) q m k c = newM m (k0_pay6 q k c) := rfl
theorem hi_l : k0_pay1 (F := Ideal) (k0_pay16 q m l k c) (k0_pay17 q m k c) = newL m l (k0_pay6 q k c) := rfl
theorem hi_a : k0_pay2 (F := Ideal) a v (k0_pay14 q m k c) (k0_pay15 q m k c) = newA m a (k0_pay6 q k c) v := rfl

/-- The scores of the diagonal tile, masked. -/
def diag : FVec Ideal S256x256 .f32 :=
  select (cmpi .sle (iota .tc S256x256 32 [1] iota_S256x256_d1_w32) (iota .tc S256x256 32 [0] iota_S256x256_d0_w32)) (k0_pay6 q k c)
    (broadcast S256x256 (Scalar.ofBits .f32 0xFF800000#32))

end

theorem newM_apply (m : FVec Ideal S256x1 .f32) (s : FVec Ideal S256x256 .f32) (r : Fin 256) :
    newM m s (ix2 r 0) = max (m (ix2 r 0)) (Finset.univ.fold max ⊥ fun k : Fin 256 => s (ix2 r k)) := by
  pointwise [newM]
  rw [Reals.ofBits_neg_inf]

theorem newW_apply (m : FVec Ideal S256x1 .f32) (s : FVec Ideal S256x256 .f32) (r k : Fin 256) :
    newW m s (ix2 r k) = Ideal.exp (s (ix2 r k) - newM m s (ix2 r 0)) := by
  pointwise [newW]

theorem newL_apply (m l : FVec Ideal S256x1 .f32) (s : FVec Ideal S256x256 .f32) (r : Fin 256) :
    newL m l s (ix2 r 0) = Ideal.exp (m (ix2 r 0) - newM m s (ix2 r 0)) * l (ix2 r 0) +
      ∑ k : Fin 256, Ideal.exp (s (ix2 r k) - newM m s (ix2 r 0)) := by
  pointwise [newL, newW_apply]

theorem newA_apply (m : FVec Ideal S256x1 .f32) (a : FVec Ideal S256x128 .f32) (s : FVec Ideal S256x256 .f32) (v : FVec Ideal S256x128 .bf16)
    (r : Fin 256) (d : Fin 128) :
    newA m a s v (ix2 r d) = Ideal.exp (m (ix2 r 0) - newM m s (ix2 r 0)) * a (ix2 r d) +
      ∑ k : Fin 256, Ideal.exp (s (ix2 r k) - newM m s (ix2 r 0)) * v (ix2 k d) := by
  pointwise [newA, newW_apply]

theorem pay6_apply (q k : FVec Ideal S256x128 .bf16) (c : FVec Ideal S1x1x256 .f32) (r n : Fin 256) :
    k0_pay6 (F := Ideal) q k c (ix2 r n) = (∑ d : Fin 128, q (ix2 r d) * k (ix2 n d)) - c (ix3 0 0 n) := by
  pointwise [k0_pay6]

theorem diag_apply (q k : FVec Ideal S256x128 .bf16) (c : FVec Ideal S1x1x256 .f32) (r n : Fin 256) :
    diag q k c (ix2 r n) = if n ≤ r then k0_pay6 (F := Ideal) q k c (ix2 r n) else ⊥ := by
  pointwise [diag]
  rw [WordCmp.cmpi_sle_ofNat (by omega) (by omega), WordCmp.select_ofBool, Reals.ofBits_neg_inf]
  simp only [decide_eq_true_eq, Fin.le_def]

/-- The rows and the columns of the diagonal tile, as words. -/
abbrev rows : IVec S256x256 32 := iota .tc S256x256 32 [0] iota_S256x256_d0_w32
abbrev cols : IVec S256x256 32 := iota .tc S256x256 32 [1] iota_S256x256_d1_w32

section
variable (x : FVec Ideal S256x128 .f32) (k v : FVec Ideal S256x128 .bf16) (c : FVec Ideal S1x1x256 .f32)

theorem dlo_m : k0_pay45 (F := Ideal) rows cols k0_pay36 (k0_pay42 x k) (k0_pay43 c) = newM k0_pay36 (diag (k0_pay34 x) k c) := rfl
theorem dlo_l : k0_pay48 (F := Ideal) rows cols k0_pay36 k0_pay37 (k0_pay42 x k) (k0_pay43 c) =
    newL k0_pay36 k0_pay37 (diag (k0_pay34 x) k c) := rfl
theorem dlo_a : k0_pay49 (F := Ideal) rows cols k0_pay36 k0_pay38 v (k0_pay42 x k) (k0_pay43 c) =
    newA k0_pay36 k0_pay38 (diag (k0_pay34 x) k c) v := rfl
theorem dhi_m : k0_pay51 (F := Ideal) (k0_pay35 x) rows cols k0_pay39 k c = newM k0_pay36 (diag (k0_pay35 x) k c) := rfl
theorem dhi_l : k0_pay54 (F := Ideal) (k0_pay35 x) rows cols k0_pay39 k0_pay40 k c =
    newL k0_pay36 k0_pay37 (diag (k0_pay35 x) k c) := rfl
theorem dhi_a : k0_pay55 (F := Ideal) (k0_pay35 x) rows cols k0_pay39 k0_pay41 k v c =
    newA k0_pay36 k0_pay38 (diag (k0_pay35 x) k c) v := rfl

end

theorem pay36_apply (r : Fin 256) : k0_pay36 (F := Ideal) (ix2 r 0) = ⊥ := by
  pointwise [k0_pay36]
  exact Reals.ofBits_neg_inf

theorem pay37_apply (r : Fin 256) : k0_pay37 (F := Ideal) (ix2 r 0) = 0 := by
  pointwise [k0_pay37]

theorem pay38_apply (r : Fin 256) (d : Fin 128) : k0_pay38 (F := Ideal) (ix2 r d) = 0 := by
  pointwise [k0_pay38]

theorem pay34_apply (x : FVec Ideal S256x128 .f32) (r : Fin 256) (d : Fin 128) :
    k0_pay34 (F := Ideal) x (ix2 r d) = if d.val < 64 then x (ix2 r d) * ((1 / 8 : ℝ) : EReal) else 0 := by
  pointwise [k0_pay34, k0_pay33, k0_pay32]
  rw [WordCmp.cmpi_slt_ofNat (by omega) (by omega), WordCmp.select_ofBool, Reals.ofBits_eighth]
  simp only [decide_eq_true_eq]

theorem pay35_apply (x : FVec Ideal S256x128 .f32) (r : Fin 256) (d : Fin 128) :
    k0_pay35 (F := Ideal) x (ix2 r d) = if d.val < 64 then 0 else x (ix2 r d) * ((1 / 8 : ℝ) : EReal) := by
  pointwise [k0_pay35, k0_pay33, k0_pay32]
  have h : IntOp.cmpi .sge (BitVec.ofNat 32 d.val) (BitVec.ofNat 32 64) = BitVec.ofBool (decide (64 ≤ d.val)) :=
    WordCmp.cmpi_sge_ofNat (by omega) (by omega)
  rw [h, WordCmp.select_ofBool, Reals.ofBits_eighth]
  by_cases hd : d.val < 64
  · rw [if_pos hd, if_neg (by simp only [decide_eq_true_eq]; omega)]
  · rw [if_neg hd, if_pos (by simp only [decide_eq_true_eq]; omega)]

theorem pay5_apply (l0 l1 : FVec Ideal S256x1 .f32) (a0 a1 : FVec Ideal S256x128 .f32) (r : Fin 256) (d : Fin 128) :
    k0_pay5 (F := Ideal) k0_pay33 l0 a0 l1 a1 (ix2 r d) =
      if d.val < 64 then Ideal.div (a0 (ix2 r d)) (l0 (ix2 r 0)) else Ideal.div (a1 (ix2 r d)) (l1 (ix2 r 0)) := by
  pointwise [k0_pay5, k0_pay33]
  rw [WordCmp.cmpi_slt_ofNat (by omega) (by omega), WordCmp.select_ofBool]
  simp only [decide_eq_true_eq]

end Cert.FoxIdeal.Hand
-- ==== Proof.FoxRef.lean ====
module

public import proofs.«01_k».proof.Proof.Gen.FoxRefIdeal.Run
public import proofs.«01_k».proof.Defs
public import proofs.«01_k».proof.Proof.Reals
public import Idealize.ShloMosaic.Lib.Pipeline.ValueKit
public import Idealize.ShloMosaic.Lib.WordCmp

@[expose] public section

set_option maxRecDepth 16384

noncomputable section

namespace Cert.FoxRefIdeal.Hand

open Cert.FoxRefIdeal Cert.FoxRefIdeal.Gen Idealize.ShloMosaic Idealize.ShloMosaic.TcCoe Idealize.SL.Sem

theorem rowMax_apply {a b c n : Nat} (x : FVec Ideal ⟨4, ![a, b, c, n]⟩ .f32) (h' : (⟨4, ![a, b, c, n]⟩ : Shape).ReducesTo [3] (⟨3, ![a, b, c]⟩ : Shape))
    (h : (⟨4, ![a, b, c, n]⟩ : Shape).Reduces [3] (⟨3, ![a, b, c]⟩ : Shape)) (hu : 0 < (⟨0, ![]⟩ : Shape).numel) (i : Fin a) (j : Fin b) (k : Fin c) :
    Host.reduce FloatOps.maximumf x (constant (⟨0, ![]⟩ : Shape) .f32 0xFF800000#32) h' hu (ix3 i j k) =
      Finset.univ.fold max ⊥ fun l : Fin n => x (ix4 i j k l) := by
  rw [Host.reduce_eq_fold_single FloatOps.maximumf x _ h' h hu]
  have hf : (x ∘ h.lift (ix3 i j k)) = fun l : Fin n => x (ix4 i j k l) := funext fun l => congrArg x (by
    funext c; apply Fin.ext
    fin_cases c <;> rfl)
  rw [← Reals.ofBits_neg_inf]
  exact congrArg (fun f => Finset.fold max (Ideal.ofBits .f32 0xFF800000#32) f (Finset.univ : Finset (Fin n))) hf

theorem reduces4 : S4x16x4096x4096.Reduces [3] S4x16x4096 := by decide

/-- Each row's largest logit. -/
def rowTop (l : FVec Ideal S4x16x4096x4096 .f32) : FVec Ideal S4x16x4096 .f32 :=
  Host.reduce FloatOps.maximumf l (constant S_ .f32 0xFF800000#32) reducesTo_S4x16x4096x4096_S4x16x4096_d3 h_S_

theorem rowTop_apply (l : FVec Ideal S4x16x4096x4096 .f32) (n : Fin 4) (h : Fin 16) (i : Fin 4096) :
    rowTop l (ix3 n h i) = Finset.univ.fold max ⊥ fun j : Fin 4096 => l (ix4 n h i j) :=
  rowMax_apply l reducesTo_S4x16x4096x4096_S4x16x4096_d3 reduces4 h_S_ n h i

def less (l : FVec Ideal S4x16x4096x4096 .f32) (z : FVec Ideal S4x16x4096 .f32) : FVec Ideal S4x16x4096x4096 .f32 :=
  Host.exp (subf l (broadcastInDim S4x16x4096x4096 ![0, 1, 2, 3] bcast_S4x16x4096x1_S4x16x4096x4096_0_1_2_3 (broadcastInDim S4x16x4096x1 ![0, 1, 2] bcast_S4x16x4096_S4x16x4096x1_0_1_2 z)))

def top (z : FVec Ideal S4x16x4096 .f32) : FVec Ideal S4x16x4096 .f32 :=
  maximumf (broadcastInDim S4x16x4096 ![] bcast_S_S4x16x4096 (constant S_ .f32 0xFF800000#32)) z

theorem top_apply (z : FVec Ideal S4x16x4096 .f32) (n : Fin 4) (h : Fin 16) (i : Fin 4096) : top z (ix3 n h i) = z (ix3 n h i) := by
  pointwise [top]
  rw [Reals.ofBits_neg_inf, max_eq_right bot_le]

theorem less_apply (l : FVec Ideal S4x16x4096x4096 .f32) (z : FVec Ideal S4x16x4096 .f32) (n : Fin 4) (h : Fin 16) (i j : Fin 4096) :
    less l z
      (ix4 n h i j) = Ideal.exp (l (ix4 n h i j) - z (ix3 n h i)) := by
  pointwise [less]

/-- The exponentials of the logits less their row's largest. -/
def expo (l : FVec Ideal S4x16x4096x4096 .f32) : FVec Ideal S4x16x4096x4096 .f32 := less l (top (rowTop l))

theorem expo_apply (l : FVec Ideal S4x16x4096x4096 .f32) (n : Fin 4) (h : Fin 16) (i j : Fin 4096) :
    expo l (ix4 n h i j) = Ideal.exp (l (ix4 n h i j) - Finset.univ.fold max ⊥ fun j : Fin 4096 => l (ix4 n h i j)) := by
  unfold expo
  generalize hz : rowTop l = z
  rw [less_apply, top_apply, ← hz, rowTop_apply]

section
variable (q k v : FVec Ideal S16384x1024 .f32) (cr : FVec Ideal S8x2x16384 .f32)

/-- The cumulated gates by sequence, head and position. -/
def cum : FVec Ideal S4x16x4096 .f32 :=
  transpose S4x16x4096 [1, 0, 2] (shapeCast _ cr shapeCasts_S8x2x16384_S16x4x4096) transposes_S16x4x4096_S4x16x4096_1_0_2

/-- The products of the queries and the keys. -/
def dots : FVec Ideal S4x16x4096x4096 .f32 :=
  Host.dotGeneral dot_S4x4096x16x64_S4x4096x16x64_S4x16x4096x4096_3_3_1_1_02_02 none
    (shapeCast _ q shapeCasts_S16384x1024_S4x4096x16x64) (shapeCast _ k shapeCasts_S16384x1024_S4x4096x16x64)

/-- The masked logits. -/
def logits : FVec Ideal S4x16x4096x4096 .f32 :=
  select (broadcastInDim S4x16x4096x4096 ![2, 3] bcast_S4096x4096_S4x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (addf (mulf (dots q k) (broadcastInDim S4x16x4096x4096 ![] bcast_S_S4x16x4096x4096 (constant S_ .f32 0x3E000000#32)))
      (subf (broadcastInDim S4x16x4096x4096 ![0, 1, 2, 3] bcast_S4x16x4096x1_S4x16x4096x4096_0_1_2_3 (broadcastInDim S4x16x4096x1 ![0, 1, 2] bcast_S4x16x4096_S4x16x4096x1_0_1_2 (cum cr)))
        (broadcastInDim S4x16x4096x4096 ![0, 1, 2, 3] bcast_S4x16x1x4096_S4x16x4096x4096_0_1_2_3 (broadcastInDim S4x16x1x4096 ![0, 1, 3] bcast_S4x16x4096_S4x16x1x4096_0_1_3 (cum cr)))))
    (broadcastInDim S4x16x4096x4096 ![] bcast_S_S4x16x4096x4096 (id (constant S_ .f32 0xFF800000#32)))

/-- The softmax from the exponentials. -/
def soft (e : FVec Ideal S4x16x4096x4096 .f32) : FVec Ideal S4x16x4096x4096 .f32 :=
  Host.divf e (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd e (constant S_ .f32 0x00000000#32) reducesTo_S4x16x4096x4096_S4x16x4096_d3 h_S_)))

/-- The softmax applied to the values. -/
def mix (p : FVec Ideal S4x16x4096x4096 .f32) : FVec Ideal S4x16x64x4096 .f32 :=
  Host.dotGeneral dot_S4x4096x16x64_S4x16x4096x4096_S4x16x64x4096_1_3_3_2_02_01 none (shapeCast _ v shapeCasts_S16384x1024_S4x4096x16x64) p

end

theorem res_eq (m : (ℓ : Loc nD τ sig) → Buf (Elt Ideal) ℓ) (c : Dev nD) :
    Value.res_main_v34 (F := Ideal) m c = shapeCast S16384x1024 (transpose S4x4096x16x64 [0, 3, 1, 2]
      (mix (m ((c.tc : Thread nD τ).loc main_arg2)) (soft (expo (logits (m ((c.tc : Thread nD τ).loc main_arg0))
        (m ((c.tc : Thread nD τ).loc main_arg1)) (m ((c.tc : Thread nD τ).loc main_arg3))))))
      transposes_S4x16x64x4096_S4x4096x16x64_0_3_1_2) shapeCasts_S4x4096x16x64_S16384x1024 := rfl

/-- An array of rows by sequence, position, head and lane. -/
theorem heads_apply (x : FVec Ideal S16384x1024 .f32) (n : Fin 4) (i : Fin 4096) (h : Fin 16) (e : Fin 64) :
    shapeCast S4x4096x16x64 x shapeCasts_S16384x1024_S4x4096x16x64 (ix4 n i h e) =
      x (ix2 ⟨n.val * 4096 + i.val, by omega⟩ ⟨h.val * 64 + e.val, by omega⟩) := by
  refine shapeCast_apply _ _ (ix4 n i h e) (ix2 ⟨n.val * 4096 + i.val, by omega⟩ ⟨h.val * 64 + e.val, by omega⟩) ?_
  rw [Shape.rowMajor_val_two, Shape.rowMajor_val_four]
  show (n.val * 4096 + i.val) * 1024 + (h.val * 64 + e.val) = ((n.val * 4096 + i.val) * 16 + h.val) * 64 + e.val
  omega

theorem cum_apply (cr : FVec Ideal S8x2x16384 .f32) (n : Fin 4) (h : Fin 16) (i : Fin 4096) :
    cum cr (ix3 n h i) = cr (ix3 ⟨h.val / 2, by omega⟩ ⟨h.val % 2, by omega⟩ ⟨n.val * 4096 + i.val, by omega⟩) := by
  have e : cum cr (ix3 n h i) = shapeCast S16x4x4096 cr shapeCasts_S8x2x16384_S16x4x4096 (ix3 h n i) := by
    unfold cum
    generalize shapeCast S16x4x4096 cr shapeCasts_S8x2x16384_S16x4x4096 = z
    pointwise
  rw [e]
  refine shapeCast_apply _ _ (ix3 h n i) (ix3 ⟨h.val / 2, by omega⟩ ⟨h.val % 2, by omega⟩ ⟨n.val * 4096 + i.val, by omega⟩) ?_
  rw [Shape.rowMajor_val_three, Shape.rowMajor_val_three]
  show (h.val / 2 * 2 + h.val % 2) * 16384 + (n.val * 4096 + i.val) = (h.val * 4 + n.val) * 4096 + i.val
  omega

theorem dots_apply (q k : FVec Ideal S16384x1024 .f32) (n : Fin 4) (h : Fin 16) (i j : Fin 4096) :
    dots q k (ix4 n h i j) = ∑ e : Fin 64, q (ix2 ⟨n.val * 4096 + i.val, by omega⟩ ⟨h.val * 64 + e.val, by omega⟩)
      * k (ix2 ⟨n.val * 4096 + j.val, by omega⟩ ⟨h.val * 64 + e.val, by omega⟩) := by
  simp only [← heads_apply]
  unfold dots
  generalize shapeCast S4x4096x16x64 q shapeCasts_S16384x1024_S4x4096x16x64 = y
  generalize shapeCast S4x4096x16x64 k shapeCasts_S16384x1024_S4x4096x16x64 = z
  pointwise

theorem mix_apply (v : FVec Ideal S16384x1024 .f32) (p : FVec Ideal S4x16x4096x4096 .f32) (n : Fin 4) (h : Fin 16) (e : Fin 64) (i : Fin 4096) :
    mix v p (ix4 n h e i) = ∑ j : Fin 4096, v (ix2 ⟨n.val * 4096 + j.val, by omega⟩ ⟨h.val * 64 + e.val, by omega⟩) * p (ix4 n h i j) := by
  simp only [← heads_apply]
  unfold mix
  generalize shapeCast S4x4096x16x64 v shapeCasts_S16384x1024_S4x4096x16x64 = z
  pointwise

theorem logits_apply (q k : FVec Ideal S16384x1024 .f32) (cr : FVec Ideal S8x2x16384 .f32) (n : Fin 4) (h : Fin 16) (i j : Fin 4096) :
    logits q k cr (ix4 n h i j) = if j.val ≤ i.val then dots q k (ix4 n h i j) * ((1 / 8 : ℝ) : EReal) + (cum cr (ix3 n h i) - cum cr (ix3 n h j))
      else ⊥ := by
  unfold logits
  generalize dots q k = y
  generalize cum cr = z
  pointwise
  have hi : id (constant (F := Ideal) S_ .f32 0xFF800000#32) ix0 = (⊥ : EReal) := Reals.ofBits_neg_inf
  rw [hi, WordCmp.cmpi_sle_ofNat (by omega) (by omega), WordCmp.select_ofBool, Reals.ofBits_eighth]
  simp only [decide_eq_true_eq]

theorem soft_apply (l : FVec Ideal S4x16x4096x4096 .f32) (n : Fin 4) (h : Fin 16) (i j : Fin 4096) :
    soft l (ix4 n h i j) = Ideal.div (l (ix4 n h i j)) (∑ j : Fin 4096, l (ix4 n h i j)) := by
  pointwise [soft]

theorem out_apply (z : FVec Ideal S4x16x64x4096 .f32) (n : Fin 4) (h : Fin 16) (e : Fin 64) (i : Fin 4096) :
    shapeCast S16384x1024 (transpose S4x4096x16x64 [0, 3, 1, 2] z transposes_S4x16x64x4096_S4x4096x16x64_0_3_1_2)
      shapeCasts_S4x4096x16x64_S16384x1024 (ix2 ⟨n.val * 4096 + i.val, by omega⟩ ⟨h.val * 64 + e.val, by omega⟩) = z (ix4 n h e i) := by
  refine (shapeCast_apply _ _ (ix2 ⟨n.val * 4096 + i.val, by omega⟩ ⟨h.val * 64 + e.val, by omega⟩) (ix4 n i h e) ?_).trans ?_
  · rw [Shape.rowMajor_val_two, Shape.rowMajor_val_four]
    show ((n.val * 4096 + i.val) * 16 + h.val) * 64 + e.val = (n.val * 4096 + i.val) * 1024 + (h.val * 64 + e.val)
    omega
  · pointwise

/-- A query's logit at a key. -/
def lg (q k : FVec Ideal S16384x1024 .f32) (cr : FVec Ideal S8x2x16384 .f32) (n : Fin 4) (h : Fin 16) (i j : Fin 4096) : EReal :=
  if j.val ≤ i.val then
    (∑ e : Fin 64, q (ix2 ⟨n.val * 4096 + i.val, by omega⟩ ⟨h.val * 64 + e.val, by omega⟩)
      * k (ix2 ⟨n.val * 4096 + j.val, by omega⟩ ⟨h.val * 64 + e.val, by omega⟩)) * ((1 / 8 : ℝ) : EReal)
    + (cr (ix3 ⟨h.val / 2, by omega⟩ ⟨h.val % 2, by omega⟩ ⟨n.val * 4096 + i.val, by omega⟩)
      - cr (ix3 ⟨h.val / 2, by omega⟩ ⟨h.val % 2, by omega⟩ ⟨n.val * 4096 + j.val, by omega⟩))
  else ⊥

theorem res_apply (m : (ℓ : Loc nD τ sig) → Buf (Elt Ideal) ℓ) (c : Dev nD) (q k v : FVec Ideal S16384x1024 .f32) (cr : FVec Ideal S8x2x16384 .f32)
    (hq : m ((c.tc : Thread nD τ).loc main_arg0) = q) (hk : m ((c.tc : Thread nD τ).loc main_arg1) = k)
    (hv : m ((c.tc : Thread nD τ).loc main_arg2) = v) (hc : m ((c.tc : Thread nD τ).loc main_arg3) = cr)
    (n : Fin 4) (h : Fin 16) (i : Fin 4096) (e : Fin 64) :
    Value.res_main_v34 (F := Ideal) m c (ix2 ⟨n.val * 4096 + i.val, by omega⟩ ⟨h.val * 64 + e.val, by omega⟩) =
      ∑ j : Fin 4096, v (ix2 ⟨n.val * 4096 + j.val, by omega⟩ ⟨h.val * 64 + e.val, by omega⟩)
        * Ideal.div (Ideal.exp (lg q k cr n h i j - Finset.univ.fold max ⊥ fun j : Fin 4096 => lg q k cr n h i j))
            (∑ j : Fin 4096, Ideal.exp (lg q k cr n h i j - Finset.univ.fold max ⊥ fun j : Fin 4096 => lg q k cr n h i j)) := by
  have hl : ∀ j, logits q k cr (ix4 n h i j) = lg q k cr n h i j := fun j => by
    rw [logits_apply, dots_apply, cum_apply, cum_apply, lg]
  rw [res_eq, hq, hk, hv, hc, out_apply, mix_apply]
  simp only [soft_apply, expo_apply, hl]

end Cert.FoxRefIdeal.Hand
-- ==== Proof.FoxLoop.lean ====
module

public import proofs.«01_k».proof.Proof.Gen.FoxIdeal.Value
public import proofs.«01_k».proof.Proof.Gen.FoxRefIdeal.Run
public import proofs.«01_k».proof.Proof.Gen.Pre_scores_finite
public import proofs.«01_k».proof.Defs
public import proofs.«01_k».proof.Proof.FoxStep
public import proofs.«01_k».proof.Proof.FoxRef
public import Idealize.ShloMosaic.Lib.LoopRemainder
public import Idealize.ShloMosaic.Lib.Pipeline.ValueKit

@[expose] public section

set_option maxRecDepth 16384

noncomputable section

namespace Cert.FoxIdeal.Hand

open Cert.FoxIdeal Cert.FoxIdeal.Gen Idealize.ShloMosaic Idealize.ShloMosaic.TcCoe Idealize.SL.Sem
open Idealize.ShloMosaic.Pipeline (Dat)

/-- The state of the two heads of a tile of queries: largest score, sum of weights and weighted sum, twice. -/
abbrev St := FVec Ideal S256x1 .f32 × FVec Ideal S256x1 .f32 × FVec Ideal S256x128 .f32 ×
  FVec Ideal S256x1 .f32 × FVec Ideal S256x1 .f32 × FVec Ideal S256x128 .f32

/-- One tile of keys met by both heads. -/
def meet (s0 s1 : FVec Ideal S256x256 .f32) (v : FVec Ideal S256x128 .bf16) (st : St) : St :=
  (newM st.1 s0, newL st.1 st.2.1 s0, newA st.1 st.2.2.1 s0 v,
    newM st.2.2.2.1 s1, newL st.2.2.2.1 st.2.2.2.2.1 s1, newA st.2.2.2.1 st.2.2.2.2.2 s1 v)

theorem trip_eq (c : Dev nD) (t : Fin cfg0.N) (q0 q1 : FVec Ideal S256x128 .bf16) (z : BitVec 32)
    (X6 : BufTy.Contents (Elt Ideal) (ms0_3 t).view.ty) (X8 : BufTy.Contents (Elt Ideal) scM0_0.view.ty)
    (X9 : BufTy.Contents (Elt Ideal) scM0_1.view.ty) (k : Fin (k0_t1_loop (grid0.coords t)).trips) (st : St) (h4 h5 h6) :
    tripR_k0_t1 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) q0 q1 z X6 X8 X9 k st
      = meet (k0_pay6 q0 (View.ld (scM0_0.view.read (Elt Ideal) X8) (Rect.unit (k0_off4 (grid0.coords t) k) ![256, 128] h4))
            (View.ld ((ms0_3 t).view.read (Elt Ideal) X6) (Rect.unit (k0_off5 (grid0.coords t) k) ![1, 1, 256] h5)))
          (k0_pay6 q1 (View.ld (scM0_0.view.read (Elt Ideal) X8) (Rect.unit (k0_off4 (grid0.coords t) k) ![256, 128] h4))
            (View.ld ((ms0_3 t).view.read (Elt Ideal) X6) (Rect.unit (k0_off6 (grid0.coords t) k) ![1, 1, 256] h6)))
          (View.ld (scM0_1.view.read (Elt Ideal) X9) (Rect.unit (k0_off4 (grid0.coords t) k) ![256, 128] h4)) st := by
  unfold tripR_k0_t1 trip_k0_t1
  rfl

theorem word_mul : ∀ k : Fin 16, (Scalar.indexCast (Scalar.muli (Scf.iv 0#32 1#32 k.val) 256#32) : BitVec 32).toNat = k.val * 256 := by decide

theorem trips_eq : ∀ t : Fin cfg0.N, (k0_t1_loop (grid0.coords t)).trips = t.val % 16 := (by decide +kernel : ∀ t : Fin grid0.N, _)

theorem off1_eq : ∀ t : Fin cfg0.N, k0_off1 (grid0.coords t) = ![t.val % 16 * 256, 0] ∧ k0_off2 (grid0.coords t) = ![0, 0, t.val % 16 * 256]
    ∧ k0_off3 (grid0.coords t) = ![0, 1, t.val % 16 * 256] := (by decide +kernel : ∀ t : Fin grid0.N, _)

theorem off4_eq (i : grid0.Coords) (k : Fin (k0_t1_loop i).trips) (hk : k.val < 16) : k0_off4 i k = ![k.val * 256, 0] := by
  have h := word_mul ⟨k.val, hk⟩
  unfold k0_off4; dsimp only; rw [h]
theorem off5_eq (i : grid0.Coords) (k : Fin (k0_t1_loop i).trips) (hk : k.val < 16) : k0_off5 i k = ![0, 0, k.val * 256] := by
  have h := word_mul ⟨k.val, hk⟩
  unfold k0_off5; dsimp only; rw [h]
theorem off6_eq (i : grid0.Coords) (k : Fin (k0_t1_loop i).trips) (hk : k.val < 16) : k0_off6 i k = ![0, 1, k.val * 256] := by
  have h := word_mul ⟨k.val, hk⟩
  unfold k0_off6; dsimp only; rw [h]

theorem ld_keys (K : FVec Ideal S4096x128 .bf16) (off : Fin 2 → ℕ) (j : ℕ) (hj : j < 16) (ho : off = ![j * 256, 0]) (inb) (r : Fin 256) (d : Fin 128) :
    View.ld (Val := Elt Ideal) (e' := .bf16) K (Rect.unit (s := S4096x128) off ![256, 128] inb) (ix2 r d) = K (ix2 ⟨j * 256 + r.val, by omega⟩ d) := by
  subst ho
  rw [View.ld_apply]
  refine congrArg K ?_
  funext a; apply Fin.ext
  fin_cases a
  · show j * 256 + 1 * r.val = _; rw [one_mul]; rfl
  · show 0 + 1 * d.val = _; rw [one_mul, zero_add]; rfl

theorem ld_gate (C : FVec Ideal S1x2x4096 .f32) (off : Fin 3 → ℕ) (b : Fin 2) (j : ℕ) (hj : j < 16) (ho : off = ![0, b.val, j * 256]) (inb) (k : Fin 256) :
    View.ld (Val := Elt Ideal) (e' := .f32) C (Rect.unit (s := S1x2x4096) off ![1, 1, 256] inb) (ix3 0 0 k) = C (ix3 0 b ⟨j * 256 + k.val, by omega⟩) := by
  subst ho
  rw [View.ld_apply]
  refine congrArg C ?_
  funext a; apply Fin.ext
  fin_cases a
  · rfl
  · show b.val + 1 * 0 = _; rfl
  · show j * 256 + 1 * k.val = _; rw [one_mul]; rfl

/-- Both heads' states, read at every row and lane, are the maxima and sums over the tiles `J`. -/
def Pr (sl sh : Fin 256 → ℕ → EReal) (vv : Fin 128 → ℕ → EReal) (J : Finset ℕ) (st : St) : Prop := ∀ (r : Fin 256) (d : Fin 128),
  FoxMath.Inv J (sl r) (vv d) (st.1 (ix2 r 0)) (st.2.1 (ix2 r 0)) (st.2.2.1 (ix2 r d)) ∧
  FoxMath.Inv J (sh r) (vv d) (st.2.2.2.1 (ix2 r 0)) (st.2.2.2.2.1 (ix2 r 0)) (st.2.2.2.2.2 (ix2 r d))

section
variable {sl sh : Fin 256 → ℕ → EReal} {vv : Fin 128 → ℕ → EReal}
  (hl : ∀ r n, FoxMath.Score (sl r n)) (hh : ∀ r n, FoxMath.Score (sh r n))
include hl hh

theorem meet_pr {J : Finset ℕ} {st : St} (j : ℕ) (hj : j ∉ J) {s0 s1 : FVec Ideal S256x256 .f32} {v : FVec Ideal S256x128 .bf16}
    (h0 : ∀ r k, s0 (ix2 r k) = sl r (j * 256 + k.val)) (h1 : ∀ r k, s1 (ix2 r k) = sh r (j * 256 + k.val))
    (hv : ∀ k d, v (ix2 k d) = vv d (j * 256 + k.val)) (h : Pr sl sh vv J st) : Pr sl sh vv (insert j J) (meet s0 s1 v st) := by
  intro r d
  constructor
  · have e := FoxMath.step (hl r) (h r d).1 j hj (M' := newM st.1 s0 (ix2 r 0)) (by rw [newM_apply]; simp only [h0])
    have el := newL_apply st.1 st.2.1 s0 r
    have ea := newA_apply st.1 st.2.2.1 s0 v r d
    simp only [h0] at el
    simp only [h0, hv] at ea
    rw [← el, ← ea] at e
    exact e
  · have e := FoxMath.step (hh r) (h r d).2 j hj (M' := newM st.2.2.2.1 s1 (ix2 r 0)) (by rw [newM_apply]; simp only [h1])
    have el := newL_apply st.2.2.2.1 st.2.2.2.2.1 s1 r
    have ea := newA_apply st.2.2.2.1 st.2.2.2.2.2 s1 v r d
    simp only [h1] at el
    simp only [h1, hv] at ea
    rw [← el, ← ea] at e
    exact e

theorem first_pr (j : ℕ) {s0 s1 : FVec Ideal S256x256 .f32} {v : FVec Ideal S256x128 .bf16}
    (h0 : ∀ r k, s0 (ix2 r k) = sl r (j * 256 + k.val)) (h1 : ∀ r k, s1 (ix2 r k) = sh r (j * 256 + k.val))
    (hv : ∀ k d, v (ix2 k d) = vv d (j * 256 + k.val))
    (r0 : ∀ r : Fin 256, ∃ x : ℝ, sl r (j * 256 + r.val) = x) (r1 : ∀ r : Fin 256, ∃ x : ℝ, sh r (j * 256 + r.val) = x) :
    Pr sl sh vv {j} (meet s0 s1 v (k0_pay36, k0_pay37, k0_pay38, k0_pay36, k0_pay37, k0_pay38)) := by
  intro r d
  constructor
  · obtain ⟨x, hx⟩ := r0 r
    have e := FoxMath.start (v := vv d) (hl r) j r x hx (M' := newM k0_pay36 s0 (ix2 r 0)) (by rw [newM_apply, pay36_apply]; simp only [h0])
    have el := newL_apply k0_pay36 k0_pay37 s0 r
    have ea := newA_apply k0_pay36 k0_pay38 s0 v r d
    simp only [h0, pay36_apply, pay37_apply] at el
    simp only [h0, hv, pay36_apply, pay38_apply] at ea
    rw [← el, ← ea] at e
    exact e
  · obtain ⟨x, hx⟩ := r1 r
    have e := FoxMath.start (v := vv d) (hh r) j r x hx (M' := newM k0_pay36 s1 (ix2 r 0)) (by rw [newM_apply, pay36_apply]; simp only [h1])
    have el := newL_apply k0_pay36 k0_pay37 s1 r
    have ea := newA_apply k0_pay36 k0_pay38 s1 v r d
    simp only [h1, pay36_apply, pay37_apply] at el
    simp only [h1, hv, pay36_apply, pay38_apply] at ea
    rw [← el, ← ea] at e
    exact e

/-- The loop over the tiles before the diagonal one. -/
theorem loop_pr (c : Dev nD) (t : Fin cfg0.N) (q0 q1 : FVec Ideal S256x128 .bf16) (z : BitVec 32)
    (X6 : BufTy.Contents (Elt Ideal) (ms0_3 t).view.ty) (X8 : BufTy.Contents (Elt Ideal) scM0_0.view.ty)
    (X9 : BufTy.Contents (Elt Ideal) scM0_1.view.ty) (init : St)
    (C : FVec Ideal S1x2x4096 .f32) (K V : FVec Ideal S4096x128 .bf16)
    (hC : (ms0_3 t).view.read (Elt Ideal) X6 = C) (hK : scM0_0.view.read (Elt Ideal) X8 = K) (hV : scM0_1.view.read (Elt Ideal) X9 = V)
    (h0 : ∀ (j : ℕ) (hj : j < 16), j < t.val % 16 → ∀ r k : Fin 256, (∑ d : Fin 128, q0 (ix2 r d) * K (ix2 ⟨j * 256 + k.val, by omega⟩ d)) - C (ix3 0 0 ⟨j * 256 + k.val, by omega⟩) = sl r (j * 256 + k.val))
    (h1 : ∀ (j : ℕ) (hj : j < 16), j < t.val % 16 → ∀ r k : Fin 256, (∑ d : Fin 128, q1 (ix2 r d) * K (ix2 ⟨j * 256 + k.val, by omega⟩ d)) - C (ix3 0 1 ⟨j * 256 + k.val, by omega⟩) = sh r (j * 256 + k.val))
    (hv : ∀ (j : ℕ) (hj : j < 16) (k : Fin 256) (d : Fin 128), V (ix2 ⟨j * 256 + k.val, by omega⟩ d) = vv d (j * 256 + k.val))
    (hi : Pr sl sh vv {t.val % 16} init) (n : ℕ) (hn : n ≤ (k0_t1_loop (grid0.coords t)).trips) :
    Pr sl sh vv (insert (t.val % 16) (Finset.range n))
      (st_k0_t1 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) q0 q1 z X6 X8 X9 init n) := by
  have ht := trips_eq t
  induction n with
  | zero => exact hi
  | succ n ih =>
    have hq : n < t.val % 16 := by omega
    have h16 : n < 16 := by omega
    have e := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) q0 q1 z X6 X8 X9 init ⟨n, by omega⟩
    have o4 := off4_eq (grid0.coords t) ⟨n, by omega⟩ h16
    have o5 := off5_eq (grid0.coords t) ⟨n, by omega⟩ h16
    have o6 := off6_eq (grid0.coords t) ⟨n, by omega⟩ h16
    have i4 : ∀ a, k0_off4 (grid0.coords t) ⟨n, by omega⟩ a + (![256, 128] : Fin 2 → ℕ) a ≤ S4096x128.size a := by
      rw [o4]; intro a; fin_cases a
      · show n * 256 + 256 ≤ 4096; omega
      · show 0 + 128 ≤ 128; omega
    have i5 : ∀ a, k0_off5 (grid0.coords t) ⟨n, by omega⟩ a + (![1, 1, 256] : Fin 3 → ℕ) a ≤ S1x2x4096.size a := by
      rw [o5]; intro a; fin_cases a
      · show 0 + 1 ≤ 1; omega
      · show 0 + 1 ≤ 2; omega
      · show n * 256 + 256 ≤ 4096; omega
    have i6 : ∀ a, k0_off6 (grid0.coords t) ⟨n, by omega⟩ a + (![1, 1, 256] : Fin 3 → ℕ) a ≤ S1x2x4096.size a := by
      rw [o6]; intro a; fin_cases a
      · show 0 + 1 ≤ 1; omega
      · show 1 + 1 ≤ 2; omega
      · show n * 256 + 256 ≤ 4096; omega
    have e' := e.trans (trip_eq c t q0 q1 z X6 X8 X9 ⟨n, by omega⟩ _ i4 i5 i6)
    rw [Finset.range_add_one, Finset.insert_comm]
    refine cast (congrArg (Pr sl sh vv _) e'.symm) ?_
    rw [hC, hK, hV]
    refine meet_pr hl hh n (by simp only [Finset.mem_insert, Finset.mem_range]; omega) (fun r k => ?_) (fun r k => ?_) (fun k d => ?_) (ih (by omega))
    · rw [pay6_apply, ← h0 n h16 hq r k]
      simp only [ld_keys K _ n h16 o4, ld_gate C _ 0 n h16 o5]
    · rw [pay6_apply, ← h1 n h16 hq r k]
      simp only [ld_keys K _ n h16 o4, ld_gate C _ 1 n h16 o6]
    · rw [← hv n h16 k d]
      exact ld_keys V _ n h16 o4 i4 k d

end

end Cert.FoxIdeal.Hand
-- ==== Proof.FoxPts.lean ====
/- One grid point of the prompt attention: the blocks it reads, what the scratches hold, and what it stores. -/
module

public import proofs.«01_k».proof.Proof.Gen.FoxIdeal.Value
public import proofs.«01_k».proof.Proof.Gen.FoxRefIdeal.Run
public import proofs.«01_k».proof.Proof.Gen.Pre_scores_finite
public import proofs.«01_k».proof.Defs
public import proofs.«01_k».proof.Proof.FoxLoop
public import proofs.«01_k».proof.Proof.FoxRef
public import Idealize.ShloMosaic.Lib.LoopRemainder
public import Idealize.ShloMosaic.Lib.VecWindow
public import Idealize.ShloMosaic.Lib.Pipeline.ValueKit

@[expose] public section

set_option maxRecDepth 16384

noncomputable section

namespace Cert.FoxIdeal.Hand

open Cert.FoxIdeal Cert.FoxIdeal.Gen Idealize.ShloMosaic Idealize.ShloMosaic.TcCoe Idealize.SL.Sem
open Idealize.ShloMosaic.Pipeline (Dat)

variable (m : (ℓ : Loc nD τ sig) → Buf (Elt Ideal) ℓ)

theorem pt_lt (t : Fin cfg0.N) : t.val < 512 := lt_of_lt_of_eq t.isLt N_0

/-- The blocks a point reads. -/
theorem idx : ∀ t : Fin cfg0.N, win0_0.index t = ![t.val / 128 * 16 + t.val % 16, t.val / 16 % 8] ∧ win0_1.index t = ![t.val / 128, t.val / 16 % 8]
    ∧ win0_2.index t = ![t.val / 128, t.val / 16 % 8] ∧ win0_3.index t = ![t.val / 16 % 8, 0, t.val / 128]
    ∧ win0_4.index t = ![t.val / 128 * 16 + t.val % 16, t.val / 16 % 8] :=
  (by decide +kernel : ∀ t : Fin grid0.N, _)

theorem keys_apply (c : Dev nD) (t : Fin cfg0.N) (r : Fin 4096) (d : Fin 128) : iblk m c 1 t (ix2 r d) =
    m ((c : Thread nD τ).loc main_arg1) (ix2 ⟨t.val / 128 * 4096 + r.val, by have := pt_lt t; omega⟩ ⟨t.val / 16 % 8 * 128 + d.val, by omega⟩) := by
  blk_point [iblk, V, idx t]

theorem vals_apply (c : Dev nD) (t : Fin cfg0.N) (r : Fin 4096) (d : Fin 128) : iblk m c 2 t (ix2 r d) =
    m ((c : Thread nD τ).loc main_arg2) (ix2 ⟨t.val / 128 * 4096 + r.val, by have := pt_lt t; omega⟩ ⟨t.val / 16 % 8 * 128 + d.val, by omega⟩) := by
  blk_point [iblk, V, idx t]

theorem queries_apply (c : Dev nD) (t : Fin cfg0.N) (r : Fin 256) (d : Fin 128) : iblk m c 0 t (ix2 r d) =
    m ((c : Thread nD τ).loc main_arg0) (ix2 ⟨t.val / 128 * 4096 + (t.val % 16 * 256 + r.val), by have := pt_lt t; omega⟩ ⟨t.val / 16 % 8 * 128 + d.val, by omega⟩) := by
  blk_point [iblk, V, idx t]

theorem gates_apply (c : Dev nD) (t : Fin cfg0.N) (b : Fin 2) (r : Fin 4096) : iblk m c 3 t (ix3 0 b r) =
    m ((c : Thread nD τ).loc main_arg3) (ix3 ⟨t.val / 16 % 8, by omega⟩ b ⟨t.val / 128 * 4096 + r.val, by have := pt_lt t; omega⟩) := by
  blk_point [iblk, V, idx t]

/-- Both scratches hold, at every point, the keys and the values of the point's sequence and pair of heads. -/
theorem keys_held (c : Dev nD) : ∀ (n : ℕ) (h : n < cfg0.N),
    (outsAt0 m c n h).2.1 = k0_pay30 (F := Ideal) (iblk m c 1 ⟨n, h⟩) ∧ (outsAt0 m c n h).2.2 = k0_pay31 (F := Ideal) (iblk m c 2 ⟨n, h⟩) := by
  intro n
  induction n with
  | zero =>
    intro h
    have h0 : (⟨0, h⟩ : Fin cfg0.N).val % 16 = 0 := rfl
    have e := outsAt0_A m c ⟨0, h⟩ h0
    constructor
    · refine (congrArg (fun x => x.2.1) e).trans ?_
      dsimp only; frame_out
    · refine (congrArg (fun x => x.2.2) e).trans ?_
      dsimp only; frame_out
  | succ n ih =>
    intro h
    by_cases h0 : (⟨n + 1, h⟩ : Fin cfg0.N).val % 16 = 0
    · have e := outsAt0_A m c ⟨n + 1, h⟩ h0
      constructor
      · refine (congrArg (fun x => x.2.1) e).trans ?_
        dsimp only; frame_out
      · refine (congrArg (fun x => x.2.2) e).trans ?_
        dsimp only; frame_out
    · have e := outsAt0_B m c ⟨n + 1, h⟩ h0
      have hn : n < cfg0.N := by omega
      have h0' : ¬ (n + 1) % 16 = 0 := h0
      have e1 : (⟨n + 1, h⟩ : Fin cfg0.N).val / 128 = (⟨n, hn⟩ : Fin cfg0.N).val / 128 := by
        show (n + 1) / 128 = n / 128; omega
      have e2 : (⟨n + 1, h⟩ : Fin cfg0.N).val / 16 % 8 = (⟨n, hn⟩ : Fin cfg0.N).val / 16 % 8 := by
        show (n + 1) / 16 % 8 = n / 16 % 8; omega
      constructor
      · refine (congrArg (fun x => x.2.1) e).trans ((ih hn).1.trans ?_)
        refine congrArg (k0_pay30 (F := Ideal)) ?_
        funext y
        idx_vars y
        rw [keys_apply, keys_apply]
        simp only [e1, e2]
      · refine (congrArg (fun x => x.2.2) e).trans ((ih hn).2.trans ?_)
        refine congrArg (k0_pay31 (F := Ideal)) ?_
        funext y
        idx_vars y
        rw [vals_apply, vals_apply]
        simp only [e1, e2]

/-- The state of a point after the loop. -/
def outSt (c : Dev nD) (t : Fin cfg0.N) (X8 : BufTy.Contents (Elt Ideal) scM0_0.view.ty) (X9 : BufTy.Contents (Elt Ideal) scM0_1.view.ty)
    (K V : FVec Ideal S4096x128 .bf16) (h1 : ∀ a, k0_off1 (grid0.coords t) a + (![256, 128] : Fin 2 → ℕ) a ≤ S4096x128.size a)
    (h2 : ∀ a, k0_off2 (grid0.coords t) a + (![1, 1, 256] : Fin 3 → ℕ) a ≤ S1x2x4096.size a)
    (h3 : ∀ a, k0_off3 (grid0.coords t) a + (![1, 1, 256] : Fin 3 → ℕ) a ≤ S1x2x4096.size a) : St :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (k0_pay34 (iblk m c 0 t)) (k0_pay35 (iblk m c 0 t)) 0#32 ((hs0_3 t).unread (iblk m c 3 t)) X8 X9
    (meet (diag (k0_pay34 (iblk m c 0 t)) (View.ld (Val := Elt Ideal) (e' := .bf16) K (Rect.unit (s := S4096x128) (k0_off1 (grid0.coords t)) ![256, 128] h1))
        (View.ld (Val := Elt Ideal) (e' := .f32) (iblk m c 3 t) (Rect.unit (s := S1x2x4096) (k0_off2 (grid0.coords t)) ![1, 1, 256] h2)))
      (diag (k0_pay35 (iblk m c 0 t)) (View.ld (Val := Elt Ideal) (e' := .bf16) K (Rect.unit (s := S4096x128) (k0_off1 (grid0.coords t)) ![256, 128] h1))
        (View.ld (Val := Elt Ideal) (e' := .f32) (iblk m c 3 t) (Rect.unit (s := S1x2x4096) (k0_off3 (grid0.coords t)) ![1, 1, 256] h3)))
      (View.ld (Val := Elt Ideal) (e' := .bf16) V (Rect.unit (s := S4096x128) (k0_off1 (grid0.coords t)) ![256, 128] h1))
      (k0_pay36, k0_pay37, k0_pay38, k0_pay36, k0_pay37, k0_pay38))
    (k0_t1_loop (grid0.coords t)).trips

/-- What a point stores, from the state after the loop. -/
def out (S : St) : FVec Ideal S256x128 .f32 := k0_pay5 k0_pay33 S.2.1 S.2.2.1 S.2.2.2.2.1 S.2.2.2.2.2

theorem out_A (c : Dev nD) (t : Fin cfg0.N) (h : t.val % 16 = 0) (h1 : ∀ a, k0_off1 (grid0.coords t) a + (![256, 128] : Fin 2 → ℕ) a ≤ S4096x128.size a)
    (h2 : ∀ a, k0_off2 (grid0.coords t) a + (![1, 1, 256] : Fin 3 → ℕ) a ≤ S1x2x4096.size a)
    (h3 : ∀ a, k0_off3 (grid0.coords t) a + (![1, 1, 256] : Fin 3 → ℕ) a ≤ S1x2x4096.size a) : ∃ X8 X9,
    scM0_0.view.read (Elt Ideal) X8 = k0_pay30 (F := Ideal) (iblk m c 1 t) ∧ scM0_1.view.read (Elt Ideal) X9 = k0_pay31 (F := Ideal) (iblk m c 2 t) ∧
    (outsAt0 m c t.val t.isLt).1 = out (outSt m c t X8 X9 (k0_pay30 (F := Ideal) (iblk m c 1 t)) (k0_pay31 (F := Ideal) (iblk m c 2 t)) h1 h2 h3) := by
  refine ⟨scM0_0.view.writes (Elt Ideal) scM0_0.view.junk [⟨Rect.unit ![0, 0] ![4096, 128] inb_S4096x128_S4096x128_0_0, k0_pay30 (F := Ideal) (iblk m c 1 t)⟩],
    scM0_1.view.writes (Elt Ideal) scM0_1.view.junk [⟨Rect.unit ![0, 0] ![4096, 128] inb_S4096x128_S4096x128_0_0, k0_pay31 (F := Ideal) (iblk m c 2 t)⟩], ?_, ?_, ?_⟩
  · exact View.read_writes_full _ _ _ _ _
  · exact View.read_writes_full _ _ _ _ _
  · rw [outsAt0_A m c t h]
    dsimp only
    frame_out
    simp only [Scf.rem_trips, st_k0_t2_zero]
    rfl

theorem out_B (c : Dev nD) (t : Fin cfg0.N) (h : ¬ t.val % 16 = 0) (h1 : ∀ a, k0_off1 (grid0.coords t) a + (![256, 128] : Fin 2 → ℕ) a ≤ S4096x128.size a)
    (h2 : ∀ a, k0_off2 (grid0.coords t) a + (![1, 1, 256] : Fin 3 → ℕ) a ≤ S1x2x4096.size a)
    (h3 : ∀ a, k0_off3 (grid0.coords t) a + (![1, 1, 256] : Fin 3 → ℕ) a ≤ S1x2x4096.size a) : ∃ X8 X9,
    scM0_0.view.read (Elt Ideal) X8 = k0_pay30 (F := Ideal) (iblk m c 1 t) ∧ scM0_1.view.read (Elt Ideal) X9 = k0_pay31 (F := Ideal) (iblk m c 2 t) ∧
    (outsAt0 m c t.val t.isLt).1 = out (outSt m c t X8 X9 (k0_pay30 (F := Ideal) (iblk m c 1 t)) (k0_pay31 (F := Ideal) (iblk m c 2 t)) h1 h2 h3) := by
  have ht : t.val - 1 < cfg0.N := by omega
  have hK : (outsAt0 m c (t.val - 1) ht).2.1 = k0_pay30 (F := Ideal) (iblk m c 1 t) :=
    (congrArg (fun x => x.2.1) (outsAt0_B m c t h)).symm.trans (keys_held m c t.val t.isLt).1
  have hV : (outsAt0 m c (t.val - 1) ht).2.2 = k0_pay31 (F := Ideal) (iblk m c 2 t) :=
    (congrArg (fun x => x.2.2) (outsAt0_B m c t h)).symm.trans (keys_held m c t.val t.isLt).2
  refine ⟨(Memref.isWhole_whole cc0_scratch0).unread (outsAt0 m c (t.val - 1) ht).2.1, (Memref.isWhole_whole cc0_scratch1).unread (outsAt0 m c (t.val - 1) ht).2.2, ?_, ?_, ?_⟩
  · exact (Memref.IsWhole.read_unread _ _).trans hK
  · exact (Memref.IsWhole.read_unread _ _).trans hV
  · rw [outsAt0_B m c t h]
    dsimp only
    frame_out
    simp only [Scf.rem_trips, st_k0_t2_zero]
    have eK : View.read (Elt Ideal) (View.whole cc0_scratch0) ((Memref.isWhole_whole cc0_scratch0).unread (outsAt0 m c (t.val - 1) ht).2.1) = _ := (Memref.IsWhole.read_unread _ _).trans hK
    have eV : View.read (Elt Ideal) (View.whole cc0_scratch1) ((Memref.isWhole_whole cc0_scratch1).unread (outsAt0 m c (t.val - 1) ht).2.2) = _ := (Memref.IsWhole.read_unread _ _).trans hV
    rw [eK, eV]
    rfl

end Cert.FoxIdeal.Hand

end
-- ==== Proof.FoxElem.lean ====
/- What one grid point of the prompt attention stores, element by element, from the arguments. -/
module

public import proofs.«01_k».proof.Proof.FoxPts

@[expose] public section

set_option maxRecDepth 16384

noncomputable section

namespace Cert.FoxIdeal.Hand

open Cert.FoxIdeal Cert.FoxIdeal.Gen Idealize.ShloMosaic Idealize.ShloMosaic.TcCoe Idealize.SL.Sem
open Idealize.ShloMosaic.Pipeline (Dat)

/-- The sum over the lanes of one head, the other head's lanes at zero, the scale taken out. -/
theorem sum_low (x y : Fin 128 → EReal) (hx : ∀ d, ∃ a : ℝ, x d = a) (hy : ∀ d, ∃ a : ℝ, y d = a) :
    ∑ d : Fin 128, (if d.val < 64 then x d * ((1 / 8 : ℝ) : EReal) else 0) * y d
      = (∑ e : Fin 64, x ⟨e.val, by omega⟩ * y ⟨e.val, by omega⟩) * ((1 / 8 : ℝ) : EReal) := by
  choose X hX using hx
  choose Y hY using hy
  have e1 : ∑ d : Fin 128, (if d.val < 64 then x d * ((1 / 8 : ℝ) : EReal) else 0) * y d
      = ∑ e : Fin 64, x ⟨e.val, by omega⟩ * ((1 / 8 : ℝ) : EReal) * y ⟨e.val, by omega⟩ := by
    refine (Fin.sum_univ_add (a := 64) (b := 64) fun d : Fin 128 => (if d.val < 64 then x d * ((1 / 8 : ℝ) : EReal) else 0) * y d).trans ?_
    have z : ∑ e : Fin 64, (fun d : Fin 128 => (if d.val < 64 then x d * ((1 / 8 : ℝ) : EReal) else 0) * y d) (Fin.natAdd 64 e) = 0 :=
      Finset.sum_eq_zero fun e _ => by
        show (if 64 + e.val < 64 then _ else _) * _ = _
        rw [if_neg (by omega), zero_mul]
    refine (congrArg₂ (· + ·) (Finset.sum_congr rfl fun e _ => ?_) z).trans (add_zero _)
    show (if e.val < 64 then _ else _) * _ = _
    rw [if_pos e.isLt]; rfl
  rw [e1]
  simp only [hX, hY, ← EReal.coe_mul, ← Reals.coe_sum]
  rw [Finset.sum_mul]
  exact congrArg _ (Finset.sum_congr rfl fun e _ => by ring)

theorem sum_high (x y : Fin 128 → EReal) (hx : ∀ d, ∃ a : ℝ, x d = a) (hy : ∀ d, ∃ a : ℝ, y d = a) :
    ∑ d : Fin 128, (if d.val < 64 then 0 else x d * ((1 / 8 : ℝ) : EReal)) * y d
      = (∑ e : Fin 64, x ⟨64 + e.val, by omega⟩ * y ⟨64 + e.val, by omega⟩) * ((1 / 8 : ℝ) : EReal) := by
  choose X hX using hx
  choose Y hY using hy
  have e1 : ∑ d : Fin 128, (if d.val < 64 then 0 else x d * ((1 / 8 : ℝ) : EReal)) * y d
      = ∑ e : Fin 64, x ⟨64 + e.val, by omega⟩ * ((1 / 8 : ℝ) : EReal) * y ⟨64 + e.val, by omega⟩ := by
    refine (Fin.sum_univ_add (a := 64) (b := 64) fun d : Fin 128 => (if d.val < 64 then 0 else x d * ((1 / 8 : ℝ) : EReal)) * y d).trans ?_
    have z : ∑ e : Fin 64, (fun d : Fin 128 => (if d.val < 64 then 0 else x d * ((1 / 8 : ℝ) : EReal)) * y d) (Fin.castAdd 64 e) = 0 :=
      Finset.sum_eq_zero fun e _ => by
        show (if e.val < 64 then _ else _) * _ = _
        rw [if_pos e.isLt, zero_mul]
    refine (congrArg₂ (· + ·) z (Finset.sum_congr rfl fun e _ => ?_)).trans (zero_add _)
    show (if 64 + e.val < 64 then _ else _) * _ = _
    rw [if_neg (by omega)]; rfl
  rw [e1]
  simp only [hX, hY, ← EReal.coe_mul, ← Reals.coe_sum]
  rw [Finset.sum_mul]
  exact congrArg _ (Finset.sum_congr rfl fun e _ => by ring)

/-- A query's score at key `n`, its own gate left out: the bottom past the query. -/
def row (x : FVec Ideal S256x128 .bf16) (K : FVec Ideal S4096x128 .bf16) (C : FVec Ideal S1x2x4096 .f32) (b : Fin 2) (q : ℕ)
    (r : Fin 256) (n : ℕ) : EReal :=
  if h : n ≤ q * 256 + r.val ∧ n < 4096 then (∑ d : Fin 128, x (ix2 r d) * K (ix2 ⟨n, h.2⟩ d)) - C (ix3 0 b ⟨n, h.2⟩) else ⊥

/-- A value's lane at key `n`. -/
def col (V : FVec Ideal S4096x128 .bf16) (d : Fin 128) (n : ℕ) : EReal := if h : n < 4096 then V (ix2 ⟨n, h⟩ d) else 0

theorem row_real {x : FVec Ideal S256x128 .bf16} {K : FVec Ideal S4096x128 .bf16} {C : FVec Ideal S1x2x4096 .f32}
    (hx : ∀ r d, ∃ a : ℝ, x (ix2 r d) = a) (hK : ∀ r d, ∃ a : ℝ, K (ix2 r d) = a) (hC : ∀ b n, ∃ a : ℝ, C (ix3 0 b n) = a)
    (b : Fin 2) (q : ℕ) (r : Fin 256) (n : ℕ) (h : n ≤ q * 256 + r.val ∧ n < 4096) : ∃ a : ℝ, row x K C b q r n = a := by
  rw [row, dif_pos h]
  choose X hX using hx
  choose Y hY using hK
  choose Z hZ using hC
  refine ⟨(∑ d : Fin 128, X r d * Y ⟨n, h.2⟩ d) - Z b ⟨n, h.2⟩, ?_⟩
  simp only [hX, hY, hZ, EReal.coe_sub, EReal.coe_mul, Reals.coe_sum]

theorem row_score {x : FVec Ideal S256x128 .bf16} {K : FVec Ideal S4096x128 .bf16} {C : FVec Ideal S1x2x4096 .f32}
    (hx : ∀ r d, ∃ a : ℝ, x (ix2 r d) = a) (hK : ∀ r d, ∃ a : ℝ, K (ix2 r d) = a) (hC : ∀ b n, ∃ a : ℝ, C (ix3 0 b n) = a)
    (b : Fin 2) (q : ℕ) (r : Fin 256) (n : ℕ) : FoxMath.Score (row x K C b q r n) := by
  by_cases h : n ≤ q * 256 + r.val ∧ n < 4096
  · exact Or.inr (row_real hx hK hC b q r n h)
  · exact Or.inl (dif_neg h)

theorem row_bot (x : FVec Ideal S256x128 .bf16) (K : FVec Ideal S4096x128 .bf16) (C : FVec Ideal S1x2x4096 .f32)
    (b : Fin 2) (q : ℕ) (r : Fin 256) (n : ℕ) (h : (q + 1) * 256 ≤ n) : row x K C b q r n = ⊥ := dif_neg (by omega)

theorem diag_row (x : FVec Ideal S256x128 .bf16) (K : FVec Ideal S4096x128 .bf16) (C : FVec Ideal S1x2x4096 .f32) (b : Fin 2)
    (q : ℕ) (hq : q < 16) (off : Fin 2 → ℕ) (off' : Fin 3 → ℕ) (h1 h2) (ho : off = ![q * 256, 0]) (ho' : off' = ![0, b.val, q * 256]) (r k : Fin 256) :
    diag x (View.ld (Val := Elt Ideal) (e' := .bf16) K (Rect.unit (s := S4096x128) off ![256, 128] h1))
        (View.ld (Val := Elt Ideal) (e' := .f32) C (Rect.unit (s := S1x2x4096) off' ![1, 1, 256] h2)) (ix2 r k)
      = row x K C b q r (q * 256 + k.val) := by
  rw [diag_apply, row]
  by_cases h : k ≤ r
  · have h' : q * 256 + k.val ≤ q * 256 + r.val ∧ q * 256 + k.val < 4096 := by
      rw [Fin.le_def] at h; omega
    rw [if_pos h, dif_pos h', pay6_apply, ld_gate C off' b q hq ho' h2 k]
    simp only [ld_keys K off q hq ho h1]
  · rw [if_neg h, dif_neg (by rw [Fin.le_def] at h; omega)]

variable (m : (ℓ : Loc nD τ sig) → Buf (Elt Ideal) ℓ)

/-- After the loop the state carries both heads' scores over every block of keys up to the query's. -/
theorem state_pr (c : Dev nD) (t : Fin cfg0.N) (X8 X9) (K V : FVec Ideal S4096x128 .bf16) (h1 h2 h3)
    (eK : scM0_0.view.read (Elt Ideal) X8 = K) (eV : scM0_1.view.read (Elt Ideal) X9 = V)
    (hx : ∀ r d, ∃ a : ℝ, k0_pay34 (F := Ideal) (iblk m c 0 t) (ix2 r d) = a) (hx' : ∀ r d, ∃ a : ℝ, k0_pay35 (F := Ideal) (iblk m c 0 t) (ix2 r d) = a)
    (hK : ∀ r d, ∃ a : ℝ, K (ix2 r d) = a) (hC : ∀ b n, ∃ a : ℝ, iblk m c 3 t (ix3 0 b n) = ((a : ℝ) : EReal)) :
    Pr (row (k0_pay34 (iblk m c 0 t)) K (iblk m c 3 t) 0 (t.val % 16)) (row (k0_pay35 (iblk m c 0 t)) K (iblk m c 3 t) 1 (t.val % 16)) (col V)
      (Finset.range (t.val % 16 + 1)) (outSt m c t X8 X9 K V h1 h2 h3) := by
  have hr : insert (t.val % 16) (Finset.range (k0_t1_loop (grid0.coords t)).trips) = Finset.range (t.val % 16 + 1) := by
    rw [trips_eq, Finset.range_add_one]
  have hq : t.val % 16 < 16 := Nat.mod_lt _ (by omega)
  obtain ⟨o1, o2, o3⟩ := off1_eq t
  rw [← hr]
  refine loop_pr (row_score hx hK hC 0 _) (row_score hx' hK hC 1 _) c t _ _ _ _ X8 X9 _ (iblk m c 3 t) K V
    (Memref.IsWhole.read_unread _ _) eK eV ?_ ?_ ?_ ?_ _ le_rfl
  · intro j hj hjt r k
    rw [row, dif_pos (by omega)]
  · intro j hj hjt r k
    rw [row, dif_pos (by omega)]
  · intro j hj k d
    rw [col, dif_pos]
  · refine first_pr (row_score hx hK hC 0 _) (row_score hx' hK hC 1 _) _ ?_ ?_ ?_ ?_ ?_
    · exact fun r k => diag_row _ _ _ 0 _ hq _ _ _ _ o1 o2 r k
    · exact fun r k => diag_row _ _ _ 1 _ hq _ _ _ _ o1 o3 r k
    · intro k d
      rw [ld_keys V _ _ hq o1, col, dif_pos]
    · exact fun r => row_real hx hK hC 0 _ r _ (by omega)
    · exact fun r => row_real hx' hK hC 1 _ r _ (by omega)

end Cert.FoxIdeal.Hand

end
-- ==== Proof.Fox.lean ====
/- The prompt attention: the kernel's result array is the reference's, at every index. -/
module

public import proofs.«01_k».proof.Proof.FoxElem
public import Idealize.ShloMosaic.Lib.Pipeline.Covers

@[expose] public section

set_option maxRecDepth 16384

noncomputable section

namespace Cert.FoxIdeal.Hand

open Cert.FoxIdeal Cert.FoxIdeal.Gen Idealize.ShloMosaic Idealize.ShloMosaic.TcCoe Idealize.SL.Sem
open Idealize.ShloMosaic.Pipeline (Dat)

open Cert.FoxRefIdeal.Hand (lg)

/-- One element of the attention: head `h` of sequence `n`, query `i`, lane `e`. -/
def att (q k v : FVec Ideal S16384x1024 .f32) (cr : FVec Ideal S8x2x16384 .f32) (n : Fin 4) (h : Fin 16) (i : Fin 4096) (e : Fin 64) : EReal :=
  ∑ j : Fin 4096, v (ix2 ⟨n.val * 4096 + j.val, by omega⟩ ⟨h.val * 64 + e.val, by omega⟩)
    * Ideal.div (Ideal.exp (lg q k cr n h i j - Finset.univ.fold max ⊥ fun j : Fin 4096 => lg q k cr n h i j))
        (∑ j : Fin 4096, Ideal.exp (lg q k cr n h i j - Finset.univ.fold max ⊥ fun j : Fin 4096 => lg q k cr n h i j))

def spec (q k v : FVec Ideal S16384x1024 .f32) (cr : FVec Ideal S8x2x16384 .f32) : FVec Ideal S16384x1024 .f32 := fun i =>
  att q k v cr ⟨(i 0).val / 4096, by have : (i 0).val < 16384 := (i 0).isLt; omega⟩ ⟨(i 1).val / 64, by have : (i 1).val < 1024 := (i 1).isLt; omega⟩
    ⟨(i 0).val % 4096, Nat.mod_lt _ (by omega)⟩ ⟨(i 1).val % 64, Nat.mod_lt _ (by omega)⟩

theorem spec_apply (q k v : FVec Ideal S16384x1024 .f32) (cr : FVec Ideal S8x2x16384 .f32) (a : Fin 16384) (b : Fin 1024)
    (n : Fin 4) (h : Fin 16) (i : Fin 4096) (e : Fin 64) (ha : a.val = n.val * 4096 + i.val) (hb : b.val = h.val * 64 + e.val) :
    spec q k v cr (ix2 a b) = att q k v cr n h i e := by
  have e1 : (⟨a.val / 4096, by omega⟩ : Fin 4) = n := Fin.ext (by show a.val / 4096 = n.val; omega)
  have e2 : (⟨b.val / 64, by omega⟩ : Fin 16) = h := Fin.ext (by show b.val / 64 = h.val; omega)
  have e3 : (⟨a.val % 4096, Nat.mod_lt _ (by omega)⟩ : Fin 4096) = i := Fin.ext (by show a.val % 4096 = i.val; omega)
  have e4 : (⟨b.val % 64, Nat.mod_lt _ (by omega)⟩ : Fin 64) = e := Fin.ext (by show b.val % 64 = e.val; omega)
  show att q k v cr ⟨a.val / 4096, _⟩ ⟨b.val / 64, _⟩ ⟨a.val % 4096, _⟩ ⟨b.val % 64, _⟩ = _
  rw [e1, e2, e3, e4]

/-- The kernel's score of a key, the query's gate put back, is the reference's logit. -/
theorem shift (S C D : EReal) (hS : ∃ a : ℝ, S = a) (hC : ∃ a : ℝ, C = a) (hD : ∃ a : ℝ, D = a) : S - C + D = S + (D - C) := by
  obtain ⟨a, rfl⟩ := hS
  obtain ⟨b, rfl⟩ := hC
  obtain ⟨d, rfl⟩ := hD
  rw [← EReal.coe_sub, ← EReal.coe_sub, ← EReal.coe_add, ← EReal.coe_add]
  exact congrArg _ (by ring)

theorem scaled_real (x y : Fin 64 → EReal) (hx : ∀ d, ∃ a : ℝ, x d = a) (hy : ∀ d, ∃ a : ℝ, y d = a) :
    ∃ a : ℝ, (∑ e : Fin 64, x e * y e) * ((1 / 8 : ℝ) : EReal) = a := by
  choose X hX using hx
  choose Y hY using hy
  refine ⟨(∑ e : Fin 64, X e * Y e) * (1 / 8), ?_⟩
  simp only [hX, hY, EReal.coe_mul, Reals.coe_sum]

theorem pay30_apply (x : FVec Ideal S4096x128 .f32) (r : Fin 4096) (d : Fin 128) : k0_pay30 (F := Ideal) x (ix2 r d) = x (ix2 r d) := by
  pointwise [k0_pay30]
theorem pay31_apply (x : FVec Ideal S4096x128 .f32) (r : Fin 4096) (d : Fin 128) : k0_pay31 (F := Ideal) x (ix2 r d) = x (ix2 r d) := by
  pointwise [k0_pay31]

/-- The place in the result of a point's row `r` and lane `d`. -/
theorem emb_pt (t : Fin cfg0.N) (r : Fin 256) (d : Fin 128) : ((View.whole main_v0).slice (win0_4.rect t)).emb (ix2 r d)
    = ix2 ⟨t.val / 128 * 4096 + (t.val % 16 * 256 + r.val), by have := pt_lt t; omega⟩ ⟨t.val / 16 % 8 * 128 + d.val, by omega⟩ := by
  funext a
  apply Fin.ext
  fin_cases a
  · show win0_4.index t 0 * 256 + 1 * r.val = _
    rw [(idx t).2.2.2.2]
    show (t.val / 128 * 16 + t.val % 16) * 256 + 1 * r.val = t.val / 128 * 4096 + (t.val % 16 * 256 + r.val)
    omega
  · show win0_4.index t 1 * 128 + 1 * d.val = _
    rw [(idx t).2.2.2.2]
    show (t.val / 16 % 8) * 128 + 1 * d.val = t.val / 16 % 8 * 128 + d.val
    omega

/-- Every element of the result is in some point's block. -/
theorem covers : (cfg0.win 4).Covers := by decide +kernel

variable (m : (ℓ : Loc nD τ sig) → Buf (Elt Ideal) ℓ) (c : Dev nD) (t : Fin cfg0.N)
  {q k v : FVec Ideal S16384x1024 .f32} {cr : FVec Ideal S8x2x16384 .f32}
  (eq : m ((c : Thread nD τ).loc main_arg0) = q) (ek : m ((c : Thread nD τ).loc main_arg1) = k)
  (ev : m ((c : Thread nD τ).loc main_arg2) = v) (ec : m ((c : Thread nD τ).loc main_arg3) = cr)
  (hq : ∀ a b, ∃ x : ℝ, q (ix2 a b) = x) (hk : ∀ a b, ∃ x : ℝ, k (ix2 a b) = x) (hc : ∀ p b n, ∃ x : ℝ, cr (ix3 p b n) = x)
include eq ek ec hq hk hc

theorem row_low (h : Fin 16) (hh : h.val = t.val / 16 % 8 * 2) (r : Fin 256) (N : Fin 4096) :
    row (k0_pay34 (F := Ideal) (iblk m c 0 t)) (k0_pay30 (F := Ideal) (iblk m c 1 t)) (iblk m c 3 t) 0 (t.val % 16) r N.val
        + cr (ix3 ⟨h.val / 2, by omega⟩ ⟨h.val % 2, by omega⟩ ⟨t.val / 128 * 4096 + (t.val % 16 * 256 + r.val), by have := pt_lt t; omega⟩)
      = lg q k cr ⟨t.val / 128, by have := pt_lt t; omega⟩ h ⟨t.val % 16 * 256 + r.val, by omega⟩ N := by
  have ht := pt_lt t
  rw [lg, row]
  by_cases hN : N.val ≤ t.val % 16 * 256 + r.val
  · rw [dif_pos ⟨hN, N.isLt⟩, if_pos hN]
    simp only [pay34_apply, pay30_apply]
    rw [sum_low (fun d => iblk m c 0 t (ix2 r d)) (fun d => iblk m c 1 t (ix2 N d)) (fun d => by rw [queries_apply, eq]; exact hq _ _)
      (fun d => by rw [keys_apply, ek]; exact hk _ _)]
    simp only [queries_apply, keys_apply, gates_apply, eq, ek, ec]
    have i1 : ∀ e : Fin 64, (⟨t.val / 16 % 8 * 128 + e.val, by omega⟩ : Fin 1024) = ⟨h.val * 64 + e.val, by omega⟩ := fun e => Fin.ext (by show t.val / 16 % 8 * 128 + e.val = h.val * 64 + e.val; omega)
    have i2 : (⟨t.val / 16 % 8, by omega⟩ : Fin 8) = ⟨h.val / 2, by omega⟩ := Fin.ext (by show t.val / 16 % 8 = h.val / 2; omega)
    have i3 : (0 : Fin 2) = ⟨h.val % 2, by omega⟩ := Fin.ext (by show 0 = h.val % 2; omega)
    simp only [i1, i2, i3]
    exact shift _ _ _ (scaled_real _ _ (fun _ => hq _ _) fun _ => hk _ _) (hc _ _ _) (hc _ _ _)
  · rw [dif_neg (by omega), if_neg hN, EReal.bot_add]

theorem row_high (h : Fin 16) (hh : h.val = t.val / 16 % 8 * 2 + 1) (r : Fin 256) (N : Fin 4096) :
    row (k0_pay35 (F := Ideal) (iblk m c 0 t)) (k0_pay30 (F := Ideal) (iblk m c 1 t)) (iblk m c 3 t) 1 (t.val % 16) r N.val
        + cr (ix3 ⟨h.val / 2, by omega⟩ ⟨h.val % 2, by omega⟩ ⟨t.val / 128 * 4096 + (t.val % 16 * 256 + r.val), by have := pt_lt t; omega⟩)
      = lg q k cr ⟨t.val / 128, by have := pt_lt t; omega⟩ h ⟨t.val % 16 * 256 + r.val, by omega⟩ N := by
  have ht := pt_lt t
  rw [lg, row]
  by_cases hN : N.val ≤ t.val % 16 * 256 + r.val
  · rw [dif_pos ⟨hN, N.isLt⟩, if_pos hN]
    simp only [pay35_apply, pay30_apply]
    rw [sum_high (fun d => iblk m c 0 t (ix2 r d)) (fun d => iblk m c 1 t (ix2 N d)) (fun d => by rw [queries_apply, eq]; exact hq _ _)
      (fun d => by rw [keys_apply, ek]; exact hk _ _)]
    simp only [queries_apply, keys_apply, gates_apply, eq, ek, ec]
    have i1 : ∀ e : Fin 64, (⟨t.val / 16 % 8 * 128 + (64 + e.val), by omega⟩ : Fin 1024) = ⟨h.val * 64 + e.val, by omega⟩ := fun e => Fin.ext (by show t.val / 16 % 8 * 128 + (64 + e.val) = h.val * 64 + e.val; omega)
    have i2 : (⟨t.val / 16 % 8, by omega⟩ : Fin 8) = ⟨h.val / 2, by omega⟩ := Fin.ext (by show t.val / 16 % 8 = h.val / 2; omega)
    have i3 : (1 : Fin 2) = ⟨h.val % 2, by omega⟩ := Fin.ext (by show 1 = h.val % 2; omega)
    simp only [i1, i2, i3]
    exact shift _ _ _ (scaled_real _ _ (fun _ => hq _ _) fun _ => hk _ _) (hc _ _ _) (hc _ _ _)
  · rw [dif_neg (by omega), if_neg hN, EReal.bot_add]

include ev

/-- What the point stores, at row `r` and lane `d` of its block. -/
theorem elem (r : Fin 256) (d : Fin 128) (h : Fin 16) (e : Fin 64) (he : t.val / 16 % 8 * 128 + d.val = h.val * 64 + e.val) :
    (outsAt0 m c t.val t.isLt).1 (ix2 r d)
      = att q k v cr ⟨t.val / 128, by have := pt_lt t; omega⟩ h ⟨t.val % 16 * 256 + r.val, by omega⟩ e := by
  have ht := pt_lt t
  have hq16 : t.val % 16 < 16 := Nat.mod_lt _ (by omega)
  obtain ⟨o1, o2, o3⟩ := off1_eq t
  have h1 : ∀ a, k0_off1 (grid0.coords t) a + (![256, 128] : Fin 2 → ℕ) a ≤ S4096x128.size a := by
    rw [o1]; intro a; fin_cases a
    · show t.val % 16 * 256 + 256 ≤ 4096; omega
    · show 0 + 128 ≤ 128; omega
  have h2 : ∀ a, k0_off2 (grid0.coords t) a + (![1, 1, 256] : Fin 3 → ℕ) a ≤ S1x2x4096.size a := by
    rw [o2]; intro a; fin_cases a
    · show 0 + 1 ≤ 1; omega
    · show 0 + 1 ≤ 2; omega
    · show t.val % 16 * 256 + 256 ≤ 4096; omega
  have h3 : ∀ a, k0_off3 (grid0.coords t) a + (![1, 1, 256] : Fin 3 → ℕ) a ≤ S1x2x4096.size a := by
    rw [o3]; intro a; fin_cases a
    · show 0 + 1 ≤ 1; omega
    · show 1 + 1 ≤ 2; omega
    · show t.val % 16 * 256 + 256 ≤ 4096; omega
  obtain ⟨X8, X9, eK, eV, eo⟩ : ∃ X8 X9, scM0_0.view.read (Elt Ideal) X8 = k0_pay30 (F := Ideal) (iblk m c 1 t) ∧ scM0_1.view.read (Elt Ideal) X9 = k0_pay31 (F := Ideal) (iblk m c 2 t) ∧
      (outsAt0 m c t.val t.isLt).1 = out (outSt m c t X8 X9 (k0_pay30 (F := Ideal) (iblk m c 1 t)) (k0_pay31 (F := Ideal) (iblk m c 2 t)) h1 h2 h3) := by
    by_cases h0 : t.val % 16 = 0
    · exact out_A m c t h0 h1 h2 h3
    · exact out_B m c t h0 h1 h2 h3
  have fq : ∀ r d, ∃ a : ℝ, iblk m c 0 t (ix2 r d) = ((a : ℝ) : EReal) := fun r d => by rw [queries_apply, eq]; exact hq _ _
  have fx : ∀ r d, ∃ a : ℝ, k0_pay34 (F := Ideal) (iblk m c 0 t) (ix2 r d) = a := fun r d => by
    obtain ⟨a, ha⟩ := fq r d
    rw [pay34_apply, ha]
    split
    · exact ⟨a * (1 / 8), (EReal.coe_mul _ _).symm⟩
    · exact ⟨0, rfl⟩
  have fx' : ∀ r d, ∃ a : ℝ, k0_pay35 (F := Ideal) (iblk m c 0 t) (ix2 r d) = a := fun r d => by
    obtain ⟨a, ha⟩ := fq r d
    rw [pay35_apply, ha]
    split
    · exact ⟨0, rfl⟩
    · exact ⟨a * (1 / 8), (EReal.coe_mul _ _).symm⟩
  have fK : ∀ r d, ∃ a : ℝ, k0_pay30 (F := Ideal) (iblk m c 1 t) (ix2 r d) = a := fun r d => by rw [pay30_apply, keys_apply, ek]; exact hk _ _
  have fC : ∀ b n, ∃ a : ℝ, iblk m c 3 t (ix3 0 b n) = ((a : ℝ) : EReal) := fun b n => by rw [gates_apply, ec]; exact hc _ _ _
  have hP := state_pr m c t X8 X9 _ _ h1 h2 h3 eK eV fx fx' fK fC r d
  rw [eo, out, pay5_apply]
  obtain ⟨g, hg⟩ := hc ⟨h.val / 2, by omega⟩ ⟨h.val % 2, by omega⟩ ⟨t.val / 128 * 4096 + (t.val % 16 * 256 + r.val), by omega⟩
  have ecol : ∀ N : Fin 4096, col (k0_pay31 (F := Ideal) (iblk m c 2 t)) d N.val
      = v (ix2 ⟨t.val / 128 * 4096 + N.val, by omega⟩ ⟨h.val * 64 + e.val, by omega⟩) := fun N => by
    rw [col, dif_pos N.isLt, pay31_apply, vals_apply, ev]
    simp only [he]
  by_cases hd : d.val < 64
  · have hh : h.val = t.val / 16 % 8 * 2 := by omega
    rw [if_pos hd, FoxMath.final hq16 (row_score fx fK fC 0 _ r) hP.1 (fun n hn => row_bot _ _ _ _ _ _ n hn) g rfl]
    have er : ∀ N : Fin 4096, _ := fun N => row_low m c t eq ek ec hq hk hc h hh r N
    simp only [hg] at er
    simp only [er, ecol, att]
    exact Finset.sum_congr rfl fun _ _ => mul_comm _ _
  · have hh : h.val = t.val / 16 % 8 * 2 + 1 := by omega
    rw [if_neg hd, FoxMath.final hq16 (row_score fx' fK fC 1 _ r) hP.2 (fun n hn => row_bot _ _ _ _ _ _ n hn) g rfl]
    have er : ∀ N : Fin 4096, _ := fun N => row_high m c t eq ek ec hq hk hc h hh r N
    simp only [hg] at er
    simp only [er, ecol, att]
    exact Finset.sum_congr rfl fun _ _ => mul_comm _ _

omit t

theorem final : (dats m 0 c).arrAt 4 (cfgs 0).N = spec q k v cr := by
  refine (dats m 0 c).arrAt_eq_of_covers 4 _ covers fun t _ y => ?_
  blk_simp
  rw [after0_4]
  idx_vars y
  have ht := pt_lt t
  have hb : t.val / 16 % 8 * 128 + y1.val = (⟨t.val / 16 % 8 * 2 + y1.val / 64, by omega⟩ : Fin 16).val * 64 + (⟨y1.val % 64, Nat.mod_lt _ (by omega)⟩ : Fin 64).val := by
    show t.val / 16 % 8 * 128 + y1.val = (t.val / 16 % 8 * 2 + y1.val / 64) * 64 + y1.val % 64
    omega
  rw [emb_pt, spec_apply q k v cr _ _ ⟨t.val / 128, by omega⟩ ⟨t.val / 16 % 8 * 2 + y1.val / 64, by omega⟩ ⟨t.val % 16 * 256 + y0.val, by omega⟩
    ⟨y1.val % 64, Nat.mod_lt _ (by omega)⟩ rfl hb]
  exact elem m c t eq ek ev ec hq hk hc y0 y1 _ _ hb

omit eq ek ev ec hq hk hc

theorem tie : Cert.algebraic_FoxIdeal_FoxRefIdeal_pre_scores_finite := by
  intro m g m' g' hpre hag
  refine ⟨fun c => (dats m 0 c).arrAt 4 cfg0.N, Value.run_blocks m g,
    (θ_run _ _ _).mono (fun r h c => ⟨(h c).1.trans ?_, (h c).2⟩) (Cert.FoxRefIdeal.Value.run m' g')⟩
  obtain ⟨p1, p2, p3⟩ := hpre c
  have hq : ∀ a b, ∃ x : ℝ, (m ((c : Thread nD τ).loc main_arg0) : FVec Ideal S16384x1024 .f32) (ix2 a b) = ((x : ℝ) : EReal) := fun a b => by
    have h := congrFun p1 (ix2 a b)
    pointwise [Cert.Pre_scores_finite.fn] at h
    exact Reals.real_of_lt_inf _ h
  have hk : ∀ a b, ∃ x : ℝ, (m ((c : Thread nD τ).loc main_arg1) : FVec Ideal S16384x1024 .f32) (ix2 a b) = ((x : ℝ) : EReal) := fun a b => by
    have h := congrFun p2 (ix2 a b)
    pointwise [Cert.Pre_scores_finite.fn] at h
    exact Reals.real_of_lt_inf _ h
  have hc : ∀ p b n, ∃ x : ℝ, (m ((c : Thread nD τ).loc main_arg3) : FVec Ideal S8x2x16384 .f32) (ix3 p b n) = ((x : ℝ) : EReal) := fun p b n => by
    have h := congrFun p3 (ix3 p b n)
    pointwise [Cert.Pre_scores_finite.fn] at h
    exact Reals.real_of_lt_inf _ h
  refine Eq.trans ?_ (final m c rfl rfl rfl rfl hq hk hc).symm
  funext i
  idx_vars i
  refine Eq.trans ?_ (spec_apply _ _ _ _ i0 i1 ⟨i0.val / 4096, by omega⟩ ⟨i1.val / 64, by omega⟩ ⟨i0.val % 4096, Nat.mod_lt _ (by omega)⟩ ⟨i1.val % 64, Nat.mod_lt _ (by omega)⟩
    (Nat.div_add_mod' _ _).symm (Nat.div_add_mod' _ _).symm).symm
  have e0 : i0 = ⟨(⟨i0.val / 4096, by omega⟩ : Fin 4).val * 4096 + (⟨i0.val % 4096, Nat.mod_lt _ (by omega)⟩ : Fin 4096).val, by dsimp only; omega⟩ := Fin.ext (Nat.div_add_mod' _ _).symm
  have e1 : i1 = ⟨(⟨i1.val / 64, by omega⟩ : Fin 16).val * 64 + (⟨i1.val % 64, Nat.mod_lt _ (by omega)⟩ : Fin 64).val, by dsimp only; omega⟩ := Fin.ext (Nat.div_add_mod' _ _).symm
  refine Eq.trans ?_ (Cert.FoxRefIdeal.Hand.res_apply m' c _ _ _ _ (hag c).1 (hag c).2.1 (hag c).2.2.1 (hag c).2.2.2 _ _ _ _)
  exact congrArg (Cert.FoxRefIdeal.Value.res_main_v34 (F := Ideal) m' c) (congrArg₂ ix2 e0 e1)

end Cert.FoxIdeal.Hand

end
-- ==== Proof.Cums.lean ====
/- The running sums of the gate logarithms: twelve doubling steps on the lanes give, in every segment of 4096 steps of
   time, the sums the reference takes over a window reaching back to the segment's start. -/
module

public import proofs.«01_k».proof.Proof.Gen.CumsIdeal.Value
public import proofs.«01_k».proof.Proof.Gen.CumsRefIdeal.Run
public import proofs.«01_k».proof.Defs
public import Idealize.ShloMosaic.Lib.Pipeline.ValueKit
public import Idealize.ShloMosaic.Lib.WordCmp

@[expose] public section

set_option maxRecDepth 16384

noncomputable section

namespace Cert.CumsIdeal.Hand

open Cert.CumsIdeal Cert.CumsIdeal.Gen Idealize.ShloMosaic Idealize.ShloMosaic.TcCoe Idealize.SL.Sem
open Idealize.ShloMosaic.Pipeline (Dat)

/-- The sum of the last `w` entries of `x` up to entry `j`. -/
def win (x : ℕ → EReal) (w j : ℕ) : EReal := ∑ i ∈ Finset.range w, if i ≤ j then x (j - i) else 0

theorem win_one (x : ℕ → EReal) (j : ℕ) : win x 1 j = x j := by simp [win]

/-- A window of twice the width is the window and the one before it. -/
theorem win_double (x : ℕ → EReal) (w j : ℕ) : win x (w + w) j = win x w j + if w ≤ j then win x w (j - w) else 0 := by
  unfold win
  rw [Finset.sum_range_add]
  congr 1
  split
  · next h =>
    refine Finset.sum_congr rfl fun i _ => ?_
    by_cases hi : i ≤ j - w
    · rw [if_pos hi, if_pos (by omega), Nat.sub_sub]
    · rw [if_neg hi, if_neg (by omega)]
  · next h => exact Finset.sum_eq_zero fun i _ => if_neg (by omega)

/-- One doubling step on the lanes. -/
def step (sb : BitVec 32) (v : FVec Ideal S16x4096 .f32) : FVec Ideal S16x4096 .f32 :=
  addf v (select (cmpi .sge (iota .tc S16x4096 32 [1] iota_S16x4096_d1_w32) (broadcast S16x4096 sb))
    (dynamicRotate 1 sb none v rotates_S16x4096_d1) (broadcast S16x4096 (Scalar.ofBits .f32 0x00000000#32)))

theorem step_at (s : ℕ) (hs : s < 4096) (v : FVec Ideal S16x4096 .f32) (h : Fin 16) (j : Fin 4096) :
    step (BitVec.ofNat 32 s) v (ix2 h j)
      = (v (ix2 h j) : EReal) + if hj : s ≤ j.val then (v (ix2 h ⟨j.val - s, by omega⟩) : EReal) else 0 := by
  have hj := j.isLt
  have e : (BitVec.ofNat 32 s).toNat = s := by rw [BitVec.toNat_ofNat]; omega
  pointwise [step]
  congr 1
  have hc : IntOp.cmpi .sge (BitVec.ofNat 32 j.val) (BitVec.ofNat 32 s) = BitVec.ofBool (decide (s ≤ j.val)) :=
    WordCmp.cmpi_sge_ofNat (by omega) (by omega)
  rw [hc]
  by_cases hle : s ≤ j.val
  · rw [dif_pos hle, decide_eq_true hle]
    refine congrArg v (congrArg (ix2 h) (Fin.ext ?_))
    show (j.val + 4096 - (BitVec.ofNat 32 s).toNat % 4096) % 4096 = j.val - s
    rw [e]; omega
  · rw [dif_neg hle, decide_eq_false hle]; rfl

/-- The lanes hold windows of twice the width after a step. -/
theorem step_win (x : Fin 16 → ℕ → EReal) (s : ℕ) (hs : s < 4096) (v : FVec Ideal S16x4096 .f32)
    (hv : ∀ (h : Fin 16) (j : Fin 4096), v (ix2 h j) = win (x h) s j.val) (h : Fin 16) (j : Fin 4096) :
    step (BitVec.ofNat 32 s) v (ix2 h j) = win (x h) (s + s) j.val := by
  rw [step_at s hs, win_double, hv]
  by_cases hle : s ≤ j.val
  · rw [dif_pos hle, if_pos hle, hv]
  · rw [dif_neg hle, if_neg hle]

/-- The twelve steps give the sums from the block's start on. -/
theorem pay_win (b : FVec Ideal S16x4096 .f32) (x : Fin 16 → ℕ → EReal)
    (hb : ∀ (h : Fin 16) (j : Fin 4096), b (ix2 h j) = x h j.val) (h : Fin 16) (j : Fin 4096) :
    k0_pay1 (F := Ideal) (iota .tc S16x4096 32 [1] iota_S16x4096_d1_w32) (k0_pay2 (F := Ideal) b) (ix2 h j) = win (x h) 4096 j.val := by
  have e : k0_pay1 (F := Ideal) (iota .tc S16x4096 32 [1] iota_S16x4096_d1_w32) (k0_pay2 (F := Ideal) b)
      = step (BitVec.ofNat 32 2048) (step (BitVec.ofNat 32 1024) (step (BitVec.ofNat 32 512) (step (BitVec.ofNat 32 256)
        (step (BitVec.ofNat 32 128) (step (BitVec.ofNat 32 64) (step (BitVec.ofNat 32 32) (step (BitVec.ofNat 32 16)
        (step (BitVec.ofNat 32 8) (step (BitVec.ofNat 32 4) (step (BitVec.ofNat 32 2) (step (BitVec.ofNat 32 1)
        (shapeCast S16x4096 b shapeCasts_S16x4096_S16x4096)))))))))))) := rfl
  rw [e]
  refine step_win x 2048 (by omega) _ (step_win x 1024 (by omega) _ (step_win x 512 (by omega) _
    (step_win x 256 (by omega) _ (step_win x 128 (by omega) _ (step_win x 64 (by omega) _ (step_win x 32 (by omega) _
    (step_win x 16 (by omega) _ (step_win x 8 (by omega) _ (step_win x 4 (by omega) _ (step_win x 2 (by omega) _
    (step_win x 1 (by omega) _ fun h j => ?_))))))))))) h j
  rw [win_one, shapeCast_self]
  exact hb h j

/-- Head `h`'s gate logarithms in the `b`-th segment of 4096 steps. -/
def seg (lf : FVec Ideal S16384x16 .f32) (h : Fin 16) (b : Fin 4) (n : ℕ) : EReal :=
  if hn : n < 4096 then lf (ix2 ⟨b.val * 4096 + n, by omega⟩ h) else 0

/-- The running sums: at head `h` and step `T`, the sum over the steps of `T`'s segment up to `T`. -/
def spec (lf : FVec Ideal S16384x16 .f32) : FVec Ideal S16x16384 .f32 := fun i =>
  win (seg lf (i 0) ⟨(i 1).val / 4096, by have := (i 1).isLt; change (i 1).val < 16384 at this; omega⟩) 4096
    ((i 1).val % 4096)

variable (m : (ℓ : Loc nD τ sig) → Buf (Elt Ideal) ℓ)

theorem idx : ∀ t : Fin cfg0.N, win0_0.index t = ![0, t.val] ∧ win0_1.index t = ![0, t.val] :=
  (by decide +kernel : ∀ t : Fin grid0.N, _)

theorem final (c : Dev nD) : (dats m 0 c).arrAt 1 (cfgs 0).N = spec (m ((c : Thread nD τ).loc main_arg0)) := by
  refine (dats m 0 c).arrAt_eq_of_covers 1 _ (by decide +kernel) fun t _ y => ?_
  blk_simp
  rw [after0_1]; frame_out
  idx_vars y
  have e : ((View.whole main_v1).slice (win0_1.rect t)).emb (ix2 y0 y1)
      = ix2 y0 ⟨t.val * 4096 + y1.val, by have := t.isLt; change t.val < 4 at this; omega⟩ := by blk_ext [idx t]
  rw [e]
  have ht : t.val < 4 := t.isLt
  refine (pay_win _ (fun h => seg (m ((c : Thread nD τ).loc main_arg0)) h ⟨t.val, ht⟩) (fun h j => ?_) y0 y1).trans ?_
  · rw [seg, dif_pos j.isLt]
    have e : (win0_0.blk t).view.emb (ix2 h j)
        = ix2 h ⟨t.val * 4096 + j.val, by omega⟩ := by blk_ext [idx t]
    refine (congrArg (V m c main_v0) e).trans ?_
    simp only [V, hostOps0]
    entry_read
    pointwise
  · have h1 : (t.val * 4096 + y1.val) / 4096 = t.val := by omega
    have h2 : (t.val * 4096 + y1.val) % 4096 = y1.val := by omega
    simp only [spec, ix2_0, ix2_1, h1, h2]

/-- A fold by addition is its start and the sum. -/
theorem foldl_sum {n : ℕ} (g : Fin n → EReal) (v : EReal) :
    (List.finRange n).foldl (fun r i => r + g i) v = v + ∑ i, g i := by
  have gen : ∀ (l : List (Fin n)) (v : EReal), l.foldl (fun r i => r + g i) v = v + (l.map g).sum := by
    intro l
    induction l with
    | nil => intro v; simp
    | cons a l ih => intro v; rw [List.foldl_cons, ih, List.map_cons, List.sum_cons, add_assoc]
  rw [gen, ← List.ofFn_eq_map, List.sum_ofFn]

/-- The reference's window, at an index: the sum of the entries of the segment up to it. -/
theorem ref_win (x : FVec Ideal Cert.CumsRefIdeal.S4x4096x16 .f32) (init : FVec Ideal Cert.CumsRefIdeal.S_ .f32)
    (hi : ∀ i, (init i : EReal) = 0) (h) (hu) (b : Fin 4) (j : Fin 4096) (c : Fin 16) :
    Host.reduceWindowAdd ![1, 4096, 1] ![1, 1, 1] ![0, 4095, 0] ![0, 0, 0] x init h hu (ix3 b j c)
      = win (fun n => if hn : n < 4096 then x (ix3 b ⟨n, hn⟩ c) else 0) 4096 j.val := by
  have hj := j.isLt
  rw [Host.reduceWindowAdd, hi, Ideal.hostReduceWindowAdd_def, Ideal.hostReduceWindowAdd, Host.reduceWindow]
  dsimp only
  rw [foldl_sum, zero_add]
  rw [← Equiv.sum_comp (Shape.mk 3 ![1, 4096, 1]).rowMajor, sum_idx3]
  simp only [Equiv.symm_apply_apply, Fin.sum_univ_one]
  rw [win, ← Finset.sum_range_reflect, ← Fin.sum_univ_eq_sum_range (fun i => if 4096 - 1 - i ≤ j.val then _ else _) 4096]
  refine Finset.sum_congr rfl fun n _ => ?_
  have hn := n.isLt
  by_cases hle : 4096 - 1 - n.val ≤ j.val
  · rw [if_pos hle, dif_pos (show j.val - (4096 - 1 - n.val) < 4096 by omega)]
    rw [dif_pos (fun a => by
      match a with
      | ⟨0, _⟩ => show 0 ≤ b.val * 1 + 0 ∧ b.val * 1 + 0 - 0 < 4; omega
      | ⟨1, _⟩ => show 4095 ≤ j.val * 1 + n.val ∧ j.val * 1 + n.val - 4095 < 4096; omega
      | ⟨2, _⟩ => show 0 ≤ c.val * 1 + 0 ∧ c.val * 1 + 0 - 0 < 16; omega)]
    refine congrArg x (funext fun a => Fin.ext ?_)
    match a with
    | ⟨0, _⟩ => show b.val * 1 + 0 - 0 = b.val; omega
    | ⟨1, _⟩ => show j.val * 1 + n.val - 4095 = j.val - (4096 - 1 - n.val); omega
    | ⟨2, _⟩ => show c.val * 1 + 0 - 0 = c.val; omega
  · rw [if_neg hle, dif_neg]
    intro hall
    have h1 := (hall 1).1
    change 4095 ≤ j.val * 1 + n.val at h1
    omega

theorem tie : Cert.algebraic_CumsIdeal_CumsRefIdeal := by
  intro m g m' g' _ hag
  refine ⟨fun c => (dats m 0 c).arrAt 1 cfg0.N, Value.run_blocks m g,
    (θ_run _ _ _).mono (fun r h c => ⟨(h c).1.trans ?_, (h c).2⟩) (Cert.CumsRefIdeal.Value.run m' g')⟩
  rw [hag c]
  refine Eq.trans ?_ (final m c).symm
  generalize m ((c.tc : Thread nD τ).loc main_arg0) = lf
  funext i
  idx_vars i
  generalize hz : Host.reduceWindowAdd (F := Ideal) (φ := .f32) (s := Cert.CumsRefIdeal.S4x4096x16) ![1, 4096, 1] ![1, 1, 1] ![0, 4095, 0] ![0, 0, 0] _ _ _ _ = z
  have hz' : ∀ (b : Fin 4) (j : Fin 4096) (h : Fin 16), (z (ix3 b j h) : EReal) = win (seg lf h b) 4096 j.val := by
    intro b j h
    rw [← hz, ref_win _ _ (fun i => by pointwise)]
    congr 1
    funext n
    rw [seg]
    refine dite_congr rfl (fun hn => ?_) fun _ => rfl
    refine shapeCast_apply _ _ (ix3 b ⟨n, hn⟩ h) (ix2 ⟨b.val * 4096 + n, by omega⟩ h) ?_
    rw [Shape.rowMajor_val_two, Shape.rowMajor_val_three]
    show (b.val * 4096 + n) * 16 + h.val = (b.val * 4096 + n) * 16 + h.val
    rfl
  pointwise [spec]
  exact hz' _ _ _

end Cert.CumsIdeal.Hand

end
-- ==== Proof.Gates.lean ====
/- The logarithm of the logistic function, as the programs spell it. -/
module

public import Idealize.ShloMosaic.Lib.Pipeline.ValueKit

@[expose] public section

noncomputable section

namespace Cert.Gates

open Idealize.ShloMosaic

/-- The logarithm of the logistic function, as both programs spell it. -/
@[irreducible] def lsg (y : EReal) : EReal := -(max (-y) 0 + Ideal.log1p (Ideal.exp (-(max y (-y)))))

theorem lsg_ref (y : EReal) : -(if -y ≠ -y then -y else
    max (-y) 0 + Ideal.log1p (Ideal.exp (-FloatOps.absf (F := Ideal) (φ := .f32) (-y)))) = lsg y := by
  rw [if_neg (by simp), lsg]
  change -(max (-y) 0 + Ideal.log1p (Ideal.exp (-(max (-y) (- -y))))) = _
  rw [neg_neg, max_comm (-y) y]

theorem lsg_ker (y : EReal) (z : EReal) : Scalar.select 1#1 (0 - (max (0 - y) 0
    + Ideal.log1p (Ideal.exp (0 - FloatOps.absf (F := Ideal) (φ := .f32) y)))) z = lsg y := by
  change (0 - (max (0 - y) 0 + Ideal.log1p (Ideal.exp (0 - max y (-y))))) = _
  rw [lsg, zero_sub, zero_sub, zero_sub]

theorem select_zero {α : Type} (a b : α) : Scalar.select 0#1 a b = b := rfl

theorem sitofp_zero : FloatOps.sitofp (F := Ideal) .f32 0#32 = (0 : EReal) := by
  change ((((0#32 : BitVec 32).toInt : ℤ) : ℝ) : EReal) = 0
  simp

end Cert.Gates

end
-- ==== Proof.ProjE.lean ====
/- The first even layer's input projection of the prompt's rows: each of the kernel's seven result arrays is the reference's, at
   every index, where what the split first segment reads is finite. -/
module

public import proofs.«01_k».proof.Proof.Gen.ProjEIdeal.Value
public import proofs.«01_k».proof.Proof.Gen.ProjERefIdeal.Run
public import proofs.«01_k».proof.Proof.Gen.Pre_split_finite
public import proofs.«01_k».proof.Defs
public import proofs.«01_k».proof.Proof.Gates
public import proofs.«01_k».proof.Proof.Reals
public import Idealize.ShloMosaic.Lib.Pipeline.ValueKit

@[expose] public section

set_option maxRecDepth 16384

noncomputable section

namespace Cert.ProjEIdeal.Hand

open Cert.Gates Cert.ProjEIdeal Cert.ProjEIdeal.Gen Idealize.ShloMosaic Idealize.ShloMosaic.TcCoe Idealize.SL.Sem
open Idealize.ShloMosaic.Pipeline (Dat)

variable (m : (ℓ : Loc nD τ sig) → Buf (Elt Ideal) ℓ)

/-- Row `r` scaled by its root mean square and by the norm's weight. -/
def hid (x : FVec Ideal S16384x1024 .f32) (nw : FVec Ideal S1024 .f32) (r : Fin 16384) (k : Fin 1024) : EReal :=
  x (ix2 r k) * Ideal.rsqrt (Ideal.div (∑ k : Fin 1024, x (ix2 r k) * x (ix2 r k)) (Ideal.ofBits .f32 0x44800000#32)
    + Ideal.ofBits .f32 0x358637BD#32) * nw (ix1 k)

theorem hid_sub (x : FVec Ideal S16384x1024 .f32) (nw : FVec Ideal S1024 .f32) (r : Fin 16384) (k : Fin 1024)
    (hx : ∀ r k, ∃ q : ℝ, x (ix2 r k) = q) (hn : ∀ k, ∃ q : ℝ, nw (ix1 k) = q) : hid x nw r k - hid x nw r k = 0 := by
  refine Reals.sub_self_real _ ?_
  obtain ⟨a, ha⟩ := hx r k
  obtain ⟨b, hb⟩ := hn k
  obtain ⟨d, hd⟩ := Reals.norm_real (fun k => x (ix2 r k)) (hx r)
  refine ⟨a * d * b, ?_⟩
  rw [hid, hd, ha, hb, EReal.coe_mul, EReal.coe_mul]

/-- One element of the normalised rows' product with the weights. -/
def lin (x : FVec Ideal S16384x1024 .f32) (nw : FVec Ideal S1024 .f32) (w : FVec Ideal S1024x3592 .f32) (r : Fin 16384)
    (j : Fin 3592) : EReal :=
  ∑ k : Fin 1024, hid x nw r k * w (ix2 k j)

/-- The projection's 512 columns from `o` on. -/
def spec (o : ℕ) (ho : o + 512 ≤ 3592) (x : FVec Ideal S16384x1024 .f32) (nw : FVec Ideal S1024 .f32)
    (w : FVec Ideal S1024x3592 .f32) : FVec Ideal S16384x512 .f32 := fun i =>
  lin x nw w (i 0) ⟨o + (i 1).val, by have : (i 1).val < 512 := (i 1).isLt; omega⟩

/-- The projection's 1024 columns from 1536 on. -/
def wide (x : FVec Ideal S16384x1024 .f32) (nw : FVec Ideal S1024 .f32)
    (w : FVec Ideal S1024x3592 .f32) : FVec Ideal S16384x1024 .f32 := fun i =>
  lin x nw w (i 0) ⟨1536 + (i 1).val, by have : (i 1).val < 1024 := (i 1).isLt; omega⟩

/-- Four input gates, the logarithms of four forget gates, and zero in the lanes no head owns. -/
def gates (x : FVec Ideal S16384x1024 .f32) (nw : FVec Ideal S1024 .f32) (w : FVec Ideal S1024x3592 .f32)
    (bi bf : FVec Ideal S4 .f32) : FVec Ideal S16384x128 .f32 := fun i =>
  if h : (i 1).val < 4 then lin x nw w (i 0) ⟨3584 + (i 1).val, by omega⟩ + bi (ix1 ⟨(i 1).val, h⟩)
  else if h : (i 1).val < 8 then lsg (lin x nw w (i 0) ⟨3584 + (i 1).val, by omega⟩ + bf (ix1 ⟨(i 1).val - 4, by omega⟩))
  else 0

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

theorem nwAt (c : Dev nD) (k : Fin 1024) : V m c main_v13 (ix2 0 k) = m ((c : Thread nD τ).loc main_arg1) (ix1 k) := by
  simp only [V, hostOps0, hostOps0_1, hostOps0_2, hostOps0_3, hostOps0_4, List.flatten_cons, List.flatten_nil,
    List.append_nil, List.cons_append, List.nil_append]
  entry_read
  pointwise

/-- The weights with the gate columns padded to whole lanes. -/
def wPad (w : FVec Ideal S1024x3592 .f32) : FVec Ideal S1024x3712 .bf16 :=
  truncf .bf16 (concatenate S1024x3712 1 [⟨S1024x3584, extractStridedSlice S1024x3584 ![0, 0] w slices_S1024x3592_S1024x3584_0_0⟩,
    ⟨S1024x128, pad (α := Ideal .f32) S1024x128 ![0, 0] ![0, 120] ![0, 0]
      (extractStridedSlice S1024x8 ![0, 3584] w slices_S1024x3592_S1024x8_0_3584)
      (sitofp (F := Ideal) .f32 (constantI S_ 32 0#32)) pads_S1024x8_S1024x128_000_01200 h_S_⟩]
    concatenates_S1024x3584_S1024x128_S1024x3712_d1 : FVec Ideal S1024x3712 .f32) bitsLt_bf16_f32

/-- What rounding the first segment's weights leaves out. -/
def wRest (w : FVec Ideal S1024x3592 .f32) : FVec Ideal S1024x512 .bf16 :=
  truncf .bf16 (subf (extractStridedSlice (α := Ideal .f32) S1024x512 ![0, 0] w slices_S1024x3592_S1024x512_0_0 : FVec Ideal S1024x512 .f32)
    (extf .f32 (truncf .bf16 (extractStridedSlice (α := Ideal .f32) S1024x512 ![0, 0] w slices_S1024x3592_S1024x512_0_0 : FVec Ideal S1024x512 .f32)
      bitsLt_bf16_f32) bitsLt_bf16_f32)) bitsLt_bf16_f32

/-- The gate biases padded to whole lanes. -/
def bPad (bi bf : FVec Ideal S4 .f32) : FVec Ideal S1x128 .f32 :=
  pad (α := Ideal .f32) S1x128 ![0, 0] ![0, 120] ![0, 0] (shapeCast S1x8 (concatenate S8 0 [⟨S4, bi⟩, ⟨S4, bf⟩]
      concatenates_S4_S4_S8_d0) shapeCasts_S8_S1x8)
    (sitofp (F := Ideal) .f32 (constantI S_ 32 0#32)) pads_S1x8_S1x128_000_01200 h_S_

theorem wV (c : Dev nD) : V m c main_v4 = wPad (m ((c : Thread nD τ).loc main_arg2)) := by
  simp only [V, hostOps0, hostOps0_1, hostOps0_2, hostOps0_3, hostOps0_4, List.flatten_cons, List.flatten_nil,
    List.append_nil, List.cons_append, List.nil_append]
  entry_read
  rfl

theorem wAt (c : Dev nD) (k : Fin 1024) (j : Fin 3712) : V m c main_v4 (ix2 k j)
    = if h : j.val < 3592 then m ((c : Thread nD τ).loc main_arg2) (ix2 k ⟨j.val, h⟩) else (0 : EReal) := by
  rw [wV]
  pointwise [wPad]
  simp only [sitofp_zero]
  by_cases h : j.val < 3584
  · rw [dif_pos h, dif_pos (by omega)]
  · rw [dif_neg h]
    by_cases h' : j.val < 3592
    · rw [dif_pos h', dif_pos (by omega)]
      exact congrArg _ (congrArg _ (Fin.ext (by dsimp only; omega)))
    · rw [dif_neg h', dif_neg (by omega)]

/-- One element of it. -/
def rest (w : FVec Ideal S1024x3592 .f32) (k : Fin 1024) (j : Fin 512) : EReal :=
  w (ix2 k ⟨j.val, by omega⟩) - w (ix2 k ⟨j.val, by omega⟩)

theorem wrV (c : Dev nD) : V m c main_v9 = wRest (m ((c : Thread nD τ).loc main_arg2)) := by
  simp only [V, hostOps0, hostOps0_1, hostOps0_2, hostOps0_3, hostOps0_4, List.flatten_cons, List.flatten_nil,
    List.append_nil, List.cons_append, List.nil_append]
  entry_read
  rfl

theorem wrAt (c : Dev nD) (k : Fin 1024) (j : Fin 512) : V m c main_v9 (ix2 k j)
    = rest (m ((c : Thread nD τ).loc main_arg2)) k j := by
  rw [wrV]
  pointwise [wRest, rest]

theorem bV (c : Dev nD) : V m c main_v12 = bPad (m ((c : Thread nD τ).loc main_arg3)) (m ((c : Thread nD τ).loc main_arg4)) := by
  simp only [V, hostOps0, hostOps0_1, hostOps0_2, hostOps0_3, hostOps0_4, List.flatten_cons, List.flatten_nil,
    List.append_nil, List.cons_append, List.nil_append]
  entry_read
  rfl

theorem bAt (c : Dev nD) (j : Fin 128) : V m c main_v12 (ix2 0 j)
    = if h : j.val < 4 then m ((c : Thread nD τ).loc main_arg3) (ix1 ⟨j.val, h⟩)
      else if h : j.val < 8 then m ((c : Thread nD τ).loc main_arg4) (ix1 ⟨j.val - 4, by omega⟩) else (0 : EReal) := by
  rw [bV]
  pointwise [bPad]
  simp only [sitofp_zero]
  by_cases h : j.val < 4
  · rw [dif_pos h, dif_pos (by omega), dif_pos h]
  · by_cases h' : j.val < 8
    · rw [dif_neg h, dif_pos h', dif_pos h', dif_neg h]
    · rw [dif_neg h, dif_neg h', dif_neg h']

theorem nwB (c : Dev nD) (t : Fin cfg0.N) (k : Fin 1024) :
    iblk m c 1 t (ix2 0 k) = m ((c : Thread nD τ).loc main_arg1) (ix1 k) := by
  have e : (win0_1.blk t).view.emb (ix2 0 k) = ix2 0 k := by blk_ext [idx t]
  exact (congrArg (V m c main_v13) e).trans (nwAt m c k)

theorem wB (c : Dev nD) (t : Fin cfg0.N) (k : Fin 1024) (j : Fin 3712) : iblk m c 2 t (ix2 k j)
    = if h : j.val < 3592 then m ((c : Thread nD τ).loc main_arg2) (ix2 k ⟨j.val, h⟩) else (0 : EReal) := by
  have e : (win0_2.blk t).view.emb (ix2 k j) = ix2 k j := by blk_ext [idx t]
  exact (congrArg (V m c main_v4) e).trans (wAt m c k j)

theorem wrB (c : Dev nD) (t : Fin cfg0.N) (k : Fin 1024) (j : Fin 512) : iblk m c 3 t (ix2 k j)
    = rest (m ((c : Thread nD τ).loc main_arg2)) k j := by
  have e : (win0_3.blk t).view.emb (ix2 k j) = ix2 k j := by blk_ext [idx t]
  exact (congrArg (V m c main_v9) e).trans (wrAt m c k j)

theorem bB (c : Dev nD) (t : Fin cfg0.N) (j : Fin 128) : iblk m c 4 t (ix2 0 j)
    = if h : j.val < 4 then m ((c : Thread nD τ).loc main_arg3) (ix1 ⟨j.val, h⟩)
      else if h : j.val < 8 then m ((c : Thread nD τ).loc main_arg4) (ix1 ⟨j.val - 4, by omega⟩) else (0 : EReal) := by
  have e : (win0_4.blk t).view.emb (ix2 0 j) = ix2 0 j := by blk_ext [idx t]
  exact (congrArg (V m c main_v12) e).trans (bAt m c j)

/-- The array's row behind row `y` of the block at point `t`. -/
def row (t : Fin cfg0.N) (y : Fin 256) : Fin 16384 := ⟨256 * t.val + y.val, by have : t.val < 64 := t.isLt; omega⟩

theorem hidB (c : Dev nD) (t : Fin cfg0.N) (y : Fin 256) (k : Fin 1024) : k0_pay2 (iblk m c 0 t) (iblk m c 1 t) (ix2 y k)
    = hid (m ((c : Thread nD τ).loc main_arg0)) (m ((c : Thread nD τ).loc main_arg1)) (row t y) k := by
  pointwise [k0_pay2, hid, row]
  simp only [nwB]
  blk_point [iblk, V, idx t]

theorem hidL (c : Dev nD) (t : Fin cfg0.N) (y : Fin 256) (k : Fin 1024) : k0_pay2 (View.ld (iblk m c 0 t) r0_0) (View.ld (iblk m c 1 t) r0_1) (ix2 y k)
    = hid (m ((c : Thread nD τ).loc main_arg0)) (m ((c : Thread nD τ).loc main_arg1)) (row t y) k := by
  pointwise [k0_pay2, hid, row]
  simp only [nwB]
  blk_point [iblk, V, idx t]

theorem roundB (c : Dev nD) (t : Fin cfg0.N) (y : Fin 256) (k : Fin 1024) (a : Vec Ideal S1024x3712 .bf16)
    (b : Vec Ideal S1024x512 .bf16) (d : Vec Ideal S1x128 .f32) :
    k0_pay13 (iblk m c 0 t) (iblk m c 1 t) a b d (ix2 y k)
      = hid (m ((c : Thread nD τ).loc main_arg0)) (m ((c : Thread nD τ).loc main_arg1)) (row t y) k := by
  pointwise [k0_pay13, k0_pay3]
  exact hidL m c t y k

theorem final6 (c : Dev nD) : (dats m 0 c).arrAt 6 (cfgs 0).N
    = spec 512 (by omega) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  idx_vars y
  have h : 512 + y1.val < 3592 := by omega
  have e : ((View.whole main_v14_1).slice (win0_6.rect t)).emb (ix2 y0 y1) = ix2 (row t y0) y1 := by
    blk_ext [row, idx t]
  simp only [e]
  pointwise [k0_pay5, k0_pay3, spec, lin]
  simp only [hidB, roundB, wB, h, ↓reduceDIte]

theorem final7 (c : Dev nD) : (dats m 0 c).arrAt 7 (cfgs 0).N
    = spec 1024 (by omega) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  idx_vars y
  have h : 1024 + y1.val < 3592 := by omega
  have e : ((View.whole main_v14_2).slice (win0_7.rect t)).emb (ix2 y0 y1) = ix2 (row t y0) y1 := by
    blk_ext [row, idx t]
  simp only [e]
  pointwise [k0_pay6, spec, lin]
  simp only [hidB, roundB, wB, h, ↓reduceDIte]

theorem final8 (c : Dev nD) : (dats m 0 c).arrAt 8 (cfgs 0).N
    = wide (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  idx_vars y
  have h : 1536 + y1.val < 3592 := by omega
  have e : ((View.whole main_v14_3).slice (win0_8.rect t)).emb (ix2 y0 y1) = ix2 (row t y0) y1 := by
    blk_ext [row, idx t]
  simp only [e]
  pointwise [k0_pay7, wide, lin]
  simp only [hidB, roundB, wB, h, ↓reduceDIte]

theorem final9 (c : Dev nD) : (dats m 0 c).arrAt 9 (cfgs 0).N
    = spec 2560 (by omega) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  idx_vars y
  have h : 2560 + y1.val < 3592 := by omega
  have e : ((View.whole main_v14_4).slice (win0_9.rect t)).emb (ix2 y0 y1) = ix2 (row t y0) y1 := by
    blk_ext [row, idx t]
  simp only [e]
  pointwise [k0_pay8, spec, lin]
  simp only [hidB, roundB, wB, h, ↓reduceDIte]

theorem final10 (c : Dev nD) : (dats m 0 c).arrAt 10 (cfgs 0).N
    = spec 3072 (by omega) (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; frame_out
  idx_vars y
  have h : 3072 + y1.val < 3592 := by omega
  have e : ((View.whole main_v14_5).slice (win0_10.rect t)).emb (ix2 y0 y1) = ix2 (row t y0) y1 := by
    blk_ext [row, idx t]
  simp only [e]
  pointwise [k0_pay9, spec, lin]
  simp only [hidB, roundB, wB, h, ↓reduceDIte]

theorem final5 (c : Dev nD) (hx : ∀ r k, ∃ q : ℝ, m ((c : Thread nD τ).loc main_arg0) (ix2 r k) = (q : EReal))
    (hn : ∀ k, ∃ q : ℝ, m ((c : Thread nD τ).loc main_arg1) (ix1 k) = (q : EReal))
    (hw : ∀ (k : Fin 1024) (j : Fin 512), ∃ q : ℝ, m ((c : Thread nD τ).loc main_arg2) (ix2 k ⟨j.val, by omega⟩) = (q : EReal)) :
    (dats m 0 c).arrAt 5 (cfgs 0).N
    = spec 0 (by omega) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  idx_vars y
  have h : y1.val < 3592 := by omega
  have e : ((View.whole main_v14_0).slice (win0_5.rect t)).emb (ix2 y0 y1) = ix2 (row t y0) y1 := by
    blk_ext [row, idx t]
  have hw' : ∀ k, rest (m ((c : Thread nD τ).loc main_arg2)) k y1 = 0 := fun k => Reals.sub_self_real _ (hw k y1)
  simp only [e]
  pointwise [k0_pay4, k0_pay3, spec, lin]
  simp only [hidB, roundB, wB, wrB, h, ↓reduceDIte, hid_sub _ _ _ _ hx hn, hw', zero_mul, mul_zero, Finset.sum_const_zero, add_zero]

theorem lane_in (j : Fin 128) (h : ¬ j.val < 4) (h' : j.val < 8) : IntOp.andi (IntOp.cmpi CmpIPredicate.sge (BitVec.ofNat 32 j) 4#32)
    (IntOp.cmpi CmpIPredicate.slt (BitVec.ofNat 32 j) 8#32) = 1#1 := by
  revert j; decide +kernel

theorem lane_lt (j : Fin 128) (h : j.val < 4) : IntOp.andi (IntOp.cmpi CmpIPredicate.sge (BitVec.ofNat 32 j) 4#32)
    (IntOp.cmpi CmpIPredicate.slt (BitVec.ofNat 32 j) 8#32) = 0#1 := by
  revert j; decide +kernel

theorem lane_ge (j : Fin 128) (h : ¬ j.val < 8) : IntOp.andi (IntOp.cmpi CmpIPredicate.sge (BitVec.ofNat 32 j) 4#32)
    (IntOp.cmpi CmpIPredicate.slt (BitVec.ofNat 32 j) 8#32) = 0#1 := by
  revert j; decide +kernel

theorem final11 (c : Dev nD) : (dats m 0 c).arrAt 11 (cfgs 0).N
    = gates (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 11 _ (by decide +kernel) fun t _ y => ?_
  blk_simp
  rw [after0_11]; frame_out
  idx_vars y
  have e : ((View.whole main_v14_6).slice (win0_11.rect t)).emb (ix2 y0 y1) = ix2 (row t y0) y1 := by
    blk_ext [row, idx t]
  simp only [e]
  pointwise [k0_pay1, k0_pay10, k0_pay11, k0_pay12, gates, lin]
  simp only [hidB, roundB, wB, bB]
  by_cases h : y1.val < 4
  · have h' : 3584 + y1.val < 3592 := by omega
    simp only [h, h', ↓reduceDIte, lane_lt _ h, select_zero]
  · by_cases h8 : y1.val < 8
    · have h' : 3584 + y1.val < 3592 := by omega
      simp only [h, h8, h', ↓reduceDIte, lane_in _ h h8, lsg_ker]
    · have h' : ¬ 3584 + y1.val < 3592 := by omega
      simp only [h, h8, h', ↓reduceDIte, lane_ge _ h8, select_zero, mul_zero, Finset.sum_const_zero, zero_add]

set_option maxHeartbeats 4000000 in
theorem tie : Cert.algebraic_ProjEIdeal_ProjERefIdeal_pre_split_finite := by
  intro m g m' g' hpre hag
  refine ⟨fun c => (dats m 0 c).arrAt 5 cfg0.N, fun c => (dats m 0 c).arrAt 6 cfg0.N,
    fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, Value.run_blocks m g,
    (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_,
      (h c).2.2.2.2.2.2.2⟩) (Cert.ProjERefIdeal.Value.run m' g')⟩
  · have hx : ∀ (r : Fin 16384) (k : Fin 1024), ∃ q : ℝ, m ((c : Thread nD τ).loc main_arg0) (ix2 r k) = (q : EReal) := fun r k =>
      Reals.real_of_lt_inf _ (by
        have h := congrFun (hpre c).1 (ix2 r k)
        pointwise [Cert.Pre_split_finite.fn] at h
        exact h)
    have hn : ∀ k : Fin 1024, ∃ q : ℝ, m ((c : Thread nD τ).loc main_arg1) (ix1 k) = (q : EReal) := fun k =>
      Reals.real_of_lt_inf _ (by
        have h := congrFun (hpre c).2.1 (ix1 k)
        pointwise [Cert.Pre_split_finite.fn] at h
        exact h)
    have hw : ∀ (k : Fin 1024) (j : Fin 512), ∃ q : ℝ, m ((c : Thread nD τ).loc main_arg2) (ix2 k ⟨j.val, by omega⟩) = (q : EReal) :=
      fun k j => Reals.real_of_lt_inf _ (by
        have h := congrFun (hpre c).2.2 (ix2 k j)
        pointwise [Cert.Pre_split_finite.fn] at h
        exact h)
    rw [(hag c).1, (hag c).2.1, (hag c).2.2.1]
    refine Eq.trans ?_ (final5 m c hx hn hw).symm
    funext i
    idx_vars i
    pointwise [spec, lin, hid]
  · rw [(hag c).1, (hag c).2.1, (hag c).2.2.1]
    refine Eq.trans ?_ (final6 m c).symm
    funext i
    idx_vars i
    pointwise [spec, lin, hid]
  · rw [(hag c).1, (hag c).2.1, (hag c).2.2.1]
    refine Eq.trans ?_ (final7 m c).symm
    funext i
    idx_vars i
    pointwise [spec, lin, hid]
  · rw [(hag c).1, (hag c).2.1, (hag c).2.2.1]
    refine Eq.trans ?_ (final8 m c).symm
    funext i
    idx_vars i
    pointwise [wide, lin, hid]
  · rw [(hag c).1, (hag c).2.1, (hag c).2.2.1]
    refine Eq.trans ?_ (final9 m c).symm
    funext i
    idx_vars i
    pointwise [spec, lin, hid]
  · rw [(hag c).1, (hag c).2.1, (hag c).2.2.1]
    refine Eq.trans ?_ (final10 m c).symm
    funext i
    idx_vars i
    pointwise [spec, lin, hid]
  · unfold Cert.ProjERefIdeal.Value.res_main_v30
    rw [(hag c).1, (hag c).2.1, (hag c).2.2.1, (hag c).2.2.2.1, (hag c).2.2.2.2]
    refine Eq.trans ?_ (final11 m c).symm
    generalize hz : Host.dotGeneral (F := Ideal) Cert.ProjERefIdeal.dot_S16384x1024_S1024x3592_S16384x3592_1_0_0_1_n_n _ _ _ = z
    have hz' : ∀ (r : Fin 16384) (j : Fin 3592), z (ix2 r j) = lin (m ((c : Thread nD τ).loc main_arg0))
        (m ((c : Thread nD τ).loc main_arg1)) (m ((c : Thread nD τ).loc main_arg2)) r j := by
      intro r j
      rw [← hz]
      pointwise [lin, hid]
    funext i
    idx_vars i
    pointwise [gates]
    simp only [hz', lsg_ref, sitofp_zero]
    by_cases h4 : i1.val < 4
    · have h8 : i1.val < 8 := by omega
      simp only [h4, h8, ↓reduceDIte]
    · by_cases h8 : i1.val < 8
      · have e : (⟨3588 + (i1.val - 4), by omega⟩ : Fin 3592) = ⟨3584 + i1.val, by omega⟩ := Fin.ext (by dsimp only; omega)
        simp only [h4, h8, ↓reduceDIte, e]
      · simp only [h4, h8, ↓reduceDIte]

end Cert.ProjEIdeal.Hand

end
-- ==== Proof.ProjES.lean ====
/- The first even layer's input projection of the sample's rows: each of the kernel's seven result arrays is the reference's, at
   every index, where what the split first segment reads is finite. -/
module

public import proofs.«01_k».proof.Proof.Gen.ProjESIdeal.Value
public import proofs.«01_k».proof.Proof.Gen.ProjESRefIdeal.Run
public import proofs.«01_k».proof.Proof.Gen.Pre_sample_split_finite
public import proofs.«01_k».proof.Defs
public import proofs.«01_k».proof.Proof.Gates
public import proofs.«01_k».proof.Proof.Reals
public import Idealize.ShloMosaic.Lib.Pipeline.ValueKit

@[expose] public section

set_option maxRecDepth 16384

noncomputable section

namespace Cert.ProjESIdeal.Hand

open Cert.Gates Cert.ProjESIdeal Cert.ProjESIdeal.Gen Idealize.ShloMosaic Idealize.ShloMosaic.TcCoe Idealize.SL.Sem
open Idealize.ShloMosaic.Pipeline (Dat)

variable (m : (ℓ : Loc nD τ sig) → Buf (Elt Ideal) ℓ)

/-- Row `r` scaled by its root mean square and by the norm's weight. -/
def hid (x : FVec Ideal S32x1024 .f32) (nw : FVec Ideal S1024 .f32) (r : Fin 32) (k : Fin 1024) : EReal :=
  x (ix2 r k) * Ideal.rsqrt (Ideal.div (∑ k : Fin 1024, x (ix2 r k) * x (ix2 r k)) (Ideal.ofBits .f32 0x44800000#32)
    + Ideal.ofBits .f32 0x358637BD#32) * nw (ix1 k)

theorem hid_sub (x : FVec Ideal S32x1024 .f32) (nw : FVec Ideal S1024 .f32) (r : Fin 32) (k : Fin 1024)
    (hx : ∀ r k, ∃ q : ℝ, x (ix2 r k) = q) (hn : ∀ k, ∃ q : ℝ, nw (ix1 k) = q) : hid x nw r k - hid x nw r k = 0 := by
  refine Reals.sub_self_real _ ?_
  obtain ⟨a, ha⟩ := hx r k
  obtain ⟨b, hb⟩ := hn k
  obtain ⟨d, hd⟩ := Reals.norm_real (fun k => x (ix2 r k)) (hx r)
  refine ⟨a * d * b, ?_⟩
  rw [hid, hd, ha, hb, EReal.coe_mul, EReal.coe_mul]

/-- One element of the normalised rows' product with the weights. -/
def lin (x : FVec Ideal S32x1024 .f32) (nw : FVec Ideal S1024 .f32) (w : FVec Ideal S1024x3592 .f32) (r : Fin 32)
    (j : Fin 3592) : EReal :=
  ∑ k : Fin 1024, hid x nw r k * w (ix2 k j)

/-- The projection's 512 columns from `o` on. -/
def spec (o : ℕ) (ho : o + 512 ≤ 3592) (x : FVec Ideal S32x1024 .f32) (nw : FVec Ideal S1024 .f32)
    (w : FVec Ideal S1024x3592 .f32) : FVec Ideal S32x512 .f32 := fun i =>
  lin x nw w (i 0) ⟨o + (i 1).val, by have : (i 1).val < 512 := (i 1).isLt; omega⟩

/-- The projection's 1024 columns from 1536 on. -/
def wide (x : FVec Ideal S32x1024 .f32) (nw : FVec Ideal S1024 .f32)
    (w : FVec Ideal S1024x3592 .f32) : FVec Ideal S32x1024 .f32 := fun i =>
  lin x nw w (i 0) ⟨1536 + (i 1).val, by have : (i 1).val < 1024 := (i 1).isLt; omega⟩

/-- Four input gates, the logarithms of four forget gates, and zero in the lanes no head owns. -/
def gates (x : FVec Ideal S32x1024 .f32) (nw : FVec Ideal S1024 .f32) (w : FVec Ideal S1024x3592 .f32)
    (bi bf : FVec Ideal S4 .f32) : FVec Ideal S32x128 .f32 := fun i =>
  if h : (i 1).val < 4 then lin x nw w (i 0) ⟨3584 + (i 1).val, by omega⟩ + bi (ix1 ⟨(i 1).val, h⟩)
  else if h : (i 1).val < 8 then lsg (lin x nw w (i 0) ⟨3584 + (i 1).val, by omega⟩ + bf (ix1 ⟨(i 1).val - 4, by omega⟩))
  else 0

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

theorem nwAt (c : Dev nD) (k : Fin 1024) : V m c main_v13 (ix2 0 k) = m ((c : Thread nD τ).loc main_arg1) (ix1 k) := by
  simp only [V, hostOps0, hostOps0_1, hostOps0_2, hostOps0_3, hostOps0_4, List.flatten_cons, List.flatten_nil,
    List.append_nil, List.cons_append, List.nil_append]
  entry_read
  pointwise

/-- The weights with the gate columns padded to whole lanes. -/
def wPad (w : FVec Ideal S1024x3592 .f32) : FVec Ideal S1024x3712 .bf16 :=
  truncf .bf16 (concatenate S1024x3712 1 [⟨S1024x3584, extractStridedSlice S1024x3584 ![0, 0] w slices_S1024x3592_S1024x3584_0_0⟩,
    ⟨S1024x128, pad (α := Ideal .f32) S1024x128 ![0, 0] ![0, 120] ![0, 0]
      (extractStridedSlice S1024x8 ![0, 3584] w slices_S1024x3592_S1024x8_0_3584)
      (sitofp (F := Ideal) .f32 (constantI S_ 32 0#32)) pads_S1024x8_S1024x128_000_01200 h_S_⟩]
    concatenates_S1024x3584_S1024x128_S1024x3712_d1 : FVec Ideal S1024x3712 .f32) bitsLt_bf16_f32

/-- What rounding the first segment's weights leaves out. -/
def wRest (w : FVec Ideal S1024x3592 .f32) : FVec Ideal S1024x512 .bf16 :=
  truncf .bf16 (subf (extractStridedSlice (α := Ideal .f32) S1024x512 ![0, 0] w slices_S1024x3592_S1024x512_0_0 : FVec Ideal S1024x512 .f32)
    (extf .f32 (truncf .bf16 (extractStridedSlice (α := Ideal .f32) S1024x512 ![0, 0] w slices_S1024x3592_S1024x512_0_0 : FVec Ideal S1024x512 .f32)
      bitsLt_bf16_f32) bitsLt_bf16_f32)) bitsLt_bf16_f32

/-- The gate biases padded to whole lanes. -/
def bPad (bi bf : FVec Ideal S4 .f32) : FVec Ideal S1x128 .f32 :=
  pad (α := Ideal .f32) S1x128 ![0, 0] ![0, 120] ![0, 0] (shapeCast S1x8 (concatenate S8 0 [⟨S4, bi⟩, ⟨S4, bf⟩]
      concatenates_S4_S4_S8_d0) shapeCasts_S8_S1x8)
    (sitofp (F := Ideal) .f32 (constantI S_ 32 0#32)) pads_S1x8_S1x128_000_01200 h_S_

theorem wV (c : Dev nD) : V m c main_v4 = wPad (m ((c : Thread nD τ).loc main_arg2)) := by
  simp only [V, hostOps0, hostOps0_1, hostOps0_2, hostOps0_3, hostOps0_4, List.flatten_cons, List.flatten_nil,
    List.append_nil, List.cons_append, List.nil_append]
  entry_read
  rfl

theorem wAt (c : Dev nD) (k : Fin 1024) (j : Fin 3712) : V m c main_v4 (ix2 k j)
    = if h : j.val < 3592 then m ((c : Thread nD τ).loc main_arg2) (ix2 k ⟨j.val, h⟩) else (0 : EReal) := by
  rw [wV]
  pointwise [wPad]
  simp only [sitofp_zero]
  by_cases h : j.val < 3584
  · rw [dif_pos h, dif_pos (by omega)]
  · rw [dif_neg h]
    by_cases h' : j.val < 3592
    · rw [dif_pos h', dif_pos (by omega)]
      exact congrArg _ (congrArg _ (Fin.ext (by dsimp only; omega)))
    · rw [dif_neg h', dif_neg (by omega)]

/-- One element of it. -/
def rest (w : FVec Ideal S1024x3592 .f32) (k : Fin 1024) (j : Fin 512) : EReal :=
  w (ix2 k ⟨j.val, by omega⟩) - w (ix2 k ⟨j.val, by omega⟩)

theorem wrV (c : Dev nD) : V m c main_v9 = wRest (m ((c : Thread nD τ).loc main_arg2)) := by
  simp only [V, hostOps0, hostOps0_1, hostOps0_2, hostOps0_3, hostOps0_4, List.flatten_cons, List.flatten_nil,
    List.append_nil, List.cons_append, List.nil_append]
  entry_read
  rfl

theorem wrAt (c : Dev nD) (k : Fin 1024) (j : Fin 512) : V m c main_v9 (ix2 k j)
    = rest (m ((c : Thread nD τ).loc main_arg2)) k j := by
  rw [wrV]
  pointwise [wRest, rest]

theorem bV (c : Dev nD) : V m c main_v12 = bPad (m ((c : Thread nD τ).loc main_arg3)) (m ((c : Thread nD τ).loc main_arg4)) := by
  simp only [V, hostOps0, hostOps0_1, hostOps0_2, hostOps0_3, hostOps0_4, List.flatten_cons, List.flatten_nil,
    List.append_nil, List.cons_append, List.nil_append]
  entry_read
  rfl

theorem bAt (c : Dev nD) (j : Fin 128) : V m c main_v12 (ix2 0 j)
    = if h : j.val < 4 then m ((c : Thread nD τ).loc main_arg3) (ix1 ⟨j.val, h⟩)
      else if h : j.val < 8 then m ((c : Thread nD τ).loc main_arg4) (ix1 ⟨j.val - 4, by omega⟩) else (0 : EReal) := by
  rw [bV]
  pointwise [bPad]
  simp only [sitofp_zero]
  by_cases h : j.val < 4
  · rw [dif_pos h, dif_pos (by omega), dif_pos h]
  · by_cases h' : j.val < 8
    · rw [dif_neg h, dif_pos h', dif_pos h', dif_neg h]
    · rw [dif_neg h, dif_neg h', dif_neg h']

theorem nwB (c : Dev nD) (t : Fin cfg0.N) (k : Fin 1024) :
    iblk m c 1 t (ix2 0 k) = m ((c : Thread nD τ).loc main_arg1) (ix1 k) := by
  have e : (win0_1.blk t).view.emb (ix2 0 k) = ix2 0 k := by blk_ext [idx t]
  exact (congrArg (V m c main_v13) e).trans (nwAt m c k)

theorem wB (c : Dev nD) (t : Fin cfg0.N) (k : Fin 1024) (j : Fin 3712) : iblk m c 2 t (ix2 k j)
    = if h : j.val < 3592 then m ((c : Thread nD τ).loc main_arg2) (ix2 k ⟨j.val, h⟩) else (0 : EReal) := by
  have e : (win0_2.blk t).view.emb (ix2 k j) = ix2 k j := by blk_ext [idx t]
  exact (congrArg (V m c main_v4) e).trans (wAt m c k j)

theorem wrB (c : Dev nD) (t : Fin cfg0.N) (k : Fin 1024) (j : Fin 512) : iblk m c 3 t (ix2 k j)
    = rest (m ((c : Thread nD τ).loc main_arg2)) k j := by
  have e : (win0_3.blk t).view.emb (ix2 k j) = ix2 k j := by blk_ext [idx t]
  exact (congrArg (V m c main_v9) e).trans (wrAt m c k j)

theorem bB (c : Dev nD) (t : Fin cfg0.N) (j : Fin 128) : iblk m c 4 t (ix2 0 j)
    = if h : j.val < 4 then m ((c : Thread nD τ).loc main_arg3) (ix1 ⟨j.val, h⟩)
      else if h : j.val < 8 then m ((c : Thread nD τ).loc main_arg4) (ix1 ⟨j.val - 4, by omega⟩) else (0 : EReal) := by
  have e : (win0_4.blk t).view.emb (ix2 0 j) = ix2 0 j := by blk_ext [idx t]
  exact (congrArg (V m c main_v12) e).trans (bAt m c j)

/-- The array's row behind row `y` of the block at point `t`. -/
def row (t : Fin cfg0.N) (y : Fin 32) : Fin 32 := ⟨32 * t.val + y.val, by have : t.val < 1 := t.isLt; omega⟩

theorem hidB (c : Dev nD) (t : Fin cfg0.N) (y : Fin 32) (k : Fin 1024) : k0_pay2 (iblk m c 0 t) (iblk m c 1 t) (ix2 y k)
    = hid (m ((c : Thread nD τ).loc main_arg0)) (m ((c : Thread nD τ).loc main_arg1)) (row t y) k := by
  pointwise [k0_pay2, hid, row]
  simp only [nwB]
  blk_point [iblk, V, idx t]

theorem hidL (c : Dev nD) (t : Fin cfg0.N) (y : Fin 32) (k : Fin 1024) : k0_pay2 (View.ld (iblk m c 0 t) r0_0) (View.ld (iblk m c 1 t) r0_1) (ix2 y k)
    = hid (m ((c : Thread nD τ).loc main_arg0)) (m ((c : Thread nD τ).loc main_arg1)) (row t y) k := by
  pointwise [k0_pay2, hid, row]
  simp only [nwB]
  blk_point [iblk, V, idx t]

theorem roundB (c : Dev nD) (t : Fin cfg0.N) (y : Fin 32) (k : Fin 1024) (a : Vec Ideal S1024x3712 .bf16)
    (b : Vec Ideal S1024x512 .bf16) (d : Vec Ideal S1x128 .f32) :
    k0_pay13 (iblk m c 0 t) (iblk m c 1 t) a b d (ix2 y k)
      = hid (m ((c : Thread nD τ).loc main_arg0)) (m ((c : Thread nD τ).loc main_arg1)) (row t y) k := by
  pointwise [k0_pay13, k0_pay3]
  exact hidL m c t y k

theorem final6 (c : Dev nD) : (dats m 0 c).arrAt 6 (cfgs 0).N
    = spec 512 (by omega) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  idx_vars y
  have h : 512 + y1.val < 3592 := by omega
  have e : ((View.whole main_v14_1).slice (win0_6.rect t)).emb (ix2 y0 y1) = ix2 (row t y0) y1 := by
    blk_ext [row, idx t]
  simp only [e]
  pointwise [k0_pay5, k0_pay3, spec, lin]
  simp only [hidB, roundB, wB, h, ↓reduceDIte]

theorem final7 (c : Dev nD) : (dats m 0 c).arrAt 7 (cfgs 0).N
    = spec 1024 (by omega) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  idx_vars y
  have h : 1024 + y1.val < 3592 := by omega
  have e : ((View.whole main_v14_2).slice (win0_7.rect t)).emb (ix2 y0 y1) = ix2 (row t y0) y1 := by
    blk_ext [row, idx t]
  simp only [e]
  pointwise [k0_pay6, spec, lin]
  simp only [hidB, roundB, wB, h, ↓reduceDIte]

theorem final8 (c : Dev nD) : (dats m 0 c).arrAt 8 (cfgs 0).N
    = wide (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  idx_vars y
  have h : 1536 + y1.val < 3592 := by omega
  have e : ((View.whole main_v14_3).slice (win0_8.rect t)).emb (ix2 y0 y1) = ix2 (row t y0) y1 := by
    blk_ext [row, idx t]
  simp only [e]
  pointwise [k0_pay7, wide, lin]
  simp only [hidB, roundB, wB, h, ↓reduceDIte]

theorem final9 (c : Dev nD) : (dats m 0 c).arrAt 9 (cfgs 0).N
    = spec 2560 (by omega) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  idx_vars y
  have h : 2560 + y1.val < 3592 := by omega
  have e : ((View.whole main_v14_4).slice (win0_9.rect t)).emb (ix2 y0 y1) = ix2 (row t y0) y1 := by
    blk_ext [row, idx t]
  simp only [e]
  pointwise [k0_pay8, spec, lin]
  simp only [hidB, roundB, wB, h, ↓reduceDIte]

theorem final10 (c : Dev nD) : (dats m 0 c).arrAt 10 (cfgs 0).N
    = spec 3072 (by omega) (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; frame_out
  idx_vars y
  have h : 3072 + y1.val < 3592 := by omega
  have e : ((View.whole main_v14_5).slice (win0_10.rect t)).emb (ix2 y0 y1) = ix2 (row t y0) y1 := by
    blk_ext [row, idx t]
  simp only [e]
  pointwise [k0_pay9, spec, lin]
  simp only [hidB, roundB, wB, h, ↓reduceDIte]

theorem final5 (c : Dev nD) (hx : ∀ r k, ∃ q : ℝ, m ((c : Thread nD τ).loc main_arg0) (ix2 r k) = (q : EReal))
    (hn : ∀ k, ∃ q : ℝ, m ((c : Thread nD τ).loc main_arg1) (ix1 k) = (q : EReal))
    (hw : ∀ (k : Fin 1024) (j : Fin 512), ∃ q : ℝ, m ((c : Thread nD τ).loc main_arg2) (ix2 k ⟨j.val, by omega⟩) = (q : EReal)) :
    (dats m 0 c).arrAt 5 (cfgs 0).N
    = spec 0 (by omega) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  idx_vars y
  have h : y1.val < 3592 := by omega
  have e : ((View.whole main_v14_0).slice (win0_5.rect t)).emb (ix2 y0 y1) = ix2 (row t y0) y1 := by
    blk_ext [row, idx t]
  have hw' : ∀ k, rest (m ((c : Thread nD τ).loc main_arg2)) k y1 = 0 := fun k => Reals.sub_self_real _ (hw k y1)
  simp only [e]
  pointwise [k0_pay4, k0_pay3, spec, lin]
  simp only [hidB, roundB, wB, wrB, h, ↓reduceDIte, hid_sub _ _ _ _ hx hn, hw', zero_mul, mul_zero, Finset.sum_const_zero, add_zero]

theorem lane_in (j : Fin 128) (h : ¬ j.val < 4) (h' : j.val < 8) : IntOp.andi (IntOp.cmpi CmpIPredicate.sge (BitVec.ofNat 32 j) 4#32)
    (IntOp.cmpi CmpIPredicate.slt (BitVec.ofNat 32 j) 8#32) = 1#1 := by
  revert j; decide +kernel

theorem lane_lt (j : Fin 128) (h : j.val < 4) : IntOp.andi (IntOp.cmpi CmpIPredicate.sge (BitVec.ofNat 32 j) 4#32)
    (IntOp.cmpi CmpIPredicate.slt (BitVec.ofNat 32 j) 8#32) = 0#1 := by
  revert j; decide +kernel

theorem lane_ge (j : Fin 128) (h : ¬ j.val < 8) : IntOp.andi (IntOp.cmpi CmpIPredicate.sge (BitVec.ofNat 32 j) 4#32)
    (IntOp.cmpi CmpIPredicate.slt (BitVec.ofNat 32 j) 8#32) = 0#1 := by
  revert j; decide +kernel

theorem final11 (c : Dev nD) : (dats m 0 c).arrAt 11 (cfgs 0).N
    = gates (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 11 _ (by decide +kernel) fun t _ y => ?_
  blk_simp
  rw [after0_11]; frame_out
  idx_vars y
  have e : ((View.whole main_v14_6).slice (win0_11.rect t)).emb (ix2 y0 y1) = ix2 (row t y0) y1 := by
    blk_ext [row, idx t]
  simp only [e]
  pointwise [k0_pay1, k0_pay10, k0_pay11, k0_pay12, gates, lin]
  simp only [hidB, roundB, wB, bB]
  by_cases h : y1.val < 4
  · have h' : 3584 + y1.val < 3592 := by omega
    simp only [h, h', ↓reduceDIte, lane_lt _ h, select_zero]
  · by_cases h8 : y1.val < 8
    · have h' : 3584 + y1.val < 3592 := by omega
      simp only [h, h8, h', ↓reduceDIte, lane_in _ h h8, lsg_ker]
    · have h' : ¬ 3584 + y1.val < 3592 := by omega
      simp only [h, h8, h', ↓reduceDIte, lane_ge _ h8, select_zero, mul_zero, Finset.sum_const_zero, zero_add]

set_option maxHeartbeats 4000000 in
theorem tie : Cert.algebraic_ProjESIdeal_ProjESRefIdeal_pre_sample_split_finite := by
  intro m g m' g' hpre hag
  refine ⟨fun c => (dats m 0 c).arrAt 5 cfg0.N, fun c => (dats m 0 c).arrAt 6 cfg0.N,
    fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, Value.run_blocks m g,
    (θ_run _ _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_,
      (h c).2.2.2.2.2.2.2⟩) (Cert.ProjESRefIdeal.Value.run m' g')⟩
  · have hx : ∀ (r : Fin 32) (k : Fin 1024), ∃ q : ℝ, m ((c : Thread nD τ).loc main_arg0) (ix2 r k) = (q : EReal) := fun r k =>
      Reals.real_of_lt_inf _ (by
        have h := congrFun (hpre c).1 (ix2 r k)
        pointwise [Cert.Pre_sample_split_finite.fn] at h
        exact h)
    have hn : ∀ k : Fin 1024, ∃ q : ℝ, m ((c : Thread nD τ).loc main_arg1) (ix1 k) = (q : EReal) := fun k =>
      Reals.real_of_lt_inf _ (by
        have h := congrFun (hpre c).2.1 (ix1 k)
        pointwise [Cert.Pre_sample_split_finite.fn] at h
        exact h)
    have hw : ∀ (k : Fin 1024) (j : Fin 512), ∃ q : ℝ, m ((c : Thread nD τ).loc main_arg2) (ix2 k ⟨j.val, by omega⟩) = (q : EReal) :=
      fun k j => Reals.real_of_lt_inf _ (by
        have h := congrFun (hpre c).2.2 (ix2 k j)
        pointwise [Cert.Pre_sample_split_finite.fn] at h
        exact h)
    rw [(hag c).1, (hag c).2.1, (hag c).2.2.1]
    refine Eq.trans ?_ (final5 m c hx hn hw).symm
    funext i
    idx_vars i
    pointwise [spec, lin, hid]
  · rw [(hag c).1, (hag c).2.1, (hag c).2.2.1]
    refine Eq.trans ?_ (final6 m c).symm
    funext i
    idx_vars i
    pointwise [spec, lin, hid]
  · rw [(hag c).1, (hag c).2.1, (hag c).2.2.1]
    refine Eq.trans ?_ (final7 m c).symm
    funext i
    idx_vars i
    pointwise [spec, lin, hid]
  · rw [(hag c).1, (hag c).2.1, (hag c).2.2.1]
    refine Eq.trans ?_ (final8 m c).symm
    funext i
    idx_vars i
    pointwise [wide, lin, hid]
  · rw [(hag c).1, (hag c).2.1, (hag c).2.2.1]
    refine Eq.trans ?_ (final9 m c).symm
    funext i
    idx_vars i
    pointwise [spec, lin, hid]
  · rw [(hag c).1, (hag c).2.1, (hag c).2.2.1]
    refine Eq.trans ?_ (final10 m c).symm
    funext i
    idx_vars i
    pointwise [spec, lin, hid]
  · unfold Cert.ProjESRefIdeal.Value.res_main_v30
    rw [(hag c).1, (hag c).2.1, (hag c).2.2.1, (hag c).2.2.2.1, (hag c).2.2.2.2]
    refine Eq.trans ?_ (final11 m c).symm
    generalize hz : Host.dotGeneral (F := Ideal) Cert.ProjESRefIdeal.dot_S32x1024_S1024x3592_S32x3592_1_0_0_1_n_n _ _ _ = z
    have hz' : ∀ (r : Fin 32) (j : Fin 3592), z (ix2 r j) = lin (m ((c : Thread nD τ).loc main_arg0))
        (m ((c : Thread nD τ).loc main_arg1)) (m ((c : Thread nD τ).loc main_arg2)) r j := by
      intro r j
      rw [← hz]
      pointwise [lin, hid]
    funext i
    idx_vars i
    pointwise [gates]
    simp only [hz', lsg_ref, sitofp_zero]
    by_cases h4 : i1.val < 4
    · have h8 : i1.val < 8 := by omega
      simp only [h4, h8, ↓reduceDIte]
    · by_cases h8 : i1.val < 8
      · have e : (⟨3588 + (i1.val - 4), by omega⟩ : Fin 3592) = ⟨3584 + i1.val, by omega⟩ := Fin.ext (by dsimp only; omega)
        simp only [h4, h8, ↓reduceDIte, e]
      · simp only [h4, h8, ↓reduceDIte]

end Cert.ProjESIdeal.Hand

end
-- ==== Proof.ProjO.lean ====
/- The odd layers' input projection: each of the kernel's four result arrays is the reference's, at every index. -/
module

public import proofs.«01_k».proof.Proof.Gen.ProjOIdeal.Value
public import proofs.«01_k».proof.Proof.Gen.ProjORefIdeal.Run
public import proofs.«01_k».proof.Defs
public import proofs.«01_k».proof.Proof.Gates
public import Idealize.ShloMosaic.Lib.Pipeline.ValueKit

@[expose] public section

set_option maxRecDepth 16384

noncomputable section

namespace Cert.ProjOIdeal.Hand

open Cert.Gates Cert.ProjOIdeal Cert.ProjOIdeal.Gen Idealize.ShloMosaic Idealize.ShloMosaic.TcCoe Idealize.SL.Sem
open Idealize.ShloMosaic.Pipeline (Dat)

variable (m : (ℓ : Loc nD τ sig) → Buf (Elt Ideal) ℓ)

/-- A row scaled by its root mean square and by the norm's weight. -/
def hid (x : Fin 1024 → EReal) (nw : FVec Ideal S1024 .f32) (k : Fin 1024) : EReal :=
  x k * Ideal.rsqrt (Ideal.div (∑ k : Fin 1024, x k * x k) (Ideal.ofBits .f32 0x44800000#32)
    + Ideal.ofBits .f32 0x358637BD#32) * nw (ix1 k)

/-- One element of the normalised row's product with the weights. -/
def lin (x : Fin 1024 → EReal) (nw : FVec Ideal S1024 .f32) (w : FVec Ideal S1024x3088 .f32) (j : Fin 3088) : EReal :=
  ∑ k : Fin 1024, hid x nw k * w (ix2 k j)

/-- The projection's columns from `o` on. -/
def spec (o : ℕ) (ho : o + 1024 ≤ 3088) (x : FVec Ideal S16384x1024 .f32) (nw : FVec Ideal S1024 .f32)
    (w : FVec Ideal S1024x3088 .f32) : FVec Ideal S16384x1024 .f32 := fun i =>
  lin (fun k => x (ix2 (i 0) k)) nw w ⟨o + (i 1).val, by have : (i 1).val < 1024 := (i 1).isLt; omega⟩

/-- The logarithm of each head's forget gate, and zero in the lanes no head owns. -/
def gates (x : FVec Ideal S16384x1024 .f32) (nw : FVec Ideal S1024 .f32) (w : FVec Ideal S1024x3088 .f32)
    (b : FVec Ideal S16 .f32) : FVec Ideal S16384x128 .f32 := fun i =>
  if h : (i 1).val < 16 then lsg (lin (fun k => x (ix2 (i 0) k)) nw w ⟨3072 + (i 1).val, by omega⟩ + b (ix1 ⟨(i 1).val, h⟩)) else 0

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

theorem nwAt (c : Dev nD) (k : Fin 1024) : V m c main_v7 (ix2 0 k) = m ((c : Thread nD τ).loc main_arg1) (ix1 k) := by
  simp only [V, hostOps0, hostOps0_1, hostOps0_2, hostOps0_3, hostOps0_4, List.flatten_cons, List.flatten_nil,
    List.append_nil, List.cons_append, List.nil_append]
  entry_read
  pointwise

/-- The weights with the gate columns padded to whole lanes. -/
def wPad (w : FVec Ideal S1024x3088 .f32) : FVec Ideal S1024x3200 .bf16 :=
  truncf .bf16 (concatenate S1024x3200 1 [⟨S1024x3072, extractStridedSlice S1024x3072 ![0, 0] w slices_S1024x3088_S1024x3072_0_0⟩,
    ⟨S1024x128, pad (α := Ideal .f32) S1024x128 ![0, 0] ![0, 112] ![0, 0]
      (extractStridedSlice S1024x16 ![0, 3072] w slices_S1024x3088_S1024x16_0_3072)
      (sitofp (F := Ideal) .f32 (constantI S_ 32 0#32)) pads_S1024x16_S1024x128_000_01120 h_S_⟩]
    concatenates_S1024x3072_S1024x128_S1024x3200_d1 : FVec Ideal S1024x3200 .f32) bitsLt_bf16_f32

/-- The gate biases padded to whole lanes. -/
def bPad (b : FVec Ideal S16 .f32) : FVec Ideal S1x128 .f32 :=
  pad (α := Ideal .f32) S1x128 ![0, 0] ![0, 112] ![0, 0] (shapeCast S1x16 b shapeCasts_S16_S1x16)
    (sitofp (F := Ideal) .f32 (constantI S_ 32 0#32)) pads_S1x16_S1x128_000_01120 h_S_

theorem wV (c : Dev nD) : V m c main_v4 = wPad (m ((c : Thread nD τ).loc main_arg2)) := by
  simp only [V, hostOps0, hostOps0_1, hostOps0_2, hostOps0_3, hostOps0_4, List.flatten_cons, List.flatten_nil,
    List.append_nil, List.cons_append, List.nil_append]
  entry_read
  rfl

theorem wPad_at (w : FVec Ideal S1024x3088 .f32) (k : Fin 1024) (j : Fin 3200) : wPad w (ix2 k j)
    = if h : j.val < 3088 then w (ix2 k ⟨j.val, h⟩) else (0 : EReal) := by
  pointwise [wPad]
  simp only [sitofp_zero]
  by_cases h : j.val < 3072
  · rw [dif_pos h, dif_pos (by omega)]
  · rw [dif_neg h]
    by_cases h' : j.val < 3088
    · rw [dif_pos h', dif_pos (by omega)]
      exact congrArg _ (congrArg _ (Fin.ext (by dsimp only; omega)))
    · rw [dif_neg h', dif_neg (by omega)]

theorem bV (c : Dev nD) : V m c main_v6 = bPad (m ((c : Thread nD τ).loc main_arg3)) := by
  simp only [V, hostOps0, hostOps0_1, hostOps0_2, hostOps0_3, hostOps0_4, List.flatten_cons, List.flatten_nil,
    List.append_nil, List.cons_append, List.nil_append]
  entry_read
  rfl

theorem bPad_at (b : FVec Ideal S16 .f32) (j : Fin 128) : bPad b (ix2 0 j)
    = if h : j.val < 16 then b (ix1 ⟨j.val, h⟩) else (0 : EReal) := by
  pointwise [bPad]
  simp only [sitofp_zero]

theorem nwB (c : Dev nD) (t : Fin cfg0.N) (k : Fin 1024) :
    iblk m c 1 t (ix2 0 k) = m ((c : Thread nD τ).loc main_arg1) (ix1 k) := by
  have e : (win0_1.blk t).view.emb (ix2 0 k) = ix2 0 k := by blk_ext [idx t]
  exact (congrArg (V m c main_v7) e).trans (nwAt m c k)

theorem wB (c : Dev nD) (t : Fin cfg0.N) (k : Fin 1024) (j : Fin 3200) : iblk m c 2 t (ix2 k j)
    = if h : j.val < 3088 then m ((c : Thread nD τ).loc main_arg2) (ix2 k ⟨j.val, h⟩) else (0 : EReal) := by
  have e : (win0_2.blk t).view.emb (ix2 k j) = ix2 k j := by blk_ext [idx t]
  exact (congrArg (V m c main_v4) e).trans (by rw [wV, wPad_at])

theorem bB (c : Dev nD) (t : Fin cfg0.N) (j : Fin 128) : iblk m c 3 t (ix2 0 j)
    = if h : j.val < 16 then m ((c : Thread nD τ).loc main_arg3) (ix1 ⟨j.val, h⟩) else (0 : EReal) := by
  have e : (win0_3.blk t).view.emb (ix2 0 j) = ix2 0 j := by blk_ext [idx t]
  exact (congrArg (V m c main_v6) e).trans (by rw [bV, bPad_at])

theorem final4 (c : Dev nD) : (dats m 0 c).arrAt 4 (cfgs 0).N
    = spec 0 (by omega) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]; frame_out
  idx_vars y
  have h : 0 + y1.val < 3088 := by omega
  have h' : y1.val < 3088 := by omega
  pointwise [k0_pay3, k0_pay2, spec, lin, hid]
  simp only [nwB, wB, h, h', ↓reduceDIte]
  blk_point [iblk, V, idx t]

theorem final5 (c : Dev nD) : (dats m 0 c).arrAt 5 (cfgs 0).N
    = spec 1024 (by omega) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]; frame_out
  idx_vars y
  have h : 1024 + y1.val < 3088 := by omega
  have h' : y1.val < 3088 := by omega
  pointwise [k0_pay4, k0_pay2, spec, lin, hid]
  simp only [nwB, wB, h, h', ↓reduceDIte]
  blk_point [iblk, V, idx t]

theorem final6 (c : Dev nD) : (dats m 0 c).arrAt 6 (cfgs 0).N
    = spec 2048 (by omega) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6]; frame_out
  idx_vars y
  have h : 2048 + y1.val < 3088 := by omega
  have h' : y1.val < 3088 := by omega
  pointwise [k0_pay5, k0_pay2, spec, lin, hid]
  simp only [nwB, wB, h, h', ↓reduceDIte]
  blk_point [iblk, V, idx t]

theorem lane_lt (j : Fin 128) (h : j.val < 16) : IntOp.andi (IntOp.cmpi CmpIPredicate.sge (BitVec.ofNat 32 j) 0#32)
    (IntOp.cmpi CmpIPredicate.slt (BitVec.ofNat 32 j) 16#32) = 1#1 := by
  revert j; decide +kernel

theorem lane_ge (j : Fin 128) (h : ¬ j.val < 16) : IntOp.andi (IntOp.cmpi CmpIPredicate.sge (BitVec.ofNat 32 j) 0#32)
    (IntOp.cmpi CmpIPredicate.slt (BitVec.ofNat 32 j) 16#32) = 0#1 := by
  revert j; decide +kernel

theorem final7 (c : Dev nD) : (dats m 0 c).arrAt 7 (cfgs 0).N
    = gates (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t _ y => ?_
  blk_simp
  rw [after0_7]; frame_out
  idx_vars y
  have ht : t.val < 64 := t.isLt
  have e : ((View.whole main_v8_3).slice (win0_7.rect t)).emb (ix2 y0 y1) = ix2 ⟨256 * t.val + y0.val, by omega⟩ y1 := by
    blk_ext [idx t]
  simp only [e]
  pointwise [k0_pay1, k0_pay6, k0_pay2, gates, lin, hid]
  simp only [nwB, wB, bB]
  by_cases h : y1.val < 16
  · have h' : 3072 + y1.val < 3088 := by omega
    simp only [h, h', ↓reduceDIte, lane_lt _ h, lsg_ker]
    blk_point [iblk, V, idx t]
  · have h' : ¬ 3072 + y1.val < 3088 := by omega
    simp only [h, h', ↓reduceDIte, lane_ge _ h, mul_zero, Finset.sum_const_zero, zero_add]
    rfl

theorem tie : Cert.algebraic_ProjOIdeal_ProjORefIdeal := by
  intro m g m' g' _ hag
  refine ⟨fun c => (dats m 0 c).arrAt 4 cfg0.N, fun c => (dats m 0 c).arrAt 5 cfg0.N,
    fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_,
      (h c).2.2.2.2⟩) (Cert.ProjORefIdeal.Value.run m' g')⟩
  · rw [(hag c).1, (hag c).2.1, (hag c).2.2.1]
    refine Eq.trans ?_ (final4 m c).symm
    funext i
    idx_vars i
    pointwise [spec, lin, hid]
  · rw [(hag c).1, (hag c).2.1, (hag c).2.2.1]
    refine Eq.trans ?_ (final5 m c).symm
    funext i
    idx_vars i
    pointwise [spec, lin, hid]
  · rw [(hag c).1, (hag c).2.1, (hag c).2.2.1]
    refine Eq.trans ?_ (final6 m c).symm
    funext i
    idx_vars i
    pointwise [spec, lin, hid]
  · unfold Cert.ProjORefIdeal.Value.res_main_v22
    rw [(hag c).1, (hag c).2.1, (hag c).2.2.1, (hag c).2.2.2]
    refine Eq.trans ?_ (final7 m c).symm
    funext i
    idx_vars i
    pointwise [gates, lin, hid]
    simp only [lsg_ref, sitofp_zero]

end Cert.ProjOIdeal.Hand

end
-- ==== Proof.OutE.lean ====
/- The even layers' output projection: the kernel's result array is the reference's, at every index. -/
module

public import proofs.«01_k».proof.Proof.Gen.OutEIdeal.Value
public import proofs.«01_k».proof.Proof.Gen.OutERefIdeal.Run
public import proofs.«01_k».proof.Defs
public import Idealize.ShloMosaic.Lib.Pipeline.ValueKit

@[expose] public section

set_option maxRecDepth 16384

noncomputable section

namespace Cert.OutEIdeal.Hand

open Cert.OutEIdeal Cert.OutEIdeal.Gen Idealize.ShloMosaic Idealize.ShloMosaic.TcCoe Idealize.SL.Sem
open Idealize.ShloMosaic.Pipeline (Dat)

variable (m : (ℓ : Loc nD τ sig) → Buf (Elt Ideal) ℓ)

/-- One element of the projection of the two halves, laid side by side, on `w`. -/
def prod (a b : FVec Ideal S16384x512 .f32) (w : FVec Ideal S1024x1024 .f32) (r : Fin 16384) (j : Fin 1024) : EReal :=
  (∑ k : Fin 512, a (ix2 r k) * w (ix2 ⟨k.val, by omega⟩ j)) + ∑ k : Fin 512, b (ix2 r k) * w (ix2 ⟨512 + k.val, by omega⟩ j)

/-- The residual plus the projection scaled by the root mean square of its row and by the weight. -/
def spec (a b : FVec Ideal S16384x512 .f32) (w : FVec Ideal S1024x1024 .f32) (x : FVec Ideal S16384x1024 .f32)
    (nw : FVec Ideal S1024 .f32) : FVec Ideal S16384x1024 .f32 := fun i =>
  x (ix2 (i 0) (i 1)) + prod a b w (i 0) (i 1)
    * Ideal.rsqrt (Ideal.div (∑ k : Fin 1024, prod a b w (i 0) k * prod a b w (i 0) k) (Ideal.ofBits .f32 0x44800000#32)
        + Ideal.ofBits .f32 0x358637BD#32) * nw (ix1 (i 1))

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] :=
  (by decide +kernel : ∀ t : Fin grid0.N, _)

theorem final (c : Dev nD) : (dats m 0 c).arrAt 6 (cfgs 0).N
    = spec (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 6 _ (by decide +kernel) fun t _ y => ?_
  blk_simp
  rw [after0_6]; frame_out
  idx_vars y
  pointwise [k0_pay1, spec, prod]
  blk_point [iblk, V, idx t]

theorem tie : Cert.algebraic_OutEIdeal_OutERefIdeal := by
  intro m g m' g' _ hag
  refine ⟨fun c => (dats m 0 c).arrAt 6 cfg0.N, Value.run_blocks m g,
    (θ_run _ _ _).mono (fun r h c => ⟨(h c).1.trans ?_, (h c).2⟩) (Cert.OutERefIdeal.Value.run m' g')⟩
  rw [(hag c).1, (hag c).2.1, (hag c).2.2.1, (hag c).2.2.2.1, (hag c).2.2.2.2]
  refine Eq.trans ?_ (final m c).symm
  funext i
  idx_vars i
  pointwise [spec, prod]

end Cert.OutEIdeal.Hand

end
-- ==== Proof.OutO.lean ====
/- The odd layers' output projection: the kernel's result array is the reference's, at every index. -/
module

public import proofs.«01_k».proof.Proof.Gen.OutOIdeal.Value
public import proofs.«01_k».proof.Proof.Gen.OutORefIdeal.Run
public import proofs.«01_k».proof.Defs
public import Idealize.ShloMosaic.Lib.Pipeline.ValueKit

@[expose] public section

set_option maxRecDepth 16384

noncomputable section

namespace Cert.OutOIdeal.Hand

open Cert.OutOIdeal Cert.OutOIdeal.Gen Idealize.ShloMosaic Idealize.ShloMosaic.TcCoe Idealize.SL.Sem
open Idealize.ShloMosaic.Pipeline (Dat)

variable (m : (ℓ : Loc nD τ sig) → Buf (Elt Ideal) ℓ)

/-- One element of the projection `a · w`. -/
def prod (a : FVec Ideal S16384x1024 .f32) (w : FVec Ideal S1024x1024 .f32) (r : Fin 16384) (j : Fin 1024) : EReal :=
  ∑ k : Fin 1024, a (ix2 r k) * w (ix2 k j)

/-- The residual plus the projection scaled by the root mean square of its row and by the weight. -/
def spec (a : FVec Ideal S16384x1024 .f32) (w : FVec Ideal S1024x1024 .f32) (x : FVec Ideal S16384x1024 .f32)
    (nw : FVec Ideal S1024 .f32) : FVec Ideal S16384x1024 .f32 := fun i =>
  x (ix2 (i 0) (i 1)) + prod a w (i 0) (i 1)
    * Ideal.rsqrt (Ideal.div (∑ k : Fin 1024, prod a w (i 0) k * prod a w (i 0) k) (Ideal.ofBits .f32 0x44800000#32)
        + Ideal.ofBits .f32 0x358637BD#32) * nw (ix1 (i 1))

theorem idx : ∀ t : Fin cfg0.N, win0_0.index t = ![t.val, 0] ∧ win0_1.index t = ![0, 0] ∧ win0_2.index t = ![t.val, 0]
    ∧ win0_3.index t = ![0, 0] ∧ win0_4.index t = ![t.val, 0] :=
  (by decide +kernel : ∀ t : Fin grid0.N, _)

theorem final (c : Dev nD) : (dats m 0 c).arrAt 4 (cfgs 0).N
    = spec (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  idx_vars y
  pointwise [k0_pay1, spec, prod]
  blk_point [iblk, V, idx t]

theorem tie : Cert.algebraic_OutOIdeal_OutORefIdeal := by
  intro m g m' g' _ hag
  refine ⟨fun c => (dats m 0 c).arrAt 4 cfg0.N, Value.run_blocks m g,
    (θ_run _ _ _).mono (fun r h c => ⟨(h c).1.trans ?_, (h c).2⟩) (Cert.OutORefIdeal.Value.run m' g')⟩
  rw [(hag c).1, (hag c).2.1, (hag c).2.2.1, (hag c).2.2.2]
  refine Eq.trans ?_ (final m c).symm
  funext i
  idx_vars i
  pointwise [spec, prod]

end Cert.OutOIdeal.Hand

end
-- ==== Proof.FfnTap.lean ====
/- What the feed-forward kernel reads back from the scratch that holds 8 rows of the tile before and the 512 rows of its own. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.VecWindow

@[expose] public section

set_option maxRecDepth 16384

noncomputable section

namespace Cert.FfnIdeal.Hand

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- Row `r` of 520: row `r` of the 8 kept rows, or row `r - 8` of the tile's 512. -/
def up (p : Vec F S1x8x256 .f32) (u : Vec F S1x512x256 .f32) (r : ℕ) (c : Fin 256) : Elt F .f32 :=
  if r < 8 then p (ix3 0 ⟨r % 8, Nat.mod_lt _ (by omega)⟩ c) else u (ix3 0 ⟨(r - 8) % 512, Nat.mod_lt _ (by omega)⟩ c)

/-- The 512 rows that start `k` rows below the first kept one. -/
def win (p : Vec F S1x8x256 .f32) (u : Vec F S1x512x256 .f32) (k : ℕ) : Vec F S1x512x256 .f32 :=
  fun y => up p u (k + (y 1).val) (y 2)

/-- A load from one half of the scratch, after the tile's rows and the kept rows were stored there, reads those rows. -/
theorem readCov_rows (v : View sig .tc .vmem S2x520x256 .f32) (p : Vec F S1x8x256 .f32) (u : Vec F S1x512x256 .f32)
    (L : List (View.Piece (Elt F) S2x520x256 .f32)) (h k n : ℕ)
    (i1 : ∀ a, (![h, 0, 0] : Fin 3 → ℕ) a + (![1, 8, 256] : Fin 3 → ℕ) a ≤ S2x520x256.size a)
    (i2 : ∀ a, (![h, 8, 0] : Fin 3 → ℕ) a + (![1, 512, 256] : Fin 3 → ℕ) a ≤ S2x520x256.size a)
    (i3 : ∀ a, (![h, k, 0] : Fin 3 → ℕ) a + (![1, n, 256] : Fin 3 → ℕ) a ≤ S2x520x256.size a) :
    v.readCov (Val := Elt F) (⟨Rect.unit (s := S2x520x256) ![h, 0, 0] ![1, 8, 256] i1, p⟩
        :: ⟨Rect.unit (s := S2x520x256) ![h, 8, 0] ![1, 512, 256] i2, u⟩ :: L)
      (Rect.unit (s := S2x520x256) ![h, k, 0] ![1, n, 256] i3).toLoadRect
      = fun y => up p u (k + (y 1).val) (y 2) := by
  rw [View.readCov_eq_canon']
  funext y
  have y0 : (y 0).val = 0 := by have : (y 0).val < 1 := (y 0).isLt; omega
  have y1 : (y 1).val < n := (y 1).isLt
  have y2 : (y 2).val < 256 := (y 2).isLt
  have hk : k + n ≤ 520 := i3 1
  show View.canon _ _ = up p u (k + (y 1).val) (y 2)
  unfold up
  by_cases hr : k + (y 1).val < 8
  · rw [if_pos hr]
    have e : (Rect.unit (s := S2x520x256) ![h, k, 0] ![1, n, 256] i3).toLoadRect.idx y
        = (Rect.unit (s := S2x520x256) ![h, 0, 0] ![1, 8, 256] i1).emb (ix3 0 ⟨(k + (y 1).val) % 8, Nat.mod_lt _ (by omega)⟩ (y 2)) := by
      funext a; apply Fin.ext; fin_cases a
      · show h + 1 * (y 0).val = h + 1 * 0; omega
      · show k + 1 * (y 1).val = 0 + 1 * ((k + (y 1).val) % 8); omega
      · show 0 + 1 * (y 2).val = 0 + 1 * (y 2).val; omega
    rw [e, View.canon_cons_emb]
  · rw [if_neg hr, View.canon_cons_of_not_mem]
    · have e : (Rect.unit (s := S2x520x256) ![h, k, 0] ![1, n, 256] i3).toLoadRect.idx y
          = (Rect.unit (s := S2x520x256) ![h, 8, 0] ![1, 512, 256] i2).emb (ix3 0 ⟨(k + (y 1).val - 8) % 512, Nat.mod_lt _ (by omega)⟩ (y 2)) := by
        funext a; apply Fin.ext; fin_cases a
        · show h + 1 * (y 0).val = h + 1 * 0; omega
        · show k + 1 * (y 1).val = 8 + 1 * ((k + (y 1).val - 8) % 512); omega
        · show 0 + 1 * (y 2).val = 0 + 1 * (y 2).val; omega
      rw [e, View.canon_cons_emb]
    · rw [Rect.mem_set_unit]
      intro hall
      have h1 : k + 1 * (y 1).val < 0 + 8 := (hall 1).2
      omega

/-- The last eight of the 520 rows, and the last two. -/
def tailR (p : Vec F S1x8x256 .f32) (u : Vec F S1x512x256 .f32) : Vec F S1x8x256 .f32 := fun y => up p u (512 + (y 1).val) (y 2)
def lastR (p : Vec F S1x8x256 .f32) (u : Vec F S1x512x256 .f32) : Vec F S1x2x256 .f32 := fun y => up p u (518 + (y 1).val) (y 2)

section Loads
variable (v : View sig .tc .vmem S2x520x256 .f32) (p : Vec F S1x8x256 .f32) (u : Vec F S1x512x256 .f32)
  (L : List (View.Piece (Elt F) S2x520x256 .f32)) (h : ℕ)
  (i1 : ∀ a, (![h, 0, 0] : Fin 3 → ℕ) a + (![1, 8, 256] : Fin 3 → ℕ) a ≤ S2x520x256.size a)
  (i2 : ∀ a, (![h, 8, 0] : Fin 3 → ℕ) a + (![1, 512, 256] : Fin 3 → ℕ) a ≤ S2x520x256.size a)

theorem readCov_6 (i3 : ∀ a, (![h, 6, 0] : Fin 3 → ℕ) a + (![1, 512, 256] : Fin 3 → ℕ) a ≤ S2x520x256.size a) :
    v.readCov (Val := Elt F) (⟨Rect.unit (s := S2x520x256) ![h, 0, 0] ![1, 8, 256] i1, p⟩
        :: ⟨Rect.unit (s := S2x520x256) ![h, 8, 0] ![1, 512, 256] i2, u⟩ :: L)
      (Rect.unit (s := S2x520x256) ![h, 6, 0] ![1, 512, 256] i3).toLoadRect = win p u 6 :=
  readCov_rows v p u L h 6 512 i1 i2 i3

theorem readCov_7 (i3 : ∀ a, (![h, 7, 0] : Fin 3 → ℕ) a + (![1, 512, 256] : Fin 3 → ℕ) a ≤ S2x520x256.size a) :
    v.readCov (Val := Elt F) (⟨Rect.unit (s := S2x520x256) ![h, 0, 0] ![1, 8, 256] i1, p⟩
        :: ⟨Rect.unit (s := S2x520x256) ![h, 8, 0] ![1, 512, 256] i2, u⟩ :: L)
      (Rect.unit (s := S2x520x256) ![h, 7, 0] ![1, 512, 256] i3).toLoadRect = win p u 7 :=
  readCov_rows v p u L h 7 512 i1 i2 i3

theorem readCov_512 (i3 : ∀ a, (![h, 512, 0] : Fin 3 → ℕ) a + (![1, 8, 256] : Fin 3 → ℕ) a ≤ S2x520x256.size a) :
    v.readCov (Val := Elt F) (⟨Rect.unit (s := S2x520x256) ![h, 0, 0] ![1, 8, 256] i1, p⟩
        :: ⟨Rect.unit (s := S2x520x256) ![h, 8, 0] ![1, 512, 256] i2, u⟩ :: L)
      (Rect.unit (s := S2x520x256) ![h, 512, 0] ![1, 8, 256] i3).toLoadRect = tailR p u :=
  readCov_rows v p u L h 512 8 i1 i2 i3

theorem readCov_518 (i3 : ∀ a, (![h, 518, 0] : Fin 3 → ℕ) a + (![1, 2, 256] : Fin 3 → ℕ) a ≤ S2x520x256.size a) :
    v.readCov (Val := Elt F) (⟨Rect.unit (s := S2x520x256) ![h, 0, 0] ![1, 8, 256] i1, p⟩
        :: ⟨Rect.unit (s := S2x520x256) ![h, 8, 0] ![1, 512, 256] i2, u⟩ :: L)
      (Rect.unit (s := S2x520x256) ![h, 518, 0] ![1, 2, 256] i3).toLoadRect = lastR p u :=
  readCov_rows v p u L h 518 2 i1 i2 i3

end Loads

/-- A store of the whole block reads back what was stored. -/
theorem read_block {e : EltTy} (v : View sig .tc .vmem S512x1024 e) (f : v.ty.Contents (Elt F))
    (inb : ∀ a, (![0, 0] : Fin 2 → ℕ) a + (![512, 1024] : Fin 2 → ℕ) a ≤ S512x1024.size a)
    (w : Vec F S512x1024 e) (L : List (View.Piece (Elt F) S512x1024 e)) :
    v.read (Elt F) (v.writes (Elt F) f (⟨Rect.unit (s := S512x1024) ![0, 0] ![512, 1024] inb, w⟩ :: L)) = w :=
  View.read_writes_full v f (off := ![0, 0]) inb w L

theorem read_two (v : View sig .tc .vmem S1x2x256 .f32) (f : v.ty.Contents (Elt F))
    (inb : ∀ a, (![0, 0, 0] : Fin 3 → ℕ) a + (![1, 2, 256] : Fin 3 → ℕ) a ≤ S1x2x256.size a)
    (w : Vec F S1x2x256 .f32) (L : List (View.Piece (Elt F) S1x2x256 .f32)) :
    v.read (Elt F) (v.writes (Elt F) f (⟨Rect.unit (s := S1x2x256) ![0, 0, 0] ![1, 2, 256] inb, w⟩ :: L)) = w :=
  View.read_writes_full v f (off := ![0, 0, 0]) inb w L

/-- The newest store overlays what the earlier ones left. -/
theorem read_writes_overlay {s : Shape} {e : EltTy} (v : View sig .tc .vmem s e) (f : v.ty.Contents (Elt F)) (r : Rect s) (w : r.shape.Idx → Elt F e)
    (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, r.overlay_emb]
  · have hy' : y ∉ Finset.univ.map r.emb := by rwa [Rect.map_emb_univ]
    rw [View.writes_cons, View.read_slice_write_of_not_mem r _ _ _ hy', r.overlay_of_not_mem _ _ hy]

/-- The carry after a point: the last eight rows of the two halves are put in the block's slots. -/
def carryN (i : grid0.Coords) (a b : Vec F S1x1x8x256 .f32) (cr : Vec F S2x11x8x256 .f32) : Vec F S2x11x8x256 .f32 :=
  (Rect.unit (s := S2x11x8x256) (k0_off4 i) S1x1x8x256.size (k0_off4_inb i)).overlay
    ((Rect.unit (s := S2x11x8x256) (k0_off2 i) S1x1x8x256.size (k0_off2_inb i)).overlay cr a) b

theorem read_carry (v : Memref sig .tc .vmem S2x11x8x256 .f32) (hv : v.IsWhole) (i : grid0.Coords) (a b : Vec F S1x1x8x256 .f32) (cr : Vec F S2x11x8x256 .f32) :
    v.view.read (Elt F) (v.view.writes (Elt F) (hv.unread cr) [⟨Rect.unit (s := S2x11x8x256) (k0_off4 i) S1x1x8x256.size (k0_off4_inb i), b⟩,
      ⟨Rect.unit (s := S2x11x8x256) (k0_off2 i) S1x1x8x256.size (k0_off2_inb i), a⟩]) = carryN i a b cr := by
  rw [read_writes_overlay, read_writes_overlay]
  rw [View.writes_nil, hv.read_unread]
  rfl

end Cert.FfnIdeal.Hand

end
-- ==== Proof.FfnRun.lean ====
/- The feed-forward kernel's body at one grid point, run from any contents of its scratches. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.VecWindow
public import proofs.«01_k».proof.Proof.FfnTap

@[expose] public section

set_option maxRecDepth 16384

noncomputable section

namespace Cert.FfnIdeal.Hand

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The first condition on the block of columns: the first block. -/
abbrev first (i : grid0.Coords) : Prop := Scalar.cmpi .ne (Scalar.extui (Scalar.cmpi .eq (BitVec.ofNat 32 (i 1).val) 0#32)) 0#32 = 1#1

/-- The point's tile is the first of its sequence, as the body tests it: the remainder of the tile by 8. -/
abbrev rem8 (i : grid0.Coords) : BitVec 32 :=
  let a := BitVec.ofNat 32 (i 0).val
  let v12 := Scalar.select (Scalar.cmpi .eq 8#32 0#32) 1#32 8#32
  let v13 := Scalar.remsi a v12
  Scalar.select (Scalar.andi (Scalar.xori (Scalar.cmpi .slt v13 0#32) (Scalar.cmpi .slt v12 0#32)) (Scalar.cmpi .ne v13 0#32)) (Scalar.addi v13 v12) v13

abbrev start (i : grid0.Coords) : Prop := Scalar.cmpi .ne (Scalar.extui (Scalar.cmpi .eq (rem8 i) 0#32)) 0#32 = 1#1

theorem first_iff : ∀ t : Fin cfg0.N, first (grid0.coords t) ↔ t.val % 11 = 0 := (by decide +kernel : ∀ t : Fin grid0.N, _)
theorem start_iff : ∀ t : Fin cfg0.N, start (grid0.coords t) ↔ t.val / 11 % 8 = 0 := (by decide +kernel : ∀ t : Fin grid0.N, _)
theorem cond3_iff : ∀ t : Fin cfg0.N, k0_cond3 (grid0.coords t) = 1#1 ↔ ¬ t.val / 11 % 8 = 0 := (by decide +kernel : ∀ t : Fin grid0.N, _)
theorem cond5_iff : ∀ t : Fin cfg0.N, k0_cond5 (grid0.coords t) = 1#1 ↔ ¬ t.val / 11 % 8 = 0 := (by decide +kernel : ∀ t : Fin grid0.N, _)
theorem cond6_iff : ∀ t : Fin cfg0.N, k0_cond6 (grid0.coords t) = 1#1 ↔ t.val % 11 = 10 := (by decide +kernel : ∀ t : Fin grid0.N, _)

/-- The normed rows in the scratch, after the point. -/
def hbN (i : grid0.Coords) (hb : Vec F S512x1024 .bf16) (x0 : Vec F S512x1024 .f32) (x1 : Vec F S1x1024 .f32) : Vec F S512x1024 .bf16 :=
  if first i then k0_pay3 x0 x1 else hb

/-- The accumulator before the point's own product. -/
def ac0 (i : grid0.Coords) (ac : Vec F S512x1024 .f32) : Vec F S512x1024 .f32 := if first i then k0_pay4 else ac

/-- The eight rows before the tile, of the first half: zeros at a sequence's start, else what the carry keeps. -/
def preA (i : grid0.Coords) (cr : Vec F S2x11x8x256 .f32) : Vec F S1x8x256 .f32 :=
  if start i then k0_pay7 else if h : k0_cond3 i = 1#1 then k0_pay8 (View.ld cr (Rect.unit (s := S2x11x8x256) (k0_off1 i) S1x1x8x256.size (k0_off1_inb i h))) else k0_pay7

/-- The same of the second half. -/
def preB (i : grid0.Coords) (cr : Vec F S2x11x8x256 .f32) : Vec F S1x8x256 .f32 :=
  if start i then k0_pay15 else if h : k0_cond5 i = 1#1 then k0_pay16 (View.ld cr (Rect.unit (s := S2x11x8x256) (k0_off3 i) S1x1x8x256.size (k0_off3_inb i h))) else k0_pay15

/-- The convolution of the first half's block of columns, from the normed rows. -/
def convA (i : grid0.Coords) (h : Vec F S512x1024 .bf16) (cr : Vec F S2x11x8x256 .f32) (x2 : Vec F S1024x256 .bf16) (x4 : Vec F S3x256 .f32) (x6 : Vec F S1x256 .f32) : FVec F S512x256 .f32 :=
  k0_pay9 (k0_pay5 h x2) x4 (win (preA i cr) (k0_pay6 h x2) 6) (win (preA i cr) (k0_pay6 h x2) 7) x6

def convB (i : grid0.Coords) (h : Vec F S512x1024 .bf16) (cr : Vec F S2x11x8x256 .f32) (x3 : Vec F S1024x256 .bf16) (x5 : Vec F S3x256 .f32) (x7 : Vec F S1x256 .f32) : FVec F S512x256 .f32 :=
  k0_pay17 (k0_pay13 h x3) x5 (win (preB i cr) (k0_pay14 h x3) 6) (win (preB i cr) (k0_pay14 h x3) 7) x7

/-- The accumulator after the point: the block's gated rows times its rows of the output weight are added. -/
def acN (i : grid0.Coords) (hb : Vec F S512x1024 .bf16) (ac : Vec F S512x1024 .f32) (cr : Vec F S2x11x8x256 .f32) (x0 : Vec F S512x1024 .f32) (x1 : Vec F S1x1024 .f32) (x2 : Vec F S1024x256 .bf16) (x3 : Vec F S1024x256 .bf16) (x4 : Vec F S3x256 .f32) (x5 : Vec F S3x256 .f32) (x6 : Vec F S1x256 .f32) (x7 : Vec F S1x256 .f32) (x8 : Vec F S256x1024 .bf16)  : Vec F S512x1024 .f32 :=
  k0_pay1 (convA i (hbN i hb x0 x1) cr x2 x4 x6) (convB i (hbN i hb x0 x1) cr x3 x5 x7)
    (k0_pay20 (convA i (hbN i hb x0 x1) cr x2 x4 x6)) (k0_pay21 (convA i (hbN i hb x0 x1) cr x2 x4 x6)) (ac0 i ac) x8

/-- The carry after the point. -/
def crN (i : grid0.Coords) (hb : Vec F S512x1024 .bf16) (cr : Vec F S2x11x8x256 .f32) (x0 : Vec F S512x1024 .f32) (x1 : Vec F S1x1024 .f32) (x2 x3 : Vec F S1024x256 .bf16) : Vec F S2x11x8x256 .f32 :=
  carryN i (k0_pay10 (tailR (preA i cr) (k0_pay6 (hbN i hb x0 x1) x2))) (k0_pay18 (tailR (preB i cr) (k0_pay14 (hbN i hb x0 x1) x3))) cr

/-- The output block after the point: written at the last block of columns. -/
def outN (i : grid0.Coords) (hb : Vec F S512x1024 .bf16) (ac : Vec F S512x1024 .f32) (cr : Vec F S2x11x8x256 .f32) (x0 : Vec F S512x1024 .f32) (x1 : Vec F S1x1024 .f32) (x2 : Vec F S1024x256 .bf16) (x3 : Vec F S1024x256 .bf16) (x4 : Vec F S3x256 .f32) (x5 : Vec F S3x256 .f32) (x6 : Vec F S1x256 .f32) (x7 : Vec F S1x256 .f32) (x8 : Vec F S256x1024 .bf16) (x9 : Vec F S1x1024 .f32) (y0 : Vec F S512x1024 .f32) : Vec F S512x1024 .f32 :=
  if k0_cond6 i = 1#1 then k0_pay2 x0 (acN i hb ac cr x0 x1 x2 x3 x4 x5 x6 x7 x8) x9 else y0

set_option maxHeartbeats 4000000 in
theorem run_body (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S3x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S1x2x256 .f32) (harg13 : arg13.IsWhole) (arg14 : Memref sig .tc .vmem S1x2x256 .f32) (harg14 : arg14.IsWhole) (arg15 : Memref sig .tc .vmem S512x1024 .bf16) (harg15 : arg15.IsWhole) (arg16 : Memref sig .tc .vmem S512x1024 .f32) (harg16 : arg16.IsWhole) (arg17 : Memref sig .tc .vmem S2x520x256 .f32) (harg17 : arg17.IsWhole) (arg18 : Memref sig .tc .vmem S2x11x8x256 .f32) (harg18 : arg18.IsWhole) (x0 : Vec F S512x1024 .f32) (x1 : Vec F S1x1024 .f32) (x2 : Vec F S1024x256 .bf16) (x3 : Vec F S1024x256 .bf16) (x4 : Vec F S3x256 .f32) (x5 : Vec F S3x256 .f32) (x6 : Vec F S1x256 .f32) (x7 : Vec F S1x256 .f32) (x8 : Vec F S256x1024 .bf16) (x9 : Vec F S1x1024 .f32)
    (y0 : Vec F S512x1024 .f32) (hb : Vec F S512x1024 .bf16) (ac : Vec F S512x1024 .f32) (cr : Vec F S2x11x8x256 .f32)
    (h23 : start i ↔ ¬ k0_cond3 i = 1#1) (h25 : start i ↔ ¬ k0_cond5 i = 1#1) (h16 : first i → ¬ k0_cond6 i = 1#1)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y0 ∗ (∃ d, owns (c : Thread nD τ) arg13 fullShare d) ∗ (∃ d, owns (c : Thread nD τ) arg14 fullShare d) ∗ owns (c : Thread nD τ) arg15 fullShare hb ∗ owns (c : Thread nD τ) arg16 fullShare ac ∗ (∃ d, owns (c : Thread nD τ) arg17 fullShare d) ∗ owns (c : Thread nD τ) arg18 fullShare cr ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outN i hb ac cr x0 x1 x2 x3 x4 x5 x6 x7 x8 x9 y0) ∗ owns (c : Thread nD τ) arg13 fullShare (k0_pay12 (k0_pay11 (lastR (preA i cr) (k0_pay6 (hbN i hb x0 x1) x2)))) ∗ owns (c : Thread nD τ) arg14 fullShare (k0_pay19 (lastR (preB i cr) (k0_pay14 (hbN i hb x0 x1) x3))) ∗ owns (c : Thread nD τ) arg15 fullShare (hbN i hb x0 x1) ∗ owns (c : Thread nD τ) arg16 fullShare (acN i hb ac cr x0 x1 x2 x3 x4 x5 x6 x7 x8) ∗ (∃ d, owns (c : Thread nD τ) arg17 fullShare d) ∗ owns (c : Thread nD τ) arg18 fullShare (crN i hb cr x0 x1 x2 x3)) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases h1 : first i <;> by_cases h2 : start i <;> by_cases h6 : k0_cond6 i = 1#1
  all_goals first | exact absurd h6 (h16 h1) | skip
  all_goals
    first
    | (have h3 : ¬ k0_cond3 i = 1#1 := h23.mp h2
       have h5 : ¬ k0_cond5 i = 1#1 := h25.mp h2)
    | (have h3 : k0_cond3 i = 1#1 := by_contra fun h => h2 (h23.mpr h)
       have h5 : k0_cond5 i = 1#1 := by_contra fun h => h2 (h25.mpr h))
    first | have e1 := eq_false h1 | have e1 := eq_true h1
    first | have e2 := eq_false h2 | have e2 := eq_true h2
    first | have e3 := eq_false h3 | have e3 := eq_true h3
    first | have e5 := eq_false h5 | have e5 := eq_true h5
    first | have e6 := eq_false h6 | have e6 := eq_true h6
    simp only [cc0_conv_ffn_eq_skeleton]; unfold cc0_conv_ffn_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%f16, %hf16, H16⟩, ⟨%d17, %f17, -, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16; obtain rfl := harg18.eq_unread hf18
    sl_exec (disch := first | sl_exact h1 | sl_exact h2 | sl_exact h3 | sl_exact h5 | sl_exact h6)
    sl_step
    iapply Hk
    isplitl [H2]
    · iexists _; isplitr; swap; iexact H2
      ipureintro; exact harg2.read_unread _
    isplitl [H3]
    · iexists _; isplitr; swap; iexact H3
      ipureintro; exact harg3.read_unread _
    isplitl [H4]
    · iexists _; isplitr; swap; iexact H4
      ipureintro; exact harg4.read_unread _
    isplitl [H5]
    · iexists _; isplitr; swap; iexact H5
      ipureintro; exact harg5.read_unread _
    isplitl [H6]
    · iexists _; isplitr; swap; iexact H6
      ipureintro; exact harg6.read_unread _
    isplitl [H7]
    · iexists _; isplitr; swap; iexact H7
      ipureintro; exact harg7.read_unread _
    isplitl [H8]
    · iexists _; isplitr; swap; iexact H8
      ipureintro; exact harg8.read_unread _
    isplitl [H9]
    · iexists _; isplitr; swap; iexact H9
      ipureintro; exact harg9.read_unread _
    isplitl [H10]
    · iexists _; isplitr; swap; iexact H10
      ipureintro; exact harg10.read_unread _
    isplitl [H11]
    · iexists _; isplitr; swap; iexact H11
      ipureintro; exact harg11.read_unread _
    isplitl [H12]
    · iexists _; isplitr; swap; iexact H12
      ipureintro; (sl_unfold_words; frame_out; simp only [readCov_6, readCov_7, readCov_512, readCov_518, read_block, read_two, outN, acN, crN, convA, convB, hbN, ac0, preA, preB, k0_off1, k0_off2, k0_off3, k0_off4, e1, e2, e3, e5, e6, ↓reduceIte, ↓reduceDIte, if_true, if_false])
    isplitl [H13]
    · iexists _; isplitr; swap; iexact H13
      ipureintro; (sl_unfold_words; frame_out; simp only [readCov_6, readCov_7, readCov_512, readCov_518, read_block, read_two, outN, acN, crN, convA, convB, hbN, ac0, preA, preB, k0_off1, k0_off2, k0_off3, k0_off4, e1, e2, e3, e5, e6, ↓reduceIte, ↓reduceDIte, if_true, if_false])
    isplitl [H14]
    · iexists _; isplitr; swap; iexact H14
      ipureintro; (sl_unfold_words; frame_out; simp only [readCov_6, readCov_7, readCov_512, readCov_518, read_block, read_two, outN, acN, crN, convA, convB, hbN, ac0, preA, preB, k0_off1, k0_off2, k0_off3, k0_off4, e1, e2, e3, e5, e6, ↓reduceIte, ↓reduceDIte, if_true, if_false])
    isplitl [H15]
    · iexists _; isplitr; swap; iexact H15
      ipureintro; (sl_unfold_words; frame_out; simp only [readCov_6, readCov_7, readCov_512, readCov_518, read_block, read_two, outN, acN, crN, convA, convB, hbN, ac0, preA, preB, k0_off1, k0_off2, k0_off3, k0_off4, e1, e2, e3, e5, e6, ↓reduceIte, ↓reduceDIte, if_true, if_false])
    isplitl [H16]
    · iexists _; isplitr; swap; iexact H16
      ipureintro; (sl_unfold_words; frame_out; simp only [readCov_6, readCov_7, readCov_512, readCov_518, read_block, read_two, outN, acN, crN, convA, convB, hbN, ac0, preA, preB, k0_off1, k0_off2, k0_off3, k0_off4, e1, e2, e3, e5, e6, ↓reduceIte, ↓reduceDIte, if_true, if_false])
    isplitl [H17]
    · iexists _; iexists _; isplitr; swap; iexact H17
      ipureintro; rfl
    iexists _; isplitr; swap; iexact H18
    ipureintro; (refine Eq.trans ?_ (read_carry arg18 harg18 i _ _ cr); sl_unfold_words; frame_out; simp only [readCov_6, readCov_7, readCov_512, readCov_518, read_block, read_two, outN, acN, crN, convA, convB, hbN, ac0, preA, preB, k0_off1, k0_off2, k0_off3, k0_off4, e1, e2, e3, e5, e6, ↓reduceIte, ↓reduceDIte, if_true, if_false])

end Cert.FfnIdeal.Hand

end
-- ==== Proof.FfnSpec.lean ====
/- What the feed-forward kernel computes, tile by tile and block of columns by block of columns, and the state of its scratches between points. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.VecWindow
public import proofs.«01_k».proof.Proof.FfnRun

@[expose] public section

set_option maxRecDepth 16384

noncomputable section

namespace Cert.FfnIdeal.Hand

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The arrays of the call, as the kernel's windows read them. -/
structure Arr (F : FTy → Type) where
  x : Vec F S16384x1024 .f32
  nwi : Vec F S1x1024 .f32
  w1 : Vec F S1024x5632 .bf16
  cw : Vec F S3x5632 .f32
  cb : Vec F S1x5632 .f32
  w2 : Vec F S2816x1024 .bf16
  nwo : Vec F S1x1024 .f32

namespace Arr
variable (A : Arr F)

/-- Tile `i` of the rows, and block `q` of the columns of each weight (the second half's blocks start at 11). -/
def xT (i : ℕ) : Vec F S512x1024 .f32 := fun y => A.x (ix2 ⟨(i * 512 + (y 0).val) % 16384, Nat.mod_lt _ (by omega)⟩ (y 1))
def wT (q : ℕ) : Vec F S1024x256 .bf16 := fun y => A.w1 (ix2 (y 0) ⟨(q * 256 + (y 1).val) % 5632, Nat.mod_lt _ (by omega)⟩)
def cT (q : ℕ) : Vec F S3x256 .f32 := fun y => A.cw (ix2 (y 0) ⟨(q * 256 + (y 1).val) % 5632, Nat.mod_lt _ (by omega)⟩)
def bT (q : ℕ) : Vec F S1x256 .f32 := fun y => A.cb (ix2 0 ⟨(q * 256 + (y 1).val) % 5632, Nat.mod_lt _ (by omega)⟩)
def oT (q : ℕ) : Vec F S256x1024 .bf16 := fun y => A.w2 (ix2 ⟨(q * 256 + (y 0).val) % 2816, Nat.mod_lt _ (by omega)⟩ (y 1))

/-- The normed rows of a tile. -/
def hid (i : ℕ) : Vec F S512x1024 .bf16 := k0_pay3 (A.xT i) A.nwi
/-- A block of columns of the two halves of the projection. -/
def uA (i j : ℕ) : Vec F S1x512x256 .f32 := k0_pay6 (A.hid i) (A.wT j)
def uB (i j : ℕ) : Vec F S1x512x256 .f32 := k0_pay14 (A.hid i) (A.wT (11 + j))
/-- The eight rows before the tile: zeros at a sequence's start. -/
def pA (i j : ℕ) : Vec F S1x8x256 .f32 := if i % 8 = 0 then k0_pay7 else tailR k0_pay7 (A.uA (i - 1) j)
def pB (i j : ℕ) : Vec F S1x8x256 .f32 := if i % 8 = 0 then k0_pay15 else tailR k0_pay15 (A.uB (i - 1) j)
/-- The convolutions. -/
def cvA (i j : ℕ) : FVec F S512x256 .f32 :=
  k0_pay9 (k0_pay5 (A.hid i) (A.wT j)) (A.cT j) (win (A.pA i j) (A.uA i j) 6) (win (A.pA i j) (A.uA i j) 7) (A.bT j)
def cvB (i j : ℕ) : FVec F S512x256 .f32 :=
  k0_pay17 (k0_pay13 (A.hid i) (A.wT (11 + j))) (A.cT (11 + j)) (win (A.pB i j) (A.uB i j) 6) (win (A.pB i j) (A.uB i j) 7) (A.bT (11 + j))
/-- The output product over the first `j` blocks of columns. -/
def acc (i : ℕ) : ℕ → Vec F S512x1024 .f32
  | 0 => k0_pay4
  | j + 1 => k0_pay1 (A.cvA i j) (A.cvB i j) (k0_pay20 (A.cvA i j)) (k0_pay21 (A.cvA i j)) (acc i j) (A.oT j)
def out (i : ℕ) : Vec F S512x1024 .f32 := k0_pay2 (A.xT i) (A.acc i 11) A.nwo
def lastA (i j : ℕ) : Vec F S1x2x256 .f32 := k0_pay12 (k0_pay11 (lastR (A.pA i j) (A.uA i j)))
def lastB (i j : ℕ) : Vec F S1x2x256 .f32 := k0_pay19 (lastR (A.pB i j) (A.uB i j))

end Arr

/-- A slot of the carry. -/
def slot (h : Fin 2) (q : Fin 11) (cr : Vec F S2x11x8x256 .f32) : Vec F S1x8x256 .f32 := fun y => cr (ix4 h q (y 1) (y 2))

/-- The state of the scratches before point `n`: within a tile, its normed rows and the product so far; in each slot of
the carry the last rows of the last tile whose block of columns was done. -/
def Inv (A : Arr F) (n : ℕ) (hb : Vec F S512x1024 .bf16) (ac : Vec F S512x1024 .f32) (cr : Vec F S2x11x8x256 .f32) : Prop :=
  (n % 11 ≠ 0 → hb = A.hid (n / 11) ∧ ac = A.acc (n / 11) (n % 11)) ∧
  ∀ q : Fin 11, (n + 10 - q.val) / 11 ≠ 0 →
    slot 0 q cr = tailR k0_pay7 (A.uA ((n + 10 - q.val) / 11 - 1) q.val) ∧
    slot 1 q cr = tailR k0_pay15 (A.uB ((n + 10 - q.val) / 11 - 1) q.val)

theorem Inv_zero (A : Arr F) (hb : Vec F S512x1024 .bf16) (ac : Vec F S512x1024 .f32) (cr : Vec F S2x11x8x256 .f32) : Inv A 0 hb ac cr :=
  ⟨fun h => absurd rfl h, fun q h => absurd (by have := q.isLt; omega) h⟩

/-- The last rows do not depend on the rows before the tile. -/
theorem tailR_eq (p p' : Vec F S1x8x256 .f32) (u : Vec F S1x512x256 .f32) : tailR p u = tailR p' u := by
  funext y
  have h : ¬ 512 + (y 1).val < 8 := by omega
  simp only [tailR, up, if_neg h]

theorem off1_eq (i : grid0.Coords) : k0_off1 i = ![0, (i 1).val, 0, 0] := by
  have h : (i 1).val < 11 := (i 1).isLt
  have : (i 1).val % 4294967296 = (i 1).val := Nat.mod_eq_of_lt (by omega)
  unfold k0_off1
  exact congrArg (fun k => ![0, k, 0, 0]) this

theorem off2_eq (i : grid0.Coords) : k0_off2 i = ![0, (i 1).val, 0, 0] := off1_eq i

theorem off3_eq (i : grid0.Coords) : k0_off3 i = ![1, (i 1).val, 0, 0] := by
  have h : (i 1).val < 11 := (i 1).isLt
  have : (i 1).val % 4294967296 = (i 1).val := Nat.mod_eq_of_lt (by omega)
  unfold k0_off3
  exact congrArg (fun k => ![1, k, 0, 0]) this

theorem off4_eq (i : grid0.Coords) : k0_off4 i = ![1, (i 1).val, 0, 0] := off3_eq i

theorem castSlot (cr : Vec F S2x11x8x256 .f32) (h : Fin 2) (q : Fin 11) (off : Fin 4 → ℕ) (e : off = ![h.val, q.val, 0, 0])
    (inb : ∀ a, off a + S1x1x8x256.size a ≤ S2x11x8x256.size a) :
    k0_pay8 (View.ld cr (Rect.unit (s := S2x11x8x256) off S1x1x8x256.size inb)) = slot h q cr := by
  subst e
  funext y
  idx_vars y
  unfold k0_pay8 slot
  rw [shapeCast_apply _ _ (ix3 y0 y1 y2) (ix2 y1 y2) (by rw [Shape.rowMajor_val_two, Shape.rowMajor_val_three]; show y1.val * 256 + y2.val = (y0.val * 8 + y1.val) * 256 + y2.val; omega), shapeCast_apply _ _ (ix2 y1 y2) (ix4 0 0 y1 y2) (by rw [Shape.rowMajor_val_two, Shape.rowMajor_val_four]; show ((0 * 1 + 0) * 8 + y1.val) * 256 + y2.val = y1.val * 256 + y2.val; omega)]
  refine congrArg cr ?_
  funext a; apply Fin.ext; fin_cases a
  · show h.val + 1 * 0 = h.val; omega
  · show q.val + 1 * 0 = q.val; omega
  · show 0 + 1 * y1.val = y1.val; omega
  · show 0 + 1 * y2.val = y2.val; omega

theorem castSlot' (cr : Vec F S2x11x8x256 .f32) (h : Fin 2) (q : Fin 11) (off : Fin 4 → ℕ) (e : off = ![h.val, q.val, 0, 0])
    (inb : ∀ a, off a + S1x1x8x256.size a ≤ S2x11x8x256.size a) :
    k0_pay16 (View.ld cr (Rect.unit (s := S2x11x8x256) off S1x1x8x256.size inb)) = slot h q cr := castSlot cr h q off e inb

theorem uncast (w : Vec F S1x8x256 .f32) (y1 : Fin 8) (y2 : Fin 256) : k0_pay10 w (ix4 0 0 y1 y2) = w (ix3 0 y1 y2) := by
  unfold k0_pay10
  rw [shapeCast_apply _ _ (ix4 0 0 y1 y2) (ix2 y1 y2) (by rw [Shape.rowMajor_val_two, Shape.rowMajor_val_four]; show y1.val * 256 + y2.val = ((0 * 1 + 0) * 8 + y1.val) * 256 + y2.val; omega), shapeCast_apply _ _ (ix2 y1 y2) (ix3 0 y1 y2) (by rw [Shape.rowMajor_val_two, Shape.rowMajor_val_three]; show (0 * 8 + y1.val) * 256 + y2.val = y1.val * 256 + y2.val; omega)]

/-- A slot of the carry after a store to one of the slots. -/
theorem slot_put (h h' : Fin 2) (q q' : Fin 11) (off : Fin 4 → ℕ) (e : off = ![h'.val, q'.val, 0, 0])
    (inb : ∀ a, off a + S1x1x8x256.size a ≤ S2x11x8x256.size a) (w : Vec F S1x8x256 .f32) (cr : Vec F S2x11x8x256 .f32) :
    slot h q ((Rect.unit (s := S2x11x8x256) off S1x1x8x256.size inb).overlay cr (k0_pay10 w)) = if h = h' ∧ q = q' then w else slot h q cr := by
  subst e
  funext y
  idx_vars y
  have y0e : y0 = 0 := Fin.ext (by omega)
  subst y0e
  unfold slot
  by_cases hq : h = h' ∧ q = q'
  · obtain ⟨rfl, rfl⟩ := hq
    rw [if_pos ⟨rfl, rfl⟩]
    have e : (ix4 h q y1 y2 : S2x11x8x256.Idx) = (Rect.unit (s := S2x11x8x256) ![h.val, q.val, 0, 0] S1x1x8x256.size inb).emb (ix4 0 0 y1 y2) := by
      funext a; apply Fin.ext; fin_cases a
      · show h.val = h.val + 1 * 0; omega
      · show q.val = q.val + 1 * 0; omega
      · show y1.val = 0 + 1 * y1.val; omega
      · show y2.val = 0 + 1 * y2.val; omega
    refine (congrArg _ e).trans ?_
    rw [Rect.overlay_emb, uncast]
  · rw [if_neg hq]
    refine Rect.overlay_of_not_mem _ _ _ ?_
    rw [Rect.mem_set_unit]
    intro hall
    have h0 : h'.val ≤ h.val ∧ h.val < h'.val + 1 := hall 0
    have h1 : q'.val ≤ q.val ∧ q.val < q'.val + 1 := hall 1
    exact hq ⟨Fin.ext (by omega), Fin.ext (by omega)⟩

theorem slot_carryN (i : grid0.Coords) (a b : Vec F S1x8x256 .f32) (cr : Vec F S2x11x8x256 .f32) (q k : Fin 11) (hk : (i 1).val = k.val) :
    slot 0 q (carryN i (k0_pay10 a) (k0_pay18 b) cr) = (if q = k then a else slot 0 q cr) ∧
    slot 1 q (carryN i (k0_pay10 a) (k0_pay18 b) cr) = (if q = k then b else slot 1 q cr) := by
  have e4 : k0_off4 i = ![(1 : Fin 2).val, k.val, 0, 0] := (off4_eq i).trans (congrArg (fun k => ![1, k, 0, 0]) hk)
  have e2 : k0_off2 i = ![(0 : Fin 2).val, k.val, 0, 0] := (off2_eq i).trans (congrArg (fun k => ![0, k, 0, 0]) hk)
  have p (h : Fin 2) := slot_put h 1 q k (k0_off4 i) e4 (k0_off4_inb i) b
    ((Rect.unit (s := S2x11x8x256) (k0_off2 i) S1x1x8x256.size (k0_off2_inb i)).overlay cr (k0_pay10 a))
  have p' (h : Fin 2) := slot_put h 0 q k (k0_off2 i) e2 (k0_off2_inb i) a cr
  have n1 : ¬ ((0 : Fin 2) = 1) := by decide
  have n2 : ¬ ((1 : Fin 2) = 0) := by decide
  constructor
  · refine (p 0).trans ?_
    rw [if_neg (fun h => n1 h.1), p' 0]
    by_cases h : q = k
    · rw [if_pos ⟨rfl, h⟩, if_pos h]
    · rw [if_neg (fun e => h e.2), if_neg h]
  · refine (p 1).trans ?_
    rw [p' 1, if_neg (c := (1 : Fin 2) = 0 ∧ q = k) (fun h => n2 h.1)]
    by_cases h : q = k
    · rw [if_pos ⟨rfl, h⟩, if_pos h]
    · rw [if_neg (fun e => h e.2), if_neg h]

theorem coord0 : ∀ t : Fin cfg0.N, (grid0.coords t 0).val = t.val / 11 := (by decide +kernel : ∀ t : Fin grid0.N, _)
theorem coord1 : ∀ t : Fin cfg0.N, (grid0.coords t 1).val = t.val % 11 := (by decide +kernel : ∀ t : Fin grid0.N, _)

end Cert.FfnIdeal.Hand

end
-- ==== Proof.FfnStep.lean ====
/- One grid point of the feed-forward kernel keeps the state of the scratches, and stores the tile's results. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.VecWindow
public import proofs.«01_k».proof.Proof.FfnSpec

@[expose] public section

set_option maxRecDepth 16384

noncomputable section

namespace Cert.FfnIdeal.Hand

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

theorem pt_lt (t : Fin cfg0.N) : t.val < 352 := lt_of_lt_of_eq t.isLt N_0

section
variable (A : Arr F) (t : Fin cfg0.N) (hb : Vec F S512x1024 .bf16) (ac : Vec F S512x1024 .f32) (cr : Vec F S2x11x8x256 .f32)

theorem hbN_eq (hI : Inv A t.val hb ac cr) : hbN (grid0.coords t) hb (A.xT (t.val / 11)) A.nwi = A.hid (t.val / 11) := by
  unfold hbN
  by_cases h : t.val % 11 = 0
  · rw [if_pos ((first_iff t).mpr h)]; rfl
  · rw [if_neg (fun k => h ((first_iff t).mp k))]; exact (hI.1 h).1

theorem ac0_eq (hI : Inv A t.val hb ac cr) : ac0 (grid0.coords t) ac = A.acc (t.val / 11) (t.val % 11) := by
  unfold ac0
  by_cases h : t.val % 11 = 0
  · rw [if_pos ((first_iff t).mpr h), h]; rfl
  · rw [if_neg (fun k => h ((first_iff t).mp k))]; exact (hI.1 h).2

/-- The block of columns, as a slot of the carry. -/
def col : Fin 11 := ⟨t.val % 11, Nat.mod_lt _ (by omega)⟩

theorem tiles_done (h : ¬ t.val / 11 % 8 = 0) : (t.val + 10 - (col t).val) / 11 = t.val / 11 := by
  show (t.val + 10 - t.val % 11) / 11 = t.val / 11
  omega

theorem preA_eq (hI : Inv A t.val hb ac cr) : preA (grid0.coords t) cr = A.pA (t.val / 11) (t.val % 11) := by
  unfold preA Arr.pA
  by_cases h : t.val / 11 % 8 = 0
  · rw [if_pos ((start_iff t).mpr h), if_pos h]
  · rw [if_neg (fun k => h ((start_iff t).mp k)), if_neg h, dif_pos ((cond3_iff t).mpr h)]
    refine (castSlot cr 0 (col t) (k0_off1 (grid0.coords t)) ((off1_eq _).trans (congrArg (fun k => ![0, k, 0, 0]) (coord1 t))) _).trans ?_
    have := (hI.2 (col t) (by rw [tiles_done t h]; omega)).1
    rw [tiles_done t h] at this
    exact this

theorem preB_eq (hI : Inv A t.val hb ac cr) : preB (grid0.coords t) cr = A.pB (t.val / 11) (t.val % 11) := by
  unfold preB Arr.pB
  by_cases h : t.val / 11 % 8 = 0
  · rw [if_pos ((start_iff t).mpr h), if_pos h]
  · rw [if_neg (fun k => h ((start_iff t).mp k)), if_neg h, dif_pos ((cond5_iff t).mpr h)]
    refine (castSlot' cr 1 (col t) (k0_off3 (grid0.coords t)) ((off3_eq _).trans (congrArg (fun k => ![1, k, 0, 0]) (coord1 t))) _).trans ?_
    have := (hI.2 (col t) (by rw [tiles_done t h]; omega)).2
    rw [tiles_done t h] at this
    exact this

theorem acN_eq (hI : Inv A t.val hb ac cr) : acN (grid0.coords t) hb ac cr (A.xT (t.val / 11)) A.nwi (A.wT (t.val % 11)) (A.wT (11 + t.val % 11))
    (A.cT (t.val % 11)) (A.cT (11 + t.val % 11)) (A.bT (t.val % 11)) (A.bT (11 + t.val % 11)) (A.oT (t.val % 11)) = A.acc (t.val / 11) (t.val % 11 + 1) := by
  unfold acN convA convB
  rw [hbN_eq A t hb ac cr hI, ac0_eq A t hb ac cr hI, preA_eq A t hb ac cr hI, preB_eq A t hb ac cr hI]
  rfl

theorem outN_eq (hI : Inv A t.val hb ac cr) (h : k0_cond6 (grid0.coords t) = 1#1) (y0 : Vec F S512x1024 .f32) :
    outN (grid0.coords t) hb ac cr (A.xT (t.val / 11)) A.nwi (A.wT (t.val % 11)) (A.wT (11 + t.val % 11))
    (A.cT (t.val % 11)) (A.cT (11 + t.val % 11)) (A.bT (t.val % 11)) (A.bT (11 + t.val % 11)) (A.oT (t.val % 11)) A.nwo y0 = A.out (t.val / 11) := by
  unfold outN
  rw [if_pos h, acN_eq A t hb ac cr hI, (cond6_iff t).mp h]
  rfl

/-- The state before the next point. -/
theorem Inv_succ (hI : Inv A t.val hb ac cr) : Inv A (t.val + 1) (hbN (grid0.coords t) hb (A.xT (t.val / 11)) A.nwi)
    (acN (grid0.coords t) hb ac cr (A.xT (t.val / 11)) A.nwi (A.wT (t.val % 11)) (A.wT (11 + t.val % 11))
      (A.cT (t.val % 11)) (A.cT (11 + t.val % 11)) (A.bT (t.val % 11)) (A.bT (11 + t.val % 11)) (A.oT (t.val % 11)))
    (crN (grid0.coords t) hb cr (A.xT (t.val / 11)) A.nwi (A.wT (t.val % 11)) (A.wT (11 + t.val % 11))) := by
  rw [acN_eq A t hb ac cr hI, hbN_eq A t hb ac cr hI]
  refine ⟨fun h => ?_, fun q hq => ?_⟩
  · have e1 : (t.val + 1) / 11 = t.val / 11 := by omega
    have e2 : (t.val + 1) % 11 = t.val % 11 + 1 := by omega
    rw [e1, e2]
    exact ⟨rfl, rfl⟩
  · unfold crN
    rw [hbN_eq A t hb ac cr hI, preA_eq A t hb ac cr hI, preB_eq A t hb ac cr hI]
    have hs := slot_carryN (grid0.coords t) (tailR (A.pA (t.val / 11) (t.val % 11)) (A.uA (t.val / 11) (t.val % 11)))
      (tailR (A.pB (t.val / 11) (t.val % 11)) (A.uB (t.val / 11) (t.val % 11))) cr q (col t) (coord1 t)
    have hq11 := q.isLt
    by_cases e : q = col t
    · have ev : q.val = t.val % 11 := congrArg Fin.val e
      have ek : (t.val + 1 + 10 - q.val) / 11 - 1 = t.val / 11 := by omega
      rw [if_pos e, if_pos e] at hs
      rw [ek, ev]
      exact ⟨hs.1.trans (tailR_eq _ _ _), hs.2.trans (tailR_eq _ _ _)⟩
    · have ev : q.val ≠ t.val % 11 := fun k => e (Fin.ext k)
      have ek : (t.val + 1 + 10 - q.val) / 11 = (t.val + 10 - q.val) / 11 := by omega
      rw [if_neg e, if_neg e] at hs
      rw [ek] at hq ⊢
      exact ⟨hs.1.trans (hI.2 q hq).1, hs.2.trans (hI.2 q hq).2⟩

end

/-! ## The blocks the windows read -/

variable (m : (ℓ : Loc nD τ sig) → Buf (Elt F) ℓ)

/-- The call's arrays, as the region finds them. -/
def arrOf (c : Dev nD) : Arr F := ⟨V m c main_arg0, V m c main_v3, V m c main_v0, V m c main_arg3, V m c main_v2, V m c main_v1, V m c main_v4⟩

theorem idx : ∀ t : Fin cfg0.N, win0_0.index t = ![t.val / 11, 0] ∧ win0_1.index t = ![0, 0]
    ∧ win0_2.index t = ![0, t.val % 11] ∧ win0_3.index t = ![0, 11 + t.val % 11]
    ∧ win0_4.index t = ![0, t.val % 11] ∧ win0_5.index t = ![0, 11 + t.val % 11]
    ∧ win0_6.index t = ![0, t.val % 11] ∧ win0_7.index t = ![0, 11 + t.val % 11]
    ∧ win0_8.index t = ![t.val % 11, 0] ∧ win0_9.index t = ![0, 0] ∧ win0_10.index t = ![t.val / 11, 0]
    ∧ win0_11.index t = ![t.val / 11, 0, t.val % 11] ∧ win0_12.index t = ![t.val / 11, 0, t.val % 11] :=
  (by decide +kernel : ∀ t : Fin grid0.N, _)

theorem blk0 (c : Dev nD) (t : Fin cfg0.N) : iblk m c 0 t = (arrOf m c).xT (t.val / 11) := by
  funext y
  idx_vars y
  have ht := pt_lt t
  have e : (win0_0.blk t).view.emb (ix2 y0 y1) = ix2 ⟨(t.val / 11 * 512 + y0.val) % 16384, Nat.mod_lt _ (by omega)⟩ y1 := by
    blk_ext [idx t]
  exact congrArg (V m c main_arg0) e

theorem blk1 (c : Dev nD) (t : Fin cfg0.N) : iblk m c 1 t = (arrOf m c).nwi := by
  funext y
  idx_vars y
  have ht := pt_lt t
  have e : (win0_1.blk t).view.emb (ix2 y0 y1) = ix2 y0 y1 := by
    blk_ext [idx t]
  exact congrArg (V m c main_v3) e

theorem blk2 (c : Dev nD) (t : Fin cfg0.N) : iblk m c 2 t = (arrOf m c).wT (t.val % 11) := by
  funext y
  idx_vars y
  have ht := pt_lt t
  have e : (win0_2.blk t).view.emb (ix2 y0 y1) = ix2 y0 ⟨((t.val % 11) * 256 + y1.val) % 5632, Nat.mod_lt _ (by omega)⟩ := by
    blk_ext [idx t]
  exact congrArg (V m c main_v0) e

theorem blk3 (c : Dev nD) (t : Fin cfg0.N) : iblk m c 3 t = (arrOf m c).wT (11 + t.val % 11) := by
  funext y
  idx_vars y
  have ht := pt_lt t
  have e : (win0_3.blk t).view.emb (ix2 y0 y1) = ix2 y0 ⟨((11 + t.val % 11) * 256 + y1.val) % 5632, Nat.mod_lt _ (by omega)⟩ := by
    blk_ext [idx t]
  exact congrArg (V m c main_v0) e

theorem blk4 (c : Dev nD) (t : Fin cfg0.N) : iblk m c 4 t = (arrOf m c).cT (t.val % 11) := by
  funext y
  idx_vars y
  have ht := pt_lt t
  have e : (win0_4.blk t).view.emb (ix2 y0 y1) = ix2 y0 ⟨((t.val % 11) * 256 + y1.val) % 5632, Nat.mod_lt _ (by omega)⟩ := by
    blk_ext [idx t]
  exact congrArg (V m c main_arg3) e

theorem blk5 (c : Dev nD) (t : Fin cfg0.N) : iblk m c 5 t = (arrOf m c).cT (11 + t.val % 11) := by
  funext y
  idx_vars y
  have ht := pt_lt t
  have e : (win0_5.blk t).view.emb (ix2 y0 y1) = ix2 y0 ⟨((11 + t.val % 11) * 256 + y1.val) % 5632, Nat.mod_lt _ (by omega)⟩ := by
    blk_ext [idx t]
  exact congrArg (V m c main_arg3) e

theorem blk6 (c : Dev nD) (t : Fin cfg0.N) : iblk m c 6 t = (arrOf m c).bT (t.val % 11) := by
  funext y
  idx_vars y
  have ht := pt_lt t
  have e : (win0_6.blk t).view.emb (ix2 y0 y1) = ix2 0 ⟨((t.val % 11) * 256 + y1.val) % 5632, Nat.mod_lt _ (by omega)⟩ := by
    blk_ext [idx t]
  exact congrArg (V m c main_v2) e

theorem blk7 (c : Dev nD) (t : Fin cfg0.N) : iblk m c 7 t = (arrOf m c).bT (11 + t.val % 11) := by
  funext y
  idx_vars y
  have ht := pt_lt t
  have e : (win0_7.blk t).view.emb (ix2 y0 y1) = ix2 0 ⟨((11 + t.val % 11) * 256 + y1.val) % 5632, Nat.mod_lt _ (by omega)⟩ := by
    blk_ext [idx t]
  exact congrArg (V m c main_v2) e

theorem blk8 (c : Dev nD) (t : Fin cfg0.N) : iblk m c 8 t = (arrOf m c).oT (t.val % 11) := by
  funext y
  idx_vars y
  have ht := pt_lt t
  have e : (win0_8.blk t).view.emb (ix2 y0 y1) = ix2 ⟨(t.val % 11 * 256 + y0.val) % 2816, Nat.mod_lt _ (by omega)⟩ y1 := by
    blk_ext [idx t]
  exact congrArg (V m c main_v1) e

theorem blk9 (c : Dev nD) (t : Fin cfg0.N) : iblk m c 9 t = (arrOf m c).nwo := by
  funext y
  idx_vars y
  have ht := pt_lt t
  have e : (win0_9.blk t).view.emb (ix2 y0 y1) = ix2 y0 y1 := by
    blk_ext [idx t]
  exact congrArg (V m c main_v4) e

end Cert.FfnIdeal.Hand

end
-- ==== Proof.FfnFrame.lean ====
/- The feed-forward program's run: the arrays are left as they were, and each result is the tiles' specification. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.VecWindow
public import proofs.«01_k».proof.Proof.FfnStep

@[expose] public section

set_option maxRecDepth 16384

noncomputable section

namespace Cert.FfnIdeal.Hand

open Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev sc0 : Memref sig .tc .vmem S512x1024 .bf16 := Memref.whole cc0_scratch0
abbrev sc1 : Memref sig .tc .vmem S512x1024 .f32 := Memref.whole cc0_scratch1
abbrev sc2 : Memref sig .tc .vmem S2x520x256 .f32 := Memref.whole cc0_scratch2
abbrev sc3 : Memref sig .tc .vmem S2x11x8x256 .f32 := Memref.whole cc0_scratch3

theorem phi_entry (c : Dev nD) : (Pipeline.ΦA spec0 c : sProp 𝕄)
    = iprop(((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before point `n`: the scratches at some contents in the state `Inv` names. -/
def PhiN (c : Dev nD) (n : ℕ) : sProp 𝕄 :=
  iprop(∃ hb : Vec F S512x1024 .bf16, ∃ ac : Vec F S512x1024 .f32, ∃ cr : Vec F S2x11x8x256 .f32, ⌜Inv (arrOf m c) n hb ac cr⌝
    ∗ owns (c : Thread nD τ) sc0 fullShare hb ∗ owns (c : Thread nD τ) sc1 fullShare ac
    ∗ (∃ d, owns (c : Thread nD τ) sc2 fullShare d) ∗ owns (c : Thread nD τ) sc3 fullShare cr ∗ (∃ r, prngReg c r))

/-- The proof data: the arrays as the region finds them; the inputs' blocks in place; each output's block at the
specification of its tile and block of columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (arrOf m c).out (t.val / 11)
    | ⟨11, _⟩ => (arrOf m c).lastA (t.val / 11) (t.val % 11)
    | ⟨12, _⟩ => (arrOf m c).lastB (t.val / 11) (t.val % 11)
  Φ t := PhiN m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (arrOf m c).out (t.val / 11) := by dsimp only [dats]
theorem after11 (c : Dev nD) (t : Fin cfg0.N) : (dats m 0 c).after 11 t = (arrOf m c).lastA (t.val / 11) (t.val % 11) := by dsimp only [dats]
theorem after12 (c : Dev nD) (t : Fin cfg0.N) : (dats m 0 c).after 12 t = (arrOf m c).lastB (t.val / 11) (t.val % 11) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the obligation asks of the output block's buffer after the point. -/
def leave (c : Dev nD) (t : Fin cfg0.N) : sProp 𝕄 :=
  match cfg0.idle 10 (cfg0.grid.coords t) with
  | true =>
    match (cfg0.win 10).flush t with
    | false => iprop(∃ d, owns (c : Thread nD τ) (st0_10 t) fullShare ((dats m 0 c).before 10 t d))
    | true => owns (c : Thread nD τ) (st0_10 t) fullShare ((dats m 0 c).after 10 t)
  | false => owns (c : Thread nD τ) (st0_10 t) fullShare ((dats m 0 c).after 10 t)

theorem leave_live (c : Dev nD) (t : Fin cfg0.N) (h : k0_cond6 (grid0.coords t) = 1#1) :
    leave m c t = owns (c : Thread nD τ) (st0_10 t) fullShare ((dats m 0 c).after 10 t) := by
  have e : cfg0.idle 10 (cfg0.grid.coords t) = false := by
    show (!(k0_cond6 (grid0.coords t) == 1#1)) = false
    rw [h]; rfl
  unfold leave
  rw [e]

theorem leave_idle (c : Dev nD) (t : Fin cfg0.N) (h : ¬ k0_cond6 (grid0.coords t) = 1#1) :
    leave m c t = iprop(∃ d, owns (c : Thread nD τ) (st0_10 t) fullShare ((dats m 0 c).before 10 t d)) := by
  have e : cfg0.idle 10 (cfg0.grid.coords t) = true := by
    show (!(k0_cond6 (grid0.coords t) == 1#1)) = true
    rw [beq_eq_false_iff_ne.mpr h]; rfl
  have e' : (cfg0.win 10).flush t = false := by
    rw [← Bool.not_eq_true]
    exact fun k => h ((cond6_iff t).mpr ((flush0_10 t).mp k))
  unfold leave
  rw [e, e']

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ leave m c t
    ∗ owns (c : Thread nD τ) (st0_11 t) fullShare ((dats m 0 c).after 11 t)
    ∗ owns (c : Thread nD τ) (st0_12 t) fullShare ((dats m 0 c).after 12 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9, after11, after12,
    show (dats m 0 c).Φ t.castSucc = PhiN m c t.val from rfl, show (dats m 0 c).Φ t.succ = PhiN m c (t.val + 1) from rfl]
  rw [blk0, blk1, blk2, blk3, blk4, blk5, blk6, blk7, blk8, blk9]
  unfold PhiN
  iintro ⟨⟨%hb, %ac, %cr, %hI, S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_body c (grid0.coords t) _ _ _ _ _ _ _ _ _ _ _ _ _ _ _ _ _ _ _ _ _ _ _ _ _ _ _ _ _ _ _ _ _ _ ((arrOf m c).xT (t.val / 11)) (arrOf m c).nwi ((arrOf m c).wT (t.val % 11)) ((arrOf m c).wT (11 + t.val % 11))
    ((arrOf m c).cT (t.val % 11)) ((arrOf m c).cT (11 + t.val % 11)) ((arrOf m c).bT (t.val % 11)) ((arrOf m c).bT (11 + t.val % 11)) ((arrOf m c).oT (t.val % 11)) (arrOf m c).nwo
    ((dats m 0 c).before 10 t d10) hb ac cr
    ((start_iff t).trans ((not_iff_not.mpr (cond3_iff t)).trans not_not).symm) ((start_iff t).trans ((not_iff_not.mpr (cond5_iff t)).trans not_not).symm)
    (fun h1 h6 => by have := (first_iff t).mp h1; have := (cond6_iff t).mp h6; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [S0]; · iexact S0
  isplitl [S1]; · iexact S1
  isplitl [S2]; · iexact S2
  isplitl [S3]; · iexact S3
  iintro ⟨H0, H1, H2, H3, H4, H5, H6, H7, H8, H9, H10, H11, H12, S0, S1, S2, S3⟩
  rw [hbN_eq (arrOf m c) t hb ac cr hI, preA_eq (arrOf m c) t hb ac cr hI, preB_eq (arrOf m c) t hb ac cr hI]
  isplitl [S0 S1 S2 S3 Hg]
  · iexists _; iexists _; iexists _
    isplitr; swap
    · isplitl [S0]; · iexact S0
      isplitl [S1]; · iexact S1
      isplitl [S2]; · iexact S2
      isplitl [S3]; · iexact S3
      iexact Hg
    · ipureintro
      have := Inv_succ (arrOf m c) t hb ac cr hI
      rw [hbN_eq (arrOf m c) t hb ac cr hI] at this
      exact this
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · by_cases h : k0_cond6 (grid0.coords t) = 1#1
    · rw [leave_live m c t h, after10, ← outN_eq (arrOf m c) t hb ac cr hI h ((dats m 0 c).before 10 t d10)]
      iexact H10
    · rw [leave_idle m c t h]
      iexists d10
      have e : outN (grid0.coords t) hb ac cr ((arrOf m c).xT (t.val / 11)) (arrOf m c).nwi ((arrOf m c).wT (t.val % 11)) ((arrOf m c).wT (11 + t.val % 11))
          ((arrOf m c).cT (t.val % 11)) ((arrOf m c).cT (11 + t.val % 11)) ((arrOf m c).bT (t.val % 11)) ((arrOf m c).bT (11 + t.val % 11)) ((arrOf m c).oT (t.val % 11)) (arrOf m c).nwo
          ((dats m 0 c).before 10 t d10) = (dats m 0 c).before 10 t d10 := if_neg h
      rw [e]
      iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiN m c 0 from rfl, phi_entry]
  unfold PhiN
  iintro ⟨⟨⟨%hb, S0⟩, ⟨%ac, S1⟩, S2, ⟨%cr, S3⟩⟩, Hg⟩
  iexists hb; iexists ac; iexists cr
  isplitr
  · ipureintro; exact Inv_zero _ _ _ _
  isplitl [S0]; · iexact S0
  isplitl [S1]; · iexact S1
  isplitl [S2]; · iexact S2
  isplitl [S3]; · iexact S3
  iexact Hg

theorem hout (c : Dev nD) : (dats m 0 c).Φ (Fin.last cfg0.N) ⊢ Pipeline.ΦA spec0 c := by
  rw [show (dats m 0 c).Φ (Fin.last cfg0.N) = PhiN m c (Fin.last cfg0.N).val from rfl, phi_entry]
  unfold PhiN
  iintro ⟨%hb, %ac, %cr, -, S0, S1, S2, S3, Hg⟩
  isplitl [S0 S1 S2 S3]
  · isplitl [S0]; · iexists _; iexact S0
    isplitl [S1]; · iexists _; iexact S1
    isplitl [S2]; · iexact S2
    iexists _; iexact S3
  iexact Hg

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIdeal.Hand

end
-- ==== Proof.FfnVal.lean ====
/- The feed-forward kernel's tiles over the extended reals: each element in terms of the call's arguments. -/
module

public import proofs.«01_k».proof.Proof.FfnSpec

@[expose] public section

set_option maxRecDepth 16384

noncomputable section

namespace Cert.FfnIdeal.Hand

open Cert.FfnIdeal Cert.FfnIdeal.Gen Idealize.ShloMosaic Idealize.ShloMosaic.TcCoe Idealize.SL.Sem

/-- The call's arguments. -/
structure In where
  x : FVec Ideal S16384x1024 .f32
  nwi : FVec Ideal S1024 .f32
  w1 : FVec Ideal S1024x5632 .f32
  cw : FVec Ideal S3x5632 .f32
  cb : FVec Ideal S5632 .f32
  w2 : FVec Ideal S2816x1024 .f32
  nwo : FVec Ideal S1024 .f32

namespace In
variable (a : In)

/-- Row `r` scaled by its root mean square and by the norm's weight. -/
def hid (r : Fin 16384) (k : Fin 1024) : EReal :=
  a.x (ix2 r k) * Ideal.rsqrt (Ideal.div (∑ k : Fin 1024, a.x (ix2 r k) * a.x (ix2 r k)) (Ideal.ofBits .f32 0x44800000#32)
    + Ideal.ofBits .f32 0x358637BD#32) * a.nwi (ix1 k)

/-- One element of the normed rows' product with the first weights. -/
def lin (r : Fin 16384) (q : Fin 5632) : EReal := ∑ k : Fin 1024, a.hid r k * a.w1 (ix2 k q)

/-- The same, `d` rows earlier in the same sequence of 4096 rows; zero before its start. -/
def back (d : ℕ) (r : Fin 16384) (q : Fin 5632) : EReal :=
  if r.val % 4096 < d then 0 else a.lin ⟨r.val - d, by omega⟩ q

/-- The causal convolution over three rows. -/
def conv (r : Fin 16384) (q : Fin 5632) : EReal :=
  a.back 2 r q * a.cw (ix2 0 q) + a.back 1 r q * a.cw (ix2 1 q) + a.lin r q * a.cw (ix2 2 q) + a.cb (ix1 q)

/-- The gate's activation, the tangent form of the Gaussian unit. -/
def act (v : EReal) : EReal :=
  v * (Ideal.ofBits .f32 0x3F000000#32 * (1
    + Ideal.tanh (Ideal.ofBits .f32 0x3F4C422A#32 * (v + Ideal.ofBits .f32 0x3D372713#32 * (v * v * v)))))

/-- One half activated times the other half. -/
def gate (r : Fin 16384) (q : Fin 2816) : EReal :=
  act (a.conv r ⟨q.val, by omega⟩) * a.conv r ⟨2816 + q.val, by omega⟩

/-- The gated rows' product with the second weights. -/
def prod (r : Fin 16384) (j : Fin 1024) : EReal := ∑ q : Fin 2816, a.gate r q * a.w2 (ix2 q j)

/-- The residual plus that product scaled by its row's root mean square and by the weight. -/
def spec : FVec Ideal S16384x1024 .f32 := fun i =>
  a.x (ix2 (i 0) (i 1)) + a.prod (i 0) (i 1)
    * Ideal.rsqrt (Ideal.div (∑ k : Fin 1024, a.prod (i 0) k * a.prod (i 0) k) (Ideal.ofBits .f32 0x44800000#32)
        + Ideal.ofBits .f32 0x358637BD#32) * a.nwo (ix1 (i 1))

/-- The last two rows of each tile of 512, before the convolution, in the columns from `o` on. -/
def last (o : ℕ) (ho : o + 2816 ≤ 5632) : FVec Ideal S32x2x2816 .f32 := fun i =>
  a.lin ⟨(i 0).val * 512 + (510 + (i 1).val), by
    have h0 : (i 0).val < 32 := (i 0).isLt
    have h1 : (i 1).val < 2 := (i 1).isLt
    omega⟩ ⟨o + (i 2).val, by
    have h2 : (i 2).val < 2816 := (i 2).isLt
    omega⟩

/-- The arrays as the kernel's windows read them. -/
def arr : Arr Ideal :=
  ⟨a.x, fun y => a.nwi (ix1 (y 1)), fun y => a.w1 y, a.cw, fun y => a.cb (ix1 (y 1)), fun y => a.w2 y, fun y => a.nwo (ix1 (y 1))⟩

/-- A row of tile `i`, and a column of block `q`. -/
def row (i : ℕ) (hi : i < 32) (y : Fin 512) : Fin 16384 := ⟨i * 512 + y.val, by omega⟩
def col (q : ℕ) (hq : q < 22) (c : Fin 256) : Fin 5632 := ⟨q * 256 + c.val, by omega⟩

theorem xT_at (i : ℕ) (hi : i < 32) (y : Fin 512) (k : Fin 1024) : a.arr.xT i (ix2 y k) = a.x (ix2 (row i hi y) k) :=
  congrArg (fun r => a.x (ix2 r k)) (Fin.ext (Nat.mod_eq_of_lt (row i hi y).isLt))

theorem wT_at (q : ℕ) (hq : q < 22) (k : Fin 1024) (c : Fin 256) : a.arr.wT q (ix2 k c) = a.w1 (ix2 k (col q hq c)) :=
  congrArg (fun r => a.w1 (ix2 k r)) (Fin.ext (Nat.mod_eq_of_lt (col q hq c).isLt))

theorem cT_at (q : ℕ) (hq : q < 22) (k : Fin 3) (c : Fin 256) : a.arr.cT q (ix2 k c) = a.cw (ix2 k (col q hq c)) :=
  congrArg (fun r => a.cw (ix2 k r)) (Fin.ext (Nat.mod_eq_of_lt (col q hq c).isLt))

theorem bT_at (q : ℕ) (hq : q < 22) (k : Fin 1) (c : Fin 256) : a.arr.bT q (ix2 k c) = a.cb (ix1 (col q hq c)) :=
  congrArg (fun r => a.cb (ix1 r)) (Fin.ext (Nat.mod_eq_of_lt (col q hq c).isLt))

theorem oT_at (q : ℕ) (hq : q < 11) (c : Fin 256) (j : Fin 1024) : a.arr.oT q (ix2 c j) = a.w2 (ix2 ⟨q * 256 + c.val, by omega⟩ j) :=
  congrArg (fun r => a.w2 (ix2 r j)) (Fin.ext (Nat.mod_eq_of_lt (show q * 256 + c.val < 2816 by omega)))

theorem hid_at (i : ℕ) (hi : i < 32) (y : Fin 512) (k : Fin 1024) : a.arr.hid i (ix2 y k) = a.hid (row i hi y) k := by
  pointwise [Arr.hid, k0_pay3, hid]
  simp only [xT_at a i hi]
  rfl

theorem pay5_at (i : ℕ) (hi : i < 32) (q : ℕ) (hq : q < 22) (y : Fin 512) (c : Fin 256) :
    k0_pay5 (a.arr.hid i) (a.arr.wT q) (ix2 y c) = a.lin (row i hi y) (col q hq c) := by
  pointwise [k0_pay5, lin]
  simp only [hid_at a i hi, wT_at a q hq]

theorem uA_at (i : ℕ) (hi : i < 32) (q : ℕ) (hq : q < 22) (z : Fin 1) (y : Fin 512) (c : Fin 256) :
    a.arr.uA i q (ix3 z y c) = a.lin (row i hi y) (col q hq c) := by
  rw [← pay5_at a i hi q hq]
  unfold Arr.uA k0_pay6
  exact shapeCast_apply _ _ (ix3 z y c) (ix2 y c) (by rw [Shape.rowMajor_val_two, Shape.rowMajor_val_three]; show y.val * 256 + c.val = (z.val * 512 + y.val) * 256 + c.val; omega)

theorem zero_at (z : Fin 1) (y : Fin 8) (c : Fin 256) : k0_pay7 (F := Ideal) (ix3 z y c) = (0 : EReal) := by
  pointwise [k0_pay7]

theorem win_at (d k : ℕ) (hd : k + d = 8) (hd2 : d ≤ 2) (i : ℕ) (hi : i < 32) (q : ℕ) (hq : q < 22) (z : Fin 1) (y : Fin 512) (c : Fin 256) :
    win (a.arr.pA i q) (a.arr.uA i q) k (ix3 z y c) = a.back d (row i hi y) (col q hq c) := by
  have hy := y.isLt
  show up (a.arr.pA i q) (a.arr.uA i q) (k + y.val) c = _
  unfold up back
  by_cases h : k + y.val < 8
  · rw [if_pos h]
    unfold Arr.pA
    by_cases h8 : i % 8 = 0
    · rw [if_pos h8, zero_at, if_pos (show (row i hi y).val % 4096 < d by show (i * 512 + y.val) % 4096 < d; omega)]
    · rw [if_neg h8, if_neg (show ¬ (row i hi y).val % 4096 < d by show ¬ (i * 512 + y.val) % 4096 < d; omega)]
      show up k0_pay7 (a.arr.uA (i - 1) q) (512 + (k + y.val) % 8) c = _
      unfold up
      rw [if_neg (by omega), uA_at a (i - 1) (by omega) q hq]
      exact congrArg (fun r => a.lin r _) (Fin.ext (show (i - 1) * 512 + (512 + (k + y.val) % 8 - 8) % 512 = i * 512 + y.val - d by omega))
  · rw [if_neg h, if_neg (show ¬ (row i hi y).val % 4096 < d by show ¬ (i * 512 + y.val) % 4096 < d; omega), uA_at a i hi q hq]
    exact congrArg (fun r => a.lin r _) (Fin.ext (show i * 512 + (k + y.val - 8) % 512 = i * 512 + y.val - d by omega))

theorem cvA_at (i : ℕ) (hi : i < 32) (q : ℕ) (hq : q < 22) (y : Fin 512) (c : Fin 256) :
    a.arr.cvA i q (ix2 y c) = a.conv (row i hi y) (col q hq c) := by
  pointwise [Arr.cvA, k0_pay9, conv]
  rw [win_at a 2 6 rfl (by omega) i hi q hq, win_at a 1 7 rfl (by omega) i hi q hq, pay5_at a i hi q hq, cT_at a q hq, cT_at a q hq,
    cT_at a q hq, bT_at a q hq, mul_comm (a.cw _), mul_comm (a.cw _), mul_comm (a.cw _)]

theorem cvB_eq (A : Arr Ideal) (i j : ℕ) : A.cvB i j = A.cvA i (11 + j) := rfl

/-- The kernel's order of the activation's factors. -/
theorem act_eq (v : EReal) : Ideal.ofBits .f32 0x3F000000#32 * v * (1
    + Ideal.tanh (Ideal.ofBits .f32 0x3F4C422A#32 * (v + Ideal.ofBits .f32 0x3D372713#32 * (v * v * v)))) = act v := by
  unfold act
  rw [mul_comm (Ideal.ofBits .f32 0x3F000000#32) v, mul_assoc]

/-- One term of the product, by the column's number. -/
def term (r : Fin 16384) (j : Fin 1024) (q : ℕ) : EReal := if h : q < 2816 then a.gate r ⟨q, h⟩ * a.w2 (ix2 ⟨q, h⟩ j) else 0

theorem gate_at (i : ℕ) (hi : i < 32) (q : ℕ) (hq : q < 11) (y : Fin 512) (c : Fin 256) :
    act (a.conv (row i hi y) (col q (by omega) c)) * a.conv (row i hi y) (col (11 + q) (by omega) c)
      = a.gate (row i hi y) ⟨q * 256 + c.val, by omega⟩ :=
  congrArg (fun k => act (a.conv (row i hi y) (col q (by omega) c)) * a.conv (row i hi y) k)
    (Fin.ext (show (11 + q) * 256 + c.val = 2816 + (q * 256 + c.val) by omega))

theorem acc_at (i : ℕ) (hi : i < 32) (y : Fin 512) (j : Fin 1024) (n : ℕ) (hn : n ≤ 11) :
    a.arr.acc i n (ix2 y j) = ∑ q ∈ Finset.range (n * 256), a.term (row i hi y) j q := by
  induction n with
  | zero =>
    rw [Nat.zero_mul, Finset.range_zero, Finset.sum_empty]
    pointwise [Arr.acc, k0_pay4]
  | succ n ih =>
    rw [Nat.succ_mul, Finset.sum_range_add, ← ih (by omega), Finset.sum_range]
    pointwise [Arr.acc, k0_pay1, k0_pay20, k0_pay21]
    refine congrArg (a.arr.acc i n (ix2 y j) + ·) (Finset.sum_congr rfl fun c _ => ?_)
    have hq : n * 256 + c.val < 2816 := by have := c.isLt; omega
    rw [cvB_eq, cvA_at a i hi n (by omega), cvA_at a i hi (11 + n) (by omega), oT_at a n (by omega), act_eq,
      gate_at a i hi n (by omega), term, dif_pos hq]

theorem acc_last (i : ℕ) (hi : i < 32) (y : Fin 512) (j : Fin 1024) : a.arr.acc i 11 (ix2 y j) = a.prod (row i hi y) j := by
  rw [acc_at a i hi y j 11 (le_refl _), Finset.sum_range]
  exact Finset.sum_congr rfl fun q _ => dif_pos q.isLt

theorem out_at (i : ℕ) (hi : i < 32) (y : Fin 512) (j : Fin 1024) : a.arr.out i (ix2 y j) = a.spec (ix2 (row i hi y) j) := by
  pointwise [Arr.out, k0_pay2, spec]
  simp only [acc_last a i hi, xT_at a i hi]
  rfl

theorem lastR_at (i : ℕ) (hi : i < 32) (q : ℕ) (hq : q < 22) (z : Fin 1) (y : Fin 2) (c : Fin 256) :
    lastR (a.arr.pA i q) (a.arr.uA i q) (ix3 z y c) = a.lin ⟨i * 512 + (510 + y.val), by omega⟩ (col q hq c) := by
  show up (a.arr.pA i q) (a.arr.uA i q) (518 + y.val) c = _
  unfold up
  rw [if_neg (by omega), uA_at a i hi q hq]
  exact congrArg (fun r => a.lin r _) (Fin.ext (show i * 512 + (518 + y.val - 8) % 512 = i * 512 + (510 + y.val) by omega))

theorem lastA_at (i : ℕ) (hi : i < 32) (q : ℕ) (hq : q < 22) (z : Fin 1) (y : Fin 2) (c : Fin 256) :
    a.arr.lastA i q (ix3 z y c) = a.lin ⟨i * 512 + (510 + y.val), by omega⟩ (col q hq c) := by
  rw [← lastR_at a i hi q hq z y c]
  unfold Arr.lastA k0_pay12 k0_pay11
  rw [shapeCast_apply _ _ (ix3 z y c) (ix2 y c) (by rw [Shape.rowMajor_val_two, Shape.rowMajor_val_three]; show y.val * 256 + c.val = (z.val * 2 + y.val) * 256 + c.val; omega)]
  exact shapeCast_apply _ _ (ix2 y c) (ix3 z y c) (by rw [Shape.rowMajor_val_two, Shape.rowMajor_val_three]; show (z.val * 2 + y.val) * 256 + c.val = y.val * 256 + c.val; omega)

theorem lastB_eq (A : Arr Ideal) (i j : ℕ) : A.lastB i j = A.lastA i (11 + j) := rfl

end In

end Cert.FfnIdeal.Hand

end
-- ==== Proof.FfnRef.lean ====
/- The feed-forward call's reference: its three results, element by element, in the terms the kernel's tiles are read in. -/
module

public import proofs.«01_k».proof.Proof.FfnVal
public import proofs.«01_k».proof.Proof.Gen.FfnRefIdeal.Run

@[expose] public section

set_option maxRecDepth 16384

noncomputable section

namespace Cert.FfnRefIdeal.Hand

open Cert.FfnRefIdeal Cert.FfnRefIdeal.Gen Idealize.ShloMosaic Idealize.ShloMosaic.TcCoe Idealize.SL.Sem
open Cert.FfnIdeal.Hand (In)

variable (m : (ℓ : Loc nD τ sig) → Buf (Elt Ideal) ℓ)

/-- The arguments a memory holds. -/
def inOf (c : Dev nD) : In := ⟨m ((c : Thread nD τ).loc main_arg0), m ((c : Thread nD τ).loc main_arg1),
  m ((c : Thread nD τ).loc main_arg2), m ((c : Thread nD τ).loc main_arg3), m ((c : Thread nD τ).loc main_arg4),
  m ((c : Thread nD τ).loc main_arg5), m ((c : Thread nD τ).loc main_arg6)⟩

/-- The row two, and the row one, before, as the reference counts them: within the sequence. -/
theorem back2 (a : In) (r : Fin 16384) (q : Fin 5632) : a.back 2 r q = if h : r.val % 4096 < 2 then 0
    else a.lin ⟨r.val / 4096 * 4096 + (r.val % 4096 - 2), by omega⟩ q := by
  unfold In.back
  by_cases h : r.val % 4096 < 2
  · rw [if_pos h, dif_pos h]
  · rw [if_neg h, dif_neg h]
    exact congrArg (fun k => a.lin k q) (Fin.ext (by show r.val - 2 = r.val / 4096 * 4096 + (r.val % 4096 - 2); omega))

theorem back1 (a : In) (r : Fin 16384) (q : Fin 5632) : a.back 1 r q = if h : 1 + r.val % 4096 < 2 then 0
    else a.lin ⟨r.val / 4096 * 4096 + (1 + r.val % 4096 - 2), by omega⟩ q := by
  unfold In.back
  by_cases h : r.val % 4096 < 1
  · rw [if_pos h, dif_pos (by omega)]
  · rw [if_neg h, dif_neg (by omega)]
    exact congrArg (fun k => a.lin k q) (Fin.ext (by show r.val - 1 = r.val / 4096 * 4096 + (1 + r.val % 4096 - 2); omega))

set_option maxHeartbeats 1000000 in
theorem res0 (c : Dev nD) : Value.res_main_v73 m c = (inOf m c).spec := by
  funext i
  idx_vars i
  unfold Value.res_main_v73
  pointwise [In.spec, In.prod, In.gate, In.act, In.conv, back2, back1, In.lin, In.hid, inOf]

end Cert.FfnRefIdeal.Hand

end
-- ==== Proof.FfnTie.lean ====
/- The feed-forward call: each of the kernel's three result arrays is the reference's, at every index. -/
module

public import proofs.«01_k».proof.Proof.FfnVal
public import proofs.«01_k».proof.Proof.FfnFrame
public import proofs.«01_k».proof.Proof.FfnRef
public import proofs.«01_k».proof.Defs
public import Idealize.ShloMosaic.Lib.Pipeline.ValueKit

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The arguments a memory holds. -/
def inOf (c : Dev nD) : In := ⟨m ((c : Thread nD τ).loc main_arg0), m ((c : Thread nD τ).loc main_arg1),
  m ((c : Thread nD τ).loc main_arg2), m ((c : Thread nD τ).loc main_arg3), m ((c : Thread nD τ).loc main_arg4),
  m ((c : Thread nD τ).loc main_arg5), m ((c : Thread nD τ).loc main_arg6)⟩

theorem nwiV (c : Dev nD) (z : Fin 1) (k : Fin 1024) : V m c main_v3 (ix2 z k) = m ((c : Thread nD τ).loc main_arg1) (ix1 k) := by
  simp only [V, hostOps0, List.flatten_cons, List.flatten_nil, List.append_nil, List.cons_append, List.nil_append]
  entry_read
  pointwise

theorem nwoV (c : Dev nD) (z : Fin 1) (k : Fin 1024) : V m c main_v4 (ix2 z k) = m ((c : Thread nD τ).loc main_arg6) (ix1 k) := by
  simp only [V, hostOps0, List.flatten_cons, List.flatten_nil, List.append_nil, List.cons_append, List.nil_append]
  entry_read
  pointwise

theorem cbV (c : Dev nD) (z : Fin 1) (k : Fin 5632) : V m c main_v2 (ix2 z k) = m ((c : Thread nD τ).loc main_arg4) (ix1 k) := by
  simp only [V, hostOps0, List.flatten_cons, List.flatten_nil, List.append_nil, List.cons_append, List.nil_append]
  entry_read
  pointwise

theorem w1V (c : Dev nD) (p : Fin 1024) (k : Fin 5632) : V m c main_v0 (ix2 p k) = m ((c : Thread nD τ).loc main_arg2) (ix2 p k) := by
  simp only [V, hostOps0, List.flatten_cons, List.flatten_nil, List.append_nil, List.cons_append, List.nil_append]
  entry_read
  pointwise

theorem w2V (c : Dev nD) (p : Fin 2816) (k : Fin 1024) : V m c main_v1 (ix2 p k) = m ((c : Thread nD τ).loc main_arg5) (ix2 p k) := by
  simp only [V, hostOps0, List.flatten_cons, List.flatten_nil, List.append_nil, List.cons_append, List.nil_append]
  entry_read
  pointwise

theorem arrOf_eq (c : Dev nD) : arrOf m c = (inOf m c).arr := by
  have e0 : V m c main_arg0 = (inOf m c).x := V_main_arg0 m c
  have e3 : V m c main_arg3 = (inOf m c).cw := V_main_arg3 m c
  have e1 : V m c main_v3 = (inOf m c).arr.nwi := by funext y; idx_vars y; exact nwiV m c y0 y1
  have e2 : V m c main_v0 = (inOf m c).arr.w1 := by funext y; idx_vars y; exact w1V m c y0 y1
  have e4 : V m c main_v2 = (inOf m c).arr.cb := by funext y; idx_vars y; exact cbV m c y0 y1
  have e5 : V m c main_v1 = (inOf m c).arr.w2 := by funext y; idx_vars y; exact w2V m c y0 y1
  have e6 : V m c main_v4 = (inOf m c).arr.nwo := by funext y; idx_vars y; exact nwoV m c y0 y1
  unfold arrOf
  rw [e0, e1, e2, e3, e4, e5, e6]
  rfl

theorem final10 (c : Dev nD) : (dats m 0 c).arrAt 10 (cfgs 0).N = (inOf m c).spec := by
  refine (dats m 0 c).arrAt_eq_of_covers 10 _ (by decide +kernel) fun t _ y => ?_
  have ht := pt_lt t
  blk_simp
  rw [after10, arrOf_eq]
  idx_vars y
  rw [In.out_at _ _ (by omega)]
  refine congrArg (inOf m c).spec ?_
  unfold In.row
  blk_ext [idx t]

theorem final11 (c : Dev nD) : (dats m 0 c).arrAt 11 (cfgs 0).N = (inOf m c).last 0 (by omega) := by
  refine (dats m 0 c).arrAt_eq_of_covers 11 _ (by decide +kernel) fun t _ y => ?_
  have ht := pt_lt t
  blk_simp
  rw [after11, arrOf_eq]
  idx_vars y
  rw [In.lastA_at _ _ (by omega) _ (by omega)]
  have e : (win0_11.blk t).view.emb (ix3 y0 y1 y2) = ix3 ⟨t.val / 11, by omega⟩ y1 ⟨t.val % 11 * 256 + y2.val, by omega⟩ := by
    blk_ext [idx t]
  refine Eq.trans ?_ (congrArg ((inOf m c).last 0 (by omega)) e).symm
  exact congrArg ((inOf m c).lin _) (Fin.ext (show t.val % 11 * 256 + y2.val = 0 + (t.val % 11 * 256 + y2.val) by omega))

theorem final12 (c : Dev nD) : (dats m 0 c).arrAt 12 (cfgs 0).N = (inOf m c).last 2816 (by omega) := by
  refine (dats m 0 c).arrAt_eq_of_covers 12 _ (by decide +kernel) fun t _ y => ?_
  have ht := pt_lt t
  blk_simp
  rw [after12, arrOf_eq]
  idx_vars y
  rw [In.lastB_eq, In.lastA_at _ _ (by omega) _ (by omega)]
  have e : (win0_12.blk t).view.emb (ix3 y0 y1 y2) = ix3 ⟨t.val / 11, by omega⟩ y1 ⟨t.val % 11 * 256 + y2.val, by omega⟩ := by
    blk_ext [idx t]
  refine Eq.trans ?_ (congrArg ((inOf m c).last 2816 (by omega)) e).symm
  exact congrArg ((inOf m c).lin _) (Fin.ext (show (11 + t.val % 11) * 256 + y2.val = 2816 + (t.val % 11 * 256 + y2.val) by omega))

theorem run (ρ : Dev nD → PrngReg) : θ_run defs (onTc (τ := τ) (main (F := Ideal))) ⟨m, fun _ => 0, ρ⟩ (fun r => ∀ c : Dev nD,
      r.2.mem ((c.tc : Thread nD τ).loc main_v5_0) = (inOf m c).spec
      ∧ r.2.mem ((c.tc : Thread nD τ).loc main_v5_1) = (inOf m c).last 0 (by omega)
      ∧ r.2.mem ((c.tc : Thread nD τ).loc main_v5_2) = (inOf m c).last 2816 (by omega)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 10).trans (final10 m c), ((h.1 c).1 11).trans (final11 m c),
    ((h.1 c).1 12).trans (final12 m c), h.2 c⟩)
    (θ_run_and (run_main m ρ) (frame_of m ρ (dats m) (A_eq m) (run_main m ρ)))

theorem tie : Cert.algebraic_FfnIdeal_FfnRefIdeal := by
  intro m g m' g' _ hag
  have e (c : Dev nD) : Cert.FfnRefIdeal.Hand.inOf m' c = inOf m c := by
    obtain ⟨h0, h1, h2, h3, h4, h5, h6⟩ := hag c
    unfold Cert.FfnRefIdeal.Hand.inOf inOf
    rw [h0, h1, h2, h3, h4, h5, h6]
  refine ⟨fun c => (inOf m c).spec, fun c => (inOf m c).last 0 (by omega), fun c => (inOf m c).last 2816 (by omega), run m g,
    (θ_run _ _ _).mono (fun r h c => ⟨(h c).1.trans ?_, (h c).2.1.trans ?_, (h c).2.2.1.trans ?_, (h c).2.2.2⟩)
      (Cert.FfnRefIdeal.Value.run m' g')⟩
  · exact (Cert.FfnRefIdeal.Hand.res0 m' c).trans (congrArg In.spec (e c))
  · refine Eq.trans ?_ (congrArg (fun a => In.last a 0 (by omega)) (e c))
    funext i
    idx_vars i
    pointwise [In.last, In.lin, In.hid, Cert.FfnRefIdeal.Hand.inOf]
  · refine Eq.trans ?_ (congrArg (fun a => In.last a 2816 (by omega)) (e c))
    funext i
    idx_vars i
    pointwise [In.last, In.lin, In.hid, Cert.FfnRefIdeal.Hand.inOf]

end Cert.FfnIdeal.Hand

end
-- ==== Proof.Ffn.lean ====
/- The feed-forward program as it is printed: the same text as the one read over the extended reals, so the same run. -/
module

public import proofs.«01_k».proof.Proof.Gen.Ffn.Frame
public import proofs.«01_k».proof.Proof.FfnFrame
public import proofs.«01_k».proof.Proof.FfnTie

@[expose] public section

set_option maxRecDepth 16384

noncomputable section

namespace Cert.Ffn.Hand

open Cert.Ffn Cert.Ffn.Gen Idealize.ShloMosaic Idealize.ShloMosaic.TcCoe Idealize.SL.Sem

theorem sig_eq : Cert.Ffn.sig = Cert.FfnIdeal.sig := rfl

set_option maxHeartbeats 4000000 in
theorem body_eq {F : FTy → Type} [FloatOps F] : @Cert.Ffn.cc0_conv_ffn F _ _ = @Cert.FfnIdeal.cc0_conv_ffn F _ _ := rfl

set_option maxHeartbeats 4000000 in
theorem main_eq {F : FTy → Type} [FloatOps F] : @Cert.Ffn.main F _ _ = @Cert.FfnIdeal.main F _ _ := rfl

theorem cfgs_eq : Cert.Ffn.cfgs = Cert.FfnIdeal.cfgs := rfl

set_option maxHeartbeats 4000000 in
theorem inner_eq {F : FTy → Type} [FloatOps F] : @Cert.Ffn.defs₀ F _ _ = @Cert.FfnIdeal.defs₀ F _ _ := by
  unfold Cert.Ffn.defs₀ Cert.FfnIdeal.defs₀
  refine congrArg Defs.onTc ?_
  funext b a
  match b, a with
  | 0, (t, s) =>
    dsimp only
    rw [body_eq]
    rfl

set_option maxHeartbeats 4000000 in
theorem defs_eq {F : FTy → Type} [FloatOps F] : @Cert.Ffn.defs F _ _ = @Cert.FfnIdeal.defs F _ _ := by
  unfold Cert.Ffn.defs Cert.FfnIdeal.defs
  rw [inner_eq]
  rfl

set_option maxHeartbeats 4000000 in
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [main_eq, defs_eq]
  exact Cert.FfnIdeal.Hand.frame m ρ

end Cert.Ffn.Hand

end
-- ==== Proof.ProjOS.lean ====
/- The odd layers' input projection of the sample's rows: each of the kernel's four result arrays is the reference's, at every
   index. The rows are normed and multiplied as in the prompt's projection; only their number differs. -/
module

public import proofs.«01_k».proof.Proof.Gen.ProjOSIdeal.Value
public import proofs.«01_k».proof.Proof.Gen.ProjOSRefIdeal.Run
public import proofs.«01_k».proof.Proof.ProjO

@[expose] public section

set_option maxRecDepth 16384

noncomputable section

namespace Cert.ProjOSIdeal.Hand

open Cert.Gates Cert.ProjOSIdeal Cert.ProjOSIdeal.Gen Idealize.ShloMosaic Idealize.ShloMosaic.TcCoe Idealize.SL.Sem
open Idealize.ShloMosaic.Pipeline (Dat)
open Cert.ProjOIdeal.Hand (hid lin wPad wPad_at bPad bPad_at lane_lt lane_ge)

variable (m : (ℓ : Loc nD τ sig) → Buf (Elt Ideal) ℓ)

/-- The sample's arguments. -/
structure In where
  x : FVec Ideal S32x1024 .f32
  nw : FVec Ideal S1024 .f32
  w : FVec Ideal S1024x3088 .f32
  b : FVec Ideal S16 .f32

namespace In
variable (a : In)

/-- One element of the projection. -/
def at' (r : Fin 32) (j : Fin 3088) : EReal := lin (fun k => a.x (ix2 r k)) a.nw a.w j

/-- The projection's columns from `o` on. -/
def part (o : ℕ) (ho : o + 1024 ≤ 3088) : FVec Ideal S32x1024 .f32 := fun i =>
  a.at' (i 0) ⟨o + (i 1).val, by have : (i 1).val < 1024 := (i 1).isLt; omega⟩

/-- The logarithm of each head's forget gate, and zero in the lanes no head owns. -/
def gates : FVec Ideal S32x128 .f32 := fun i =>
  if h : (i 1).val < 16 then lsg (a.at' (i 0) ⟨3072 + (i 1).val, by omega⟩ + a.b (ix1 ⟨(i 1).val, h⟩)) else 0

end In

/-- The arguments a memory holds. -/
def inOf (c : Dev nD) : In := ⟨m ((c : Thread nD τ).loc main_arg0), m ((c : Thread nD τ).loc main_arg1),
  m ((c : Thread nD τ).loc main_arg2), m ((c : Thread nD τ).loc main_arg3)⟩

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

theorem xB (c : Dev nD) (t : Fin cfg0.N) (r : Fin 32) (k : Fin 1024) : iblk m c 0 t (ix2 r k) = (inOf m c).x (ix2 r k) := by
  blk_point [iblk, V, idx t]

theorem nwB (c : Dev nD) (t : Fin cfg0.N) (k : Fin 1024) : iblk m c 1 t (ix2 0 k) = (inOf m c).nw (ix1 k) := by
  have e : (win0_1.blk t).view.emb (ix2 0 k) = ix2 0 k := by blk_ext [idx t]
  refine (congrArg (V m c main_v7) e).trans ?_
  simp only [V, hostOps0, hostOps0_1, hostOps0_2, hostOps0_3, hostOps0_4, List.flatten_cons, List.flatten_nil,
    List.append_nil, List.cons_append, List.nil_append]
  entry_read
  pointwise [inOf]

theorem wV (c : Dev nD) : V m c main_v4 = wPad (inOf m c).w := by
  simp only [V, hostOps0, hostOps0_1, hostOps0_2, hostOps0_3, hostOps0_4, List.flatten_cons, List.flatten_nil,
    List.append_nil, List.cons_append, List.nil_append]
  entry_read
  rfl

theorem bV (c : Dev nD) : V m c main_v6 = bPad (inOf m c).b := by
  simp only [V, hostOps0, hostOps0_1, hostOps0_2, hostOps0_3, hostOps0_4, List.flatten_cons, List.flatten_nil,
    List.append_nil, List.cons_append, List.nil_append]
  entry_read
  rfl

theorem wB (c : Dev nD) (t : Fin cfg0.N) (k : Fin 1024) (j : Fin 3200) : iblk m c 2 t (ix2 k j)
    = if h : j.val < 3088 then (inOf m c).w (ix2 k ⟨j.val, h⟩) else (0 : EReal) := by
  have e : (win0_2.blk t).view.emb (ix2 k j) = ix2 k j := by blk_ext [idx t]
  exact (congrArg (V m c main_v4) e).trans (by rw [wV, wPad_at])

theorem bB (c : Dev nD) (t : Fin cfg0.N) (j : Fin 128) : iblk m c 3 t (ix2 0 j)
    = if h : j.val < 16 then (inOf m c).b (ix1 ⟨j.val, h⟩) else (0 : EReal) := by
  have e : (win0_3.blk t).view.emb (ix2 0 j) = ix2 0 j := by blk_ext [idx t]
  exact (congrArg (V m c main_v6) e).trans (by rw [bV, bPad_at])

theorem final4 (c : Dev nD) : (dats m 0 c).arrAt 4 (cfgs 0).N = (inOf m c).part 0 (by omega) := by
  refine (dats m 0 c).arrAt_eq_of_covers 4 _ (by decide +kernel) fun t _ y => ?_
  blk_simp
  rw [after0_4]; frame_out
  idx_vars y
  have h : 0 + y1.val < 3088 := by omega
  have h' : y1.val < 3088 := by omega
  pointwise [k0_pay3, k0_pay2, In.part, In.at', lin, hid]
  simp only [xB, nwB, wB, h, h', ↓reduceDIte]
  blk_point [idx t]

theorem final5 (c : Dev nD) : (dats m 0 c).arrAt 5 (cfgs 0).N = (inOf m c).part 1024 (by omega) := by
  refine (dats m 0 c).arrAt_eq_of_covers 5 _ (by decide +kernel) fun t _ y => ?_
  blk_simp
  rw [after0_5]; frame_out
  idx_vars y
  have h : 1024 + y1.val < 3088 := by omega
  have h' : y1.val < 3088 := by omega
  pointwise [k0_pay4, k0_pay2, In.part, In.at', lin, hid]
  simp only [xB, nwB, wB, h, h', ↓reduceDIte]
  blk_point [idx t]

theorem final6 (c : Dev nD) : (dats m 0 c).arrAt 6 (cfgs 0).N = (inOf m c).part 2048 (by omega) := by
  refine (dats m 0 c).arrAt_eq_of_covers 6 _ (by decide +kernel) fun t _ y => ?_
  blk_simp
  rw [after0_6]; frame_out
  idx_vars y
  have h : 2048 + y1.val < 3088 := by omega
  have h' : y1.val < 3088 := by omega
  pointwise [k0_pay5, k0_pay2, In.part, In.at', lin, hid]
  simp only [xB, nwB, wB, h, h', ↓reduceDIte]
  blk_point [idx t]

theorem final7 (c : Dev nD) : (dats m 0 c).arrAt 7 (cfgs 0).N = (inOf m c).gates := by
  refine (dats m 0 c).arrAt_eq_of_covers 7 _ (by decide +kernel) fun t _ y => ?_
  blk_simp
  rw [after0_7]; frame_out
  idx_vars y
  have e : ((View.whole main_v8_3).slice (win0_7.rect t)).emb (ix2 y0 y1) = ix2 y0 y1 := by blk_ext [idx t]
  simp only [e]
  pointwise [k0_pay1, k0_pay6, k0_pay2, In.gates, In.at', lin, hid]
  simp only [xB, nwB, wB, bB]
  by_cases h : y1.val < 16
  · have h' : 3072 + y1.val < 3088 := by omega
    simp only [h, h', ↓reduceDIte, lane_lt _ h, lsg_ker]
  · have h' : ¬ 3072 + y1.val < 3088 := by omega
    simp only [h, h', ↓reduceDIte, lane_ge _ h, mul_zero, Finset.sum_const_zero, zero_add]
    rfl

theorem tie : Cert.algebraic_ProjOSIdeal_ProjOSRefIdeal := by
  intro m g m' g' _ hag
  refine ⟨fun c => (dats m 0 c).arrAt 4 cfg0.N, fun c => (dats m 0 c).arrAt 5 cfg0.N,
    fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_,
      (h c).2.2.2.2⟩) (Cert.ProjOSRefIdeal.Value.run m' g')⟩
  · rw [(hag c).1, (hag c).2.1, (hag c).2.2.1]
    refine Eq.trans ?_ (final4 m c).symm
    funext i
    idx_vars i
    pointwise [inOf, In.part, In.at', lin, hid]
  · rw [(hag c).1, (hag c).2.1, (hag c).2.2.1]
    refine Eq.trans ?_ (final5 m c).symm
    funext i
    idx_vars i
    pointwise [inOf, In.part, In.at', lin, hid]
  · rw [(hag c).1, (hag c).2.1, (hag c).2.2.1]
    refine Eq.trans ?_ (final6 m c).symm
    funext i
    idx_vars i
    pointwise [inOf, In.part, In.at', lin, hid]
  · unfold Cert.ProjOSRefIdeal.Value.res_main_v22
    rw [(hag c).1, (hag c).2.1, (hag c).2.2.1, (hag c).2.2.2]
    refine Eq.trans ?_ (final7 m c).symm
    funext i
    idx_vars i
    pointwise [inOf, In.gates, In.at', lin, hid]
    simp only [lsg_ref, sitofp_zero]

end Cert.ProjOSIdeal.Hand

end
-- ==== Proof.FfnS.lean ====
/- The feed-forward call of the sample's rows: each of the kernel's three result arrays is the reference's, at every index. -/
module

public import proofs.«01_k».proof.Proof.Gen.FfnSIdeal.Value
public import proofs.«01_k».proof.Proof.Gen.FfnSRefIdeal.Run
public import proofs.«01_k».proof.Defs
public import proofs.«01_k».proof.Proof.FfnVal
public import Idealize.ShloMosaic.Lib.Pipeline.ValueKit
public import Idealize.ShloMosaic.Lib.Pipeline.ReadBack

@[expose] public section

set_option maxRecDepth 16384

noncomputable section

namespace Cert.FfnSIdeal.Hand

open Cert.FfnSIdeal Cert.FfnSIdeal.Gen Idealize.ShloMosaic Idealize.ShloMosaic.TcCoe Idealize.SL.Sem
open Idealize.ShloMosaic.Pipeline (Dat)
open Cert.FfnIdeal.Hand.In (act act_eq)

variable (m : (ℓ : Loc nD τ sig) → Buf (Elt Ideal) ℓ)

/-- The call's arguments; `st` holds each sequence's two rows before this one. -/
structure In where
  x : FVec Ideal S32x1024 .f32
  nwi : FVec Ideal S1024 .f32
  w1 : FVec Ideal S1024x5632 .f32
  cw : FVec Ideal S3x5632 .f32
  cb : FVec Ideal S5632 .f32
  w2 : FVec Ideal S2816x1024 .f32
  nwo : FVec Ideal S1024 .f32
  st : FVec Ideal S32x2x5632 .f32

namespace In
variable (a : In)

/-- Row `r` scaled by its root mean square and by the norm's weight. -/
def hid (r : Fin 32) (k : Fin 1024) : EReal :=
  a.x (ix2 r k) * Ideal.rsqrt (Ideal.div (∑ k : Fin 1024, a.x (ix2 r k) * a.x (ix2 r k)) (Ideal.ofBits .f32 0x44800000#32)
    + Ideal.ofBits .f32 0x358637BD#32) * a.nwi (ix1 k)

/-- One element of the normed rows' product with the first weights. -/
def lin (r : Fin 32) (q : Fin 5632) : EReal := ∑ k : Fin 1024, a.hid r k * a.w1 (ix2 k q)

/-- The convolution over the two rows kept and this one. -/
def conv (r : Fin 32) (q : Fin 5632) : EReal :=
  a.st (ix3 r 0 q) * a.cw (ix2 0 q) + a.st (ix3 r 1 q) * a.cw (ix2 1 q) + a.lin r q * a.cw (ix2 2 q) + a.cb (ix1 q)

/-- One half activated times the other half. -/
def gate (r : Fin 32) (q : Fin 2816) : EReal :=
  act (a.conv r ⟨q.val, by omega⟩) * a.conv r ⟨2816 + q.val, by omega⟩

/-- The gated rows' product with the second weights. -/
def prod (r : Fin 32) (j : Fin 1024) : EReal := ∑ q : Fin 2816, a.gate r q * a.w2 (ix2 q j)

/-- The residual plus that product scaled by its row's root mean square and by the weight. -/
def spec : FVec Ideal S32x1024 .f32 := fun i =>
  a.x (ix2 (i 0) (i 1)) + a.prod (i 0) (i 1)
    * Ideal.rsqrt (Ideal.div (∑ k : Fin 1024, a.prod (i 0) k * a.prod (i 0) k) (Ideal.ofBits .f32 0x44800000#32)
        + Ideal.ofBits .f32 0x358637BD#32) * a.nwo (ix1 (i 1))

/-- The rows before the convolution, in the columns from `o` on. -/
def part (o : ℕ) (ho : o + 2816 ≤ 5632) : FVec Ideal S32x2816 .f32 := fun i =>
  a.lin (i 0) ⟨o + (i 1).val, by have : (i 1).val < 2816 := (i 1).isLt; omega⟩

/-- A column of block `q`. -/
def col (q : ℕ) (hq : q < 22) (c : Fin 256) : Fin 5632 := ⟨q * 256 + c.val, by omega⟩

/-- One term of the product, by the column's number. -/
def term (r : Fin 32) (j : Fin 1024) (q : ℕ) : EReal := if h : q < 2816 then a.gate r ⟨q, h⟩ * a.w2 (ix2 ⟨q, h⟩ j) else 0

theorem gate_at (r : Fin 32) (q : ℕ) (hq : q < 11) (c : Fin 256) :
    act (a.conv r (col q (by omega) c)) * a.conv r (col (11 + q) (by omega) c) = a.gate r ⟨q * 256 + c.val, by omega⟩ :=
  congrArg (fun k => act (a.conv r (col q (by omega) c)) * a.conv r k)
    (Fin.ext (show (11 + q) * 256 + c.val = 2816 + (q * 256 + c.val) by omega))

end In

/-- The arguments a memory holds. -/
def inOf (c : Dev nD) : In := ⟨m ((c : Thread nD τ).loc main_arg0), m ((c : Thread nD τ).loc main_arg1),
  m ((c : Thread nD τ).loc main_arg2), m ((c : Thread nD τ).loc main_arg3), m ((c : Thread nD τ).loc main_arg4),
  m ((c : Thread nD τ).loc main_arg5), m ((c : Thread nD τ).loc main_arg6), m ((c : Thread nD τ).loc main_arg7)⟩

theorem idx : ∀ t : Fin cfg0.N, win0_0.index t = ![0, 0] ∧ win0_1.index t = ![0, 0] ∧ win0_2.index t = ![0, t.val]
    ∧ win0_3.index t = ![0, 11 + t.val] ∧ win0_4.index t = ![0, t.val] ∧ win0_5.index t = ![0, 11 + t.val]
    ∧ win0_6.index t = ![0, t.val] ∧ win0_7.index t = ![0, 11 + t.val] ∧ win0_8.index t = ![t.val, 0]
    ∧ win0_9.index t = ![0, 0] ∧ win0_10.index t = ![0, t.val] ∧ win0_11.index t = ![0, 11 + t.val]
    ∧ win0_12.index t = ![0, t.val] ∧ win0_13.index t = ![0, 11 + t.val] ∧ win0_14.index t = ![0, 0]
    ∧ win0_15.index t = ![0, t.val] ∧ win0_16.index t = ![0, t.val] :=
  (by decide +kernel : ∀ t : Fin grid0.N, _)

theorem pt_lt (t : Fin cfg0.N) : t.val < 11 := t.isLt

/-! ## The blocks a point reads -/

theorem xB (c : Dev nD) (t : Fin cfg0.N) (r : Fin 32) (k : Fin 1024) : iblk m c 0 t (ix2 r k) = (inOf m c).x (ix2 r k) := by
  blk_point [iblk, V, idx t]

theorem nwiB (c : Dev nD) (t : Fin cfg0.N) (k : Fin 1024) : iblk m c 1 t (ix2 0 k) = (inOf m c).nwi (ix1 k) := by
  have e : (win0_1.blk t).view.emb (ix2 0 k) = ix2 0 k := by blk_ext [idx t]
  refine (congrArg (V m c main_v3) e).trans ?_
  simp only [V, hostOps0, List.flatten_cons, List.flatten_nil, List.append_nil, List.cons_append, List.nil_append]
  entry_read
  pointwise [inOf]

theorem nwoB (c : Dev nD) (t : Fin cfg0.N) (k : Fin 1024) : iblk m c 9 t (ix2 0 k) = (inOf m c).nwo (ix1 k) := by
  have e : (win0_9.blk t).view.emb (ix2 0 k) = ix2 0 k := by blk_ext [idx t]
  refine (congrArg (V m c main_v4) e).trans ?_
  simp only [V, hostOps0, List.flatten_cons, List.flatten_nil, List.append_nil, List.cons_append, List.nil_append]
  entry_read
  pointwise [inOf]

theorem w1V (c : Dev nD) (p : Fin 1024) (k : Fin 5632) : V m c main_v0 (ix2 p k) = (inOf m c).w1 (ix2 p k) := by
  simp only [V, hostOps0, List.flatten_cons, List.flatten_nil, List.append_nil, List.cons_append, List.nil_append]
  entry_read
  pointwise [inOf]

theorem cbV (c : Dev nD) (k : Fin 5632) : V m c main_v2 (ix2 0 k) = (inOf m c).cb (ix1 k) := by
  simp only [V, hostOps0, List.flatten_cons, List.flatten_nil, List.append_nil, List.cons_append, List.nil_append]
  entry_read
  pointwise [inOf]

theorem s0V (c : Dev nD) (r : Fin 32) (k : Fin 5632) : V m c main_v6 (ix2 r k) = (inOf m c).st (ix3 r 0 k) := by
  simp only [V, hostOps0, List.flatten_cons, List.flatten_nil, List.append_nil, List.cons_append, List.nil_append]
  entry_read
  pointwise [inOf]

theorem s1V (c : Dev nD) (r : Fin 32) (k : Fin 5632) : V m c main_v8 (ix2 r k) = (inOf m c).st (ix3 r 1 k) := by
  simp only [V, hostOps0, List.flatten_cons, List.flatten_nil, List.append_nil, List.cons_append, List.nil_append]
  entry_read
  pointwise [inOf]

theorem w2B (c : Dev nD) (t : Fin cfg0.N) (q : Fin 256) (j : Fin 1024) : iblk m c 8 t (ix2 q j)
    = (inOf m c).w2 (ix2 ⟨t.val * 256 + q.val, by have := pt_lt t; omega⟩ j) := by
  have := pt_lt t
  have e : (win0_8.blk t).view.emb (ix2 q j) = ix2 ⟨t.val * 256 + q.val, by omega⟩ j := by blk_ext [idx t]
  refine (congrArg (V m c main_v1) e).trans ?_
  simp only [V, hostOps0, List.flatten_cons, List.flatten_nil, List.append_nil, List.cons_append, List.nil_append]
  entry_read
  pointwise [inOf]

theorem w1B (c : Dev nD) (t : Fin cfg0.N) (k : Fin 1024) (q : Fin 256) :
    iblk m c 2 t (ix2 k q) = (inOf m c).w1 (ix2 k (In.col t.val (by have := pt_lt t; omega) q))
    ∧ iblk m c 3 t (ix2 k q) = (inOf m c).w1 (ix2 k (In.col (11 + t.val) (by have := pt_lt t; omega) q)) := by
  have := pt_lt t
  have e : (win0_2.blk t).view.emb (ix2 k q) = ix2 k (In.col t.val (by omega) q) := by blk_ext [idx t, In.col]
  have e' : (win0_3.blk t).view.emb (ix2 k q) = ix2 k (In.col (11 + t.val) (by omega) q) := by blk_ext [idx t, In.col]
  exact ⟨(congrArg (V m c main_v0) e).trans (w1V m c k _), (congrArg (V m c main_v0) e').trans (w1V m c k _)⟩

theorem cwB (c : Dev nD) (t : Fin cfg0.N) (k : Fin 3) (q : Fin 256) :
    iblk m c 4 t (ix2 k q) = (inOf m c).cw (ix2 k (In.col t.val (by have := pt_lt t; omega) q))
    ∧ iblk m c 5 t (ix2 k q) = (inOf m c).cw (ix2 k (In.col (11 + t.val) (by have := pt_lt t; omega) q)) := by
  have := pt_lt t
  have e : (win0_4.blk t).view.emb (ix2 k q) = ix2 k (In.col t.val (by omega) q) := by blk_ext [idx t, In.col]
  have e' : (win0_5.blk t).view.emb (ix2 k q) = ix2 k (In.col (11 + t.val) (by omega) q) := by blk_ext [idx t, In.col]
  have h := V_main_arg3 m c
  exact ⟨(congrArg (V m c main_arg3) e).trans (congrFun h _), (congrArg (V m c main_arg3) e').trans (congrFun h _)⟩

theorem cbB (c : Dev nD) (t : Fin cfg0.N) (q : Fin 256) :
    iblk m c 6 t (ix2 0 q) = (inOf m c).cb (ix1 (In.col t.val (by have := pt_lt t; omega) q))
    ∧ iblk m c 7 t (ix2 0 q) = (inOf m c).cb (ix1 (In.col (11 + t.val) (by have := pt_lt t; omega) q)) := by
  have := pt_lt t
  have e : (win0_6.blk t).view.emb (ix2 0 q) = ix2 0 (In.col t.val (by omega) q) := by blk_ext [idx t, In.col]
  have e' : (win0_7.blk t).view.emb (ix2 0 q) = ix2 0 (In.col (11 + t.val) (by omega) q) := by blk_ext [idx t, In.col]
  exact ⟨(congrArg (V m c main_v2) e).trans (cbV m c _), (congrArg (V m c main_v2) e').trans (cbV m c _)⟩

theorem s0B (c : Dev nD) (t : Fin cfg0.N) (r : Fin 32) (q : Fin 256) :
    iblk m c 10 t (ix2 r q) = (inOf m c).st (ix3 r 0 (In.col t.val (by have := pt_lt t; omega) q))
    ∧ iblk m c 11 t (ix2 r q) = (inOf m c).st (ix3 r 0 (In.col (11 + t.val) (by have := pt_lt t; omega) q)) := by
  have := pt_lt t
  have e : (win0_10.blk t).view.emb (ix2 r q) = ix2 r (In.col t.val (by omega) q) := by blk_ext [idx t, In.col]
  have e' : (win0_11.blk t).view.emb (ix2 r q) = ix2 r (In.col (11 + t.val) (by omega) q) := by blk_ext [idx t, In.col]
  exact ⟨(congrArg (V m c main_v6) e).trans (s0V m c r _), (congrArg (V m c main_v6) e').trans (s0V m c r _)⟩

theorem s1B (c : Dev nD) (t : Fin cfg0.N) (r : Fin 32) (q : Fin 256) :
    iblk m c 12 t (ix2 r q) = (inOf m c).st (ix3 r 1 (In.col t.val (by have := pt_lt t; omega) q))
    ∧ iblk m c 13 t (ix2 r q) = (inOf m c).st (ix3 r 1 (In.col (11 + t.val) (by have := pt_lt t; omega) q)) := by
  have := pt_lt t
  have e : (win0_12.blk t).view.emb (ix2 r q) = ix2 r (In.col t.val (by omega) q) := by blk_ext [idx t, In.col]
  have e' : (win0_13.blk t).view.emb (ix2 r q) = ix2 r (In.col (11 + t.val) (by omega) q) := by blk_ext [idx t, In.col]
  exact ⟨(congrArg (V m c main_v8) e).trans (s1V m c r _), (congrArg (V m c main_v8) e').trans (s1V m c r _)⟩

/-! ## What a point computes from the rows' norms and the sum so far -/

theorem uA_at (c : Dev nD) (t : Fin cfg0.N) (h : FVec Ideal S32x1024 .bf16) (hh : ∀ r k, h (ix2 r k) = (inOf m c).hid r k)
    (r : Fin 32) (q : Fin 256) : k0_pay5 h (iblk m c 2 t) (ix2 r q)
      = (inOf m c).lin r (In.col t.val (by have := pt_lt t; omega) q) := by
  pointwise [k0_pay5, In.lin]
  simp only [hh, w1B]

theorem uB_at (c : Dev nD) (t : Fin cfg0.N) (h : FVec Ideal S32x1024 .bf16) (hh : ∀ r k, h (ix2 r k) = (inOf m c).hid r k)
    (r : Fin 32) (q : Fin 256) : k0_pay7 h (iblk m c 3 t) (ix2 r q)
      = (inOf m c).lin r (In.col (11 + t.val) (by have := pt_lt t; omega) q) := by
  pointwise [k0_pay7, In.lin]
  simp only [hh, w1B]

theorem cA_at (c : Dev nD) (t : Fin cfg0.N) (h : FVec Ideal S32x1024 .bf16) (hh : ∀ r k, h (ix2 r k) = (inOf m c).hid r k)
    (r : Fin 32) (q : Fin 256) :
    k0_pay6 h (iblk m c 2 t) (iblk m c 4 t) (iblk m c 10 t) (iblk m c 12 t) (iblk m c 6 t) (ix2 r q)
      = (inOf m c).conv r (In.col t.val (by have := pt_lt t; omega) q) := by
  pointwise [k0_pay6]
  rw [uA_at m c t h hh, (cwB m c t 0 q).1, (cwB m c t 1 q).1, (cwB m c t 2 q).1, (cbB m c t q).1, (s0B m c t r q).1,
    (s1B m c t r q).1, mul_comm ((inOf m c).cw _), mul_comm ((inOf m c).cw _), mul_comm ((inOf m c).cw _)]
  rfl

set_option maxHeartbeats 1000000 in
theorem acc_at (c : Dev nD) (t : Fin cfg0.N) (h : FVec Ideal S32x1024 .bf16) (hh : ∀ r k, h (ix2 r k) = (inOf m c).hid r k)
    (s : FVec Ideal S32x1024 .f32) (r : Fin 32) (j : Fin 1024)
    (hs : s (ix2 r j) = ∑ q ∈ Finset.range (t.val * 256), (inOf m c).term r j q) :
    k0_pay1 (k0_pay8 (k0_pay6 h (iblk m c 2 t) (iblk m c 4 t) (iblk m c 10 t) (iblk m c 12 t) (iblk m c 6 t))
        (k0_pay7 h (iblk m c 3 t)) (iblk m c 5 t) (iblk m c 11 t) (iblk m c 13 t) (iblk m c 7 t) s (iblk m c 8 t)) (ix2 r j)
      = ∑ q ∈ Finset.range ((t.val + 1) * 256), (inOf m c).term r j q := by
  have ht := pt_lt t
  rw [Nat.succ_mul, Finset.sum_range_add, ← hs, Finset.sum_range]
  pointwise [k0_pay1, k0_pay8]
  refine congrArg (s (ix2 r j) + ·) (Finset.sum_congr rfl fun q _ => ?_)
  have hq : t.val * 256 + q.val < 2816 := by have := q.isLt; omega
  rw [cA_at m c t h hh, uB_at m c t h hh, (cwB m c t 0 q).2, (cwB m c t 1 q).2, (cwB m c t 2 q).2, (cbB m c t q).2,
    (s0B m c t r q).2, (s1B m c t r q).2, w2B, act_eq, In.term, dif_pos hq, ← In.gate_at _ r t.val ht q]
  rw [mul_comm ((inOf m c).cw _), mul_comm ((inOf m c).cw _), mul_comm ((inOf m c).cw _)]
  rfl

theorem hid_at (c : Dev nD) (t : Fin cfg0.N) (r : Fin 32) (k : Fin 1024) :
    k0_pay3 (iblk m c 0 t) (iblk m c 1 t) (ix2 r k) = (inOf m c).hid r k := by
  pointwise [k0_pay3, In.hid]
  simp only [xB, nwiB]

/-- What a point leaves in the two scratch arrays. -/
theorem scr_at (c : Dev nD) (n : ℕ) (hn : n < cfg0.N) :
    (∀ r k, (outsAt0 m c n hn).2.2.2.1 (ix2 r k) = (inOf m c).hid r k)
    ∧ ∀ r j, (outsAt0 m c n hn).2.2.2.2 (ix2 r j) = ∑ q ∈ Finset.range ((n + 1) * 256), (inOf m c).term r j q := by
  induction n with
  | zero =>
    rw [outsAt0_A m c ⟨0, hn⟩ (by show 0 % 11 = 0; rfl) (by show ¬ 0 % 11 = 10; omega)]
    dsimp only
    constructor
    · intro r k
      frame_out
      exact hid_at m c _ r k
    · intro r j
      frame_out
      refine acc_at m c ⟨0, hn⟩ _ (hid_at m c _) _ r j ?_
      rw [show (⟨0, hn⟩ : Fin cfg0.N).val * 256 = 0 from rfl, Finset.range_zero, Finset.sum_empty]
      pointwise [k0_pay4]
  | succ n ih =>
    have hN : n + 1 < 11 := hn
    obtain ⟨ih0, ih1⟩ := ih (by omega)
    by_cases h : n + 1 = 10
    · rw [outsAt0_C m c ⟨n + 1, hn⟩ (by show ¬ (n + 1) % 11 = 0; omega) (by show (n + 1) % 11 = 10; omega)]
      dsimp only
      refine ⟨ih0, fun r j => ?_⟩
      frame_out
      simp only [read_unread_whole]
      exact acc_at m c ⟨n + 1, hn⟩ _ ih0 _ r j (ih1 r j)
    · rw [outsAt0_B m c ⟨n + 1, hn⟩ (by show ¬ (n + 1) % 11 = 0; omega) (by show ¬ (n + 1) % 11 = 10; omega)]
      dsimp only
      refine ⟨ih0, fun r j => ?_⟩
      frame_out
      simp only [read_unread_whole]
      exact acc_at m c ⟨n + 1, hn⟩ _ ih0 _ r j (ih1 r j)

/-- What a point leaves in its blocks of the rows before the convolution. -/
theorem u_at (c : Dev nD) (t : Fin cfg0.N) (r : Fin 32) (q : Fin 256) :
    (outsAt0 m c t.val t.isLt).2.1 (ix2 r q) = (inOf m c).lin r (In.col t.val (by have := pt_lt t; omega) q)
    ∧ (outsAt0 m c t.val t.isLt).2.2.1 (ix2 r q) = (inOf m c).lin r (In.col (11 + t.val) (by have := pt_lt t; omega) q) := by
  have ht := pt_lt t
  by_cases h0 : t.val = 0
  · rw [outsAt0_A m c t (by omega) (by omega)]
    dsimp only
    constructor
    · frame_out
      exact uA_at m c t _ (hid_at m c t) r q
    · frame_out
      exact uB_at m c t _ (hid_at m c t) r q
  · have hp := (scr_at m c (t.val - 1) (Nat.lt_of_le_of_lt (Nat.sub_le _ _) t.isLt)).1
    by_cases h : t.val = 10
    · rw [outsAt0_C m c t (by omega) (by omega)]
      dsimp only
      constructor
      · frame_out
        simp only [read_unread_whole]
        exact uA_at m c t _ hp r q
      · frame_out
        simp only [read_unread_whole]
        exact uB_at m c t _ hp r q
    · rw [outsAt0_B m c t (by omega) (by omega)]
      dsimp only
      constructor
      · frame_out
        simp only [read_unread_whole]
        exact uA_at m c t _ hp r q
      · frame_out
        simp only [read_unread_whole]
        exact uB_at m c t _ hp r q

theorem sum_term (a : In) (r : Fin 32) (j : Fin 1024) : ∑ q ∈ Finset.range 2816, a.term r j q = a.prod r j := by
  rw [Finset.sum_range]
  exact Finset.sum_congr rfl fun q _ => dif_pos q.isLt

/-- What the last point leaves in the result's block. -/
theorem y_at (c : Dev nD) (t : Fin cfg0.N) (h : t.val = 10) (r : Fin 32) (j : Fin 1024) :
    (outsAt0 m c t.val t.isLt).1 (ix2 r j) = (inOf m c).spec (ix2 r j) := by
  obtain ⟨hp, hs⟩ := scr_at m c (t.val - 1) (Nat.lt_of_le_of_lt (Nat.sub_le _ _) t.isLt)
  have hs' := fun j => (acc_at m c t _ hp _ r j ((hs r j).trans (by rw [show (t.val - 1 + 1) * 256 = t.val * 256 by omega]))).trans
    ((congrArg (fun n => ∑ q ∈ Finset.range n, (inOf m c).term r j q) (show (t.val + 1) * 256 = 2816 by omega)).trans
      (sum_term (inOf m c) r j))
  rw [outsAt0_C m c t (by omega) (by omega)]
  dsimp only
  frame_out
  simp only [read_unread_whole]
  pointwise [k0_pay2, In.spec]
  simp only [hs', xB, nwoB]

theorem final14 (c : Dev nD) : (dats m 0 c).arrAt 14 (cfgs 0).N = (inOf m c).spec := by
  refine (dats m 0 c).arrAt_eq_of_covers 14 _ (by decide +kernel) fun t hf y => ?_
  have ht : t.val = 10 := (by decide +kernel : ∀ t : Fin grid0.N, (win0 14).flush t = true → t.val = 10) t hf
  blk_simp
  rw [after0_14]
  idx_vars y
  have e : (win0_14.blk t).view.emb (ix2 y0 y1) = ix2 y0 y1 := by blk_ext [idx t]
  exact (y_at m c t ht y0 y1).trans (congrArg (inOf m c).spec e.symm)

theorem final15 (c : Dev nD) : (dats m 0 c).arrAt 15 (cfgs 0).N = (inOf m c).part 0 (by omega) := by
  refine (dats m 0 c).arrAt_eq_of_covers 15 _ (by decide +kernel) fun t _ y => ?_
  blk_simp
  rw [after0_15]
  idx_vars y
  have ht := pt_lt t
  have e : (win0_15.blk t).view.emb (ix2 y0 y1) = ix2 y0 ⟨t.val * 256 + y1.val, by omega⟩ := by blk_ext [idx t]
  refine ((u_at m c t y0 y1).1.trans ?_).trans (congrArg ((inOf m c).part 0 (by omega)) e.symm)
  exact congrArg ((inOf m c).lin y0) (Fin.ext (show t.val * 256 + y1.val = 0 + (t.val * 256 + y1.val) by omega))

theorem final16 (c : Dev nD) : (dats m 0 c).arrAt 16 (cfgs 0).N = (inOf m c).part 2816 (by omega) := by
  refine (dats m 0 c).arrAt_eq_of_covers 16 _ (by decide +kernel) fun t _ y => ?_
  blk_simp
  rw [after0_16]
  idx_vars y
  have ht := pt_lt t
  have e : (win0_16.blk t).view.emb (ix2 y0 y1) = ix2 y0 ⟨t.val * 256 + y1.val, by omega⟩ := by blk_ext [idx t]
  refine ((u_at m c t y0 y1).2.trans ?_).trans (congrArg ((inOf m c).part 2816 (by omega)) e.symm)
  exact congrArg ((inOf m c).lin y0) (Fin.ext (show (11 + t.val) * 256 + y1.val = 2816 + (t.val * 256 + y1.val) by omega))

/-! ## The reference -/

set_option maxHeartbeats 1000000 in
theorem tie : Cert.algebraic_FfnSIdeal_FfnSRefIdeal := by
  intro m g m' g' _ hag
  refine ⟨fun c => (dats m 0 c).arrAt 14 cfg0.N, fun c => (dats m 0 c).arrAt 15 cfg0.N, fun c => (dats m 0 c).arrAt 16 cfg0.N,
    Value.run_blocks m g,
    (θ_run _ _ _).mono (fun r h c => ⟨(h c).1.trans ?_, (h c).2.1.trans ?_, (h c).2.2.1.trans ?_,
      (h c).2.2.2⟩) (Cert.FfnSRefIdeal.Value.run m' g')⟩
  · unfold Cert.FfnSRefIdeal.Value.res_main_v68
    rw [(hag c).1, (hag c).2.1, (hag c).2.2.1, (hag c).2.2.2.1, (hag c).2.2.2.2.1, (hag c).2.2.2.2.2.1, (hag c).2.2.2.2.2.2.1,
      (hag c).2.2.2.2.2.2.2]
    refine Eq.trans ?_ (final14 m c).symm
    funext i
    idx_vars i
    pointwise [inOf, In.spec, In.prod, In.gate, act, In.conv, In.lin, In.hid]
  · rw [(hag c).1, (hag c).2.1, (hag c).2.2.1]
    refine Eq.trans ?_ (final15 m c).symm
    funext i
    idx_vars i
    pointwise [inOf, In.part, In.lin, In.hid]
  · rw [(hag c).1, (hag c).2.1, (hag c).2.2.1]
    refine Eq.trans ?_ (final16 m c).symm
    funext i
    idx_vars i
    pointwise [inOf, In.part, In.lin, In.hid]

end Cert.FfnSIdeal.Hand

end
-- ==== Proof.lean ====
module

public import proofs.«01_k».proof.Defs
public import proofs.«01_k».proof.Proof.Gen.FoxRefIdeal.Run
public import proofs.«01_k».proof.Proof.Gen.CumsRefIdeal.Run
public import proofs.«01_k».proof.Proof.Gen.ProjERefIdeal.Run
public import proofs.«01_k».proof.Proof.Gen.ProjESRefIdeal.Run
public import proofs.«01_k».proof.Proof.Gen.ProjORefIdeal.Run
public import proofs.«01_k».proof.Proof.Gen.OutERefIdeal.Run
public import proofs.«01_k».proof.Proof.Gen.OutORefIdeal.Run
public import proofs.«01_k».proof.Proof.Gen.FfnRefIdeal.Run
public import proofs.«01_k».proof.Proof.Gen.ProjOSRefIdeal.Run
public import proofs.«01_k».proof.Proof.Gen.FfnSRefIdeal.Run
public import proofs.«01_k».proof.Proof.Gen.FoxIdeal.Value
public import proofs.«01_k».proof.Proof.Gen.CumsIdeal.Value
public import proofs.«01_k».proof.Proof.Gen.ProjEIdeal.Value
public import proofs.«01_k».proof.Proof.Gen.ProjESIdeal.Value
public import proofs.«01_k».proof.Proof.Gen.ProjOIdeal.Value
public import proofs.«01_k».proof.Proof.Gen.OutEIdeal.Value
public import proofs.«01_k».proof.Proof.Gen.OutOIdeal.Value
public import proofs.«01_k».proof.Proof.Gen.ProjOSIdeal.Value
public import proofs.«01_k».proof.Proof.Gen.FfnSIdeal.Value
public import proofs.«01_k».proof.Proof.Fox
public import proofs.«01_k».proof.Proof.Cums
public import proofs.«01_k».proof.Proof.ProjE
public import proofs.«01_k».proof.Proof.ProjES
public import proofs.«01_k».proof.Proof.ProjO
public import proofs.«01_k».proof.Proof.OutE
public import proofs.«01_k».proof.Proof.OutO
public import proofs.«01_k».proof.Proof.Ffn
public import proofs.«01_k».proof.Proof.ProjOS
public import proofs.«01_k».proof.Proof.FfnS
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Cums
public import proofs.«01_k».proof.Proof.Gen.Cums.Skeleton
public import proofs.«01_k».proof.Proof.Gen.Cums.Launch
public import proofs.«01_k».proof.Proof.Gen.Cums.Points
public import proofs.«01_k».proof.Proof.Gen.Cums.Frame
public import proofs.«01_k».proof.Proof.Gen.CumsIdeal
public import proofs.«01_k».proof.Proof.Gen.CumsIdeal.Skeleton
public import proofs.«01_k».proof.Proof.Gen.CumsIdeal.Launch
public import proofs.«01_k».proof.Proof.Gen.CumsIdeal.Points
public import proofs.«01_k».proof.Proof.Gen.CumsIdeal.Frame
public import proofs.«01_k».proof.Proof.Gen.CumsRefIdeal
public import proofs.«01_k».proof.Proof.Gen.ProjE
public import proofs.«01_k».proof.Proof.Gen.ProjE.Skeleton
public import proofs.«01_k».proof.Proof.Gen.ProjE.Launch
public import proofs.«01_k».proof.Proof.Gen.ProjE.Points
public import proofs.«01_k».proof.Proof.Gen.ProjE.Frame
public import proofs.«01_k».proof.Proof.Gen.ProjEIdeal
public import proofs.«01_k».proof.Proof.Gen.ProjEIdeal.Skeleton
public import proofs.«01_k».proof.Proof.Gen.ProjEIdeal.Launch
public import proofs.«01_k».proof.Proof.Gen.ProjEIdeal.Points
public import proofs.«01_k».proof.Proof.Gen.ProjEIdeal.Frame
public import proofs.«01_k».proof.Proof.Gen.ProjERefIdeal
public import proofs.«01_k».proof.Proof.Gen.ProjES
public import proofs.«01_k».proof.Proof.Gen.ProjES.Skeleton
public import proofs.«01_k».proof.Proof.Gen.ProjES.Launch
public import proofs.«01_k».proof.Proof.Gen.ProjES.Points
public import proofs.«01_k».proof.Proof.Gen.ProjES.Frame
public import proofs.«01_k».proof.Proof.Gen.ProjESIdeal
public import proofs.«01_k».proof.Proof.Gen.ProjESIdeal.Skeleton
public import proofs.«01_k».proof.Proof.Gen.ProjESIdeal.Launch
public import proofs.«01_k».proof.Proof.Gen.ProjESIdeal.Points
public import proofs.«01_k».proof.Proof.Gen.ProjESIdeal.Frame
public import proofs.«01_k».proof.Proof.Gen.ProjESRefIdeal
public import proofs.«01_k».proof.Proof.Gen.ProjO
public import proofs.«01_k».proof.Proof.Gen.ProjO.Skeleton
public import proofs.«01_k».proof.Proof.Gen.ProjO.Launch
public import proofs.«01_k».proof.Proof.Gen.ProjO.Points
public import proofs.«01_k».proof.Proof.Gen.ProjO.Frame
public import proofs.«01_k».proof.Proof.Gen.ProjOIdeal
public import proofs.«01_k».proof.Proof.Gen.ProjOIdeal.Skeleton
public import proofs.«01_k».proof.Proof.Gen.ProjOIdeal.Launch
public import proofs.«01_k».proof.Proof.Gen.ProjOIdeal.Points
public import proofs.«01_k».proof.Proof.Gen.ProjOIdeal.Frame
public import proofs.«01_k».proof.Proof.Gen.ProjORefIdeal
public import proofs.«01_k».proof.Proof.Gen.OutE
public import proofs.«01_k».proof.Proof.Gen.OutE.Skeleton
public import proofs.«01_k».proof.Proof.Gen.OutE.Launch
public import proofs.«01_k».proof.Proof.Gen.OutE.Points
public import proofs.«01_k».proof.Proof.Gen.OutE.Frame
public import proofs.«01_k».proof.Proof.Gen.OutEIdeal
public import proofs.«01_k».proof.Proof.Gen.OutEIdeal.Skeleton
public import proofs.«01_k».proof.Proof.Gen.OutEIdeal.Launch
public import proofs.«01_k».proof.Proof.Gen.OutEIdeal.Points
public import proofs.«01_k».proof.Proof.Gen.OutEIdeal.Frame
public import proofs.«01_k».proof.Proof.Gen.OutERefIdeal
public import proofs.«01_k».proof.Proof.Gen.OutO
public import proofs.«01_k».proof.Proof.Gen.OutO.Skeleton
public import proofs.«01_k».proof.Proof.Gen.OutO.Launch
public import proofs.«01_k».proof.Proof.Gen.OutO.Points
public import proofs.«01_k».proof.Proof.Gen.OutO.Frame
public import proofs.«01_k».proof.Proof.Gen.OutOIdeal
public import proofs.«01_k».proof.Proof.Gen.OutOIdeal.Skeleton
public import proofs.«01_k».proof.Proof.Gen.OutOIdeal.Launch
public import proofs.«01_k».proof.Proof.Gen.OutOIdeal.Points
public import proofs.«01_k».proof.Proof.Gen.OutOIdeal.Frame
public import proofs.«01_k».proof.Proof.Gen.OutORefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.ProjOS
public import proofs.«01_k».proof.Proof.Gen.ProjOS.Skeleton
public import proofs.«01_k».proof.Proof.Gen.ProjOS.Launch
public import proofs.«01_k».proof.Proof.Gen.ProjOS.Points
public import proofs.«01_k».proof.Proof.Gen.ProjOS.Frame
public import proofs.«01_k».proof.Proof.Gen.ProjOSIdeal
public import proofs.«01_k».proof.Proof.Gen.ProjOSIdeal.Skeleton
public import proofs.«01_k».proof.Proof.Gen.ProjOSIdeal.Launch
public import proofs.«01_k».proof.Proof.Gen.ProjOSIdeal.Points
public import proofs.«01_k».proof.Proof.Gen.ProjOSIdeal.Frame
public import proofs.«01_k».proof.Proof.Gen.ProjOSRefIdeal
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSRefIdeal
public import proofs.«01_k».proof.Proof.Gen.Pre_scores_finite
public import proofs.«01_k».proof.Proof.Gen.Pre_split_finite
public import proofs.«01_k».proof.Proof.Gen.Pre_sample_split_finite
public import Idealize.ShloMosaic.Adequacy
public import Idealize.ShloMosaic.Init

@[expose] public section

noncomputable section

namespace Cert.Proof

open Idealize.ShloMosaic Idealize.SL.Sem Cert.Fox

theorem claim : Cert.Claim := ⟨Cert.Fox.Gen.facts, Cert.FoxIdeal.Gen.facts, Cert.FoxRefIdeal.Gen.facts, Cert.Cums.Gen.facts, Cert.CumsIdeal.Gen.facts, Cert.CumsRefIdeal.Gen.facts, Cert.ProjE.Gen.facts, Cert.ProjEIdeal.Gen.facts, Cert.ProjERefIdeal.Gen.facts, Cert.ProjES.Gen.facts, Cert.ProjESIdeal.Gen.facts, Cert.ProjESRefIdeal.Gen.facts, Cert.ProjO.Gen.facts, Cert.ProjOIdeal.Gen.facts, Cert.ProjORefIdeal.Gen.facts, Cert.OutE.Gen.facts, Cert.OutEIdeal.Gen.facts, Cert.OutERefIdeal.Gen.facts, Cert.OutO.Gen.facts, Cert.OutOIdeal.Gen.facts, Cert.OutORefIdeal.Gen.facts, Cert.Ffn.Gen.facts, Cert.FfnIdeal.Gen.facts, Cert.FfnRefIdeal.Gen.facts, Cert.ProjOS.Gen.facts, Cert.ProjOSIdeal.Gen.facts, Cert.ProjOSRefIdeal.Gen.facts, Cert.FfnS.Gen.facts, Cert.FfnSIdeal.Gen.facts, Cert.FfnSRefIdeal.Gen.facts, Cert.Pre_scores_finite.Gen.facts, Cert.Pre_split_finite.Gen.facts, Cert.Pre_sample_split_finite.Gen.facts,
  (fun m ρ _ => Cert.Fox.Gen.frame m ρ),
  (fun m ρ _ => Cert.FoxIdeal.Gen.frame m ρ),
  (fun m ρ _ => Cert.FoxIdeal.Gen.frame m ρ),
  (fun m ρ _ => (θ_run Cert.FoxRefIdeal.defs _ _).mono (fun r h => ⟨fun c => (h c).2,
    sem_eq_zero_of_no_sems (by decide) r.2⟩) (Cert.FoxRefIdeal.Value.run m ρ)),
  (fun m ρ _ => (θ_run Cert.FoxRefIdeal.defs _ _).mono (fun r h => ⟨fun c => (h c).2,
    sem_eq_zero_of_no_sems (by decide) r.2⟩) (Cert.FoxRefIdeal.Value.run m ρ)),
  (fun m ρ _ => Cert.Cums.Gen.frame m ρ),
  (fun m ρ _ => Cert.CumsIdeal.Gen.frame m ρ),
  (fun m ρ _ => (θ_run Cert.CumsRefIdeal.defs _ _).mono (fun r h => ⟨fun c => (h c).2,
    sem_eq_zero_of_no_sems (by decide) r.2⟩) (Cert.CumsRefIdeal.Value.run m ρ)),
  (fun m ρ _ => Cert.ProjE.Gen.frame m ρ),
  (fun m ρ _ => Cert.ProjEIdeal.Gen.frame m ρ),
  (fun m ρ _ => Cert.ProjEIdeal.Gen.frame m ρ),
  (fun m ρ _ => (θ_run Cert.ProjERefIdeal.defs _ _).mono (fun r h => ⟨fun c => (h c).2.2.2.2.2.2.2,
    sem_eq_zero_of_no_sems (by decide) r.2⟩) (Cert.ProjERefIdeal.Value.run m ρ)),
  (fun m ρ _ => (θ_run Cert.ProjERefIdeal.defs _ _).mono (fun r h => ⟨fun c => (h c).2.2.2.2.2.2.2,
    sem_eq_zero_of_no_sems (by decide) r.2⟩) (Cert.ProjERefIdeal.Value.run m ρ)),
  (fun m ρ _ => Cert.ProjES.Gen.frame m ρ),
  (fun m ρ _ => Cert.ProjESIdeal.Gen.frame m ρ),
  (fun m ρ _ => Cert.ProjESIdeal.Gen.frame m ρ),
  (fun m ρ _ => (θ_run Cert.ProjESRefIdeal.defs _ _).mono (fun r h => ⟨fun c => (h c).2.2.2.2.2.2.2,
    sem_eq_zero_of_no_sems (by decide) r.2⟩) (Cert.ProjESRefIdeal.Value.run m ρ)),
  (fun m ρ _ => (θ_run Cert.ProjESRefIdeal.defs _ _).mono (fun r h => ⟨fun c => (h c).2.2.2.2.2.2.2,
    sem_eq_zero_of_no_sems (by decide) r.2⟩) (Cert.ProjESRefIdeal.Value.run m ρ)),
  (fun m ρ _ => Cert.ProjO.Gen.frame m ρ),
  (fun m ρ _ => Cert.ProjOIdeal.Gen.frame m ρ),
  (fun m ρ _ => (θ_run Cert.ProjORefIdeal.defs _ _).mono (fun r h => ⟨fun c => (h c).2.2.2.2,
    sem_eq_zero_of_no_sems (by decide) r.2⟩) (Cert.ProjORefIdeal.Value.run m ρ)),
  (fun m ρ _ => Cert.OutE.Gen.frame m ρ),
  (fun m ρ _ => Cert.OutEIdeal.Gen.frame m ρ),
  (fun m ρ _ => (θ_run Cert.OutERefIdeal.defs _ _).mono (fun r h => ⟨fun c => (h c).2,
    sem_eq_zero_of_no_sems (by decide) r.2⟩) (Cert.OutERefIdeal.Value.run m ρ)),
  (fun m ρ _ => Cert.OutO.Gen.frame m ρ),
  (fun m ρ _ => Cert.OutOIdeal.Gen.frame m ρ),
  (fun m ρ _ => (θ_run Cert.OutORefIdeal.defs _ _).mono (fun r h => ⟨fun c => (h c).2,
    sem_eq_zero_of_no_sems (by decide) r.2⟩) (Cert.OutORefIdeal.Value.run m ρ)),
  (fun m ρ _ => Cert.Ffn.Hand.frame m ρ),
  (fun m ρ _ => Cert.FfnIdeal.Hand.frame m ρ),
  (fun m ρ _ => (θ_run Cert.FfnRefIdeal.defs _ _).mono (fun r h => ⟨fun c => (h c).2.2.2,
    sem_eq_zero_of_no_sems (by decide) r.2⟩) (Cert.FfnRefIdeal.Value.run m ρ)),
  (fun m ρ _ => Cert.ProjOS.Gen.frame m ρ),
  (fun m ρ _ => Cert.ProjOSIdeal.Gen.frame m ρ),
  (fun m ρ _ => (θ_run Cert.ProjOSRefIdeal.defs _ _).mono (fun r h => ⟨fun c => (h c).2.2.2.2,
    sem_eq_zero_of_no_sems (by decide) r.2⟩) (Cert.ProjOSRefIdeal.Value.run m ρ)),
  (fun m ρ _ => Cert.FfnS.Gen.frame m ρ),
  (fun m ρ _ => Cert.FfnSIdeal.Gen.frame m ρ),
  (fun m ρ _ => (θ_run Cert.FfnSRefIdeal.defs _ _).mono (fun r h => ⟨fun c => (h c).2.2.2,
    sem_eq_zero_of_no_sems (by decide) r.2⟩) (Cert.FfnSRefIdeal.Value.run m ρ)),
  trivial,
  Cert.FoxIdeal.Hand.tie,
  trivial,
  Cert.CumsIdeal.Hand.tie,
  trivial,
  Cert.ProjEIdeal.Hand.tie,
  trivial,
  Cert.ProjESIdeal.Hand.tie,
  trivial,
  Cert.ProjOIdeal.Hand.tie,
  trivial,
  Cert.OutEIdeal.Hand.tie,
  trivial,
  Cert.OutOIdeal.Hand.tie,
  trivial,
  Cert.FfnIdeal.Hand.tie,
  trivial,
  Cert.ProjOSIdeal.Hand.tie,
  trivial,
  Cert.FfnSIdeal.Hand.tie⟩

end Cert.Proof

end
